-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_connected_and_finite [hPre_connected_and_finite : Cert.Pre_connected_and_finite.Facts] (m : (ℓ : Loc Cert.LastIdeal.nD Cert.LastIdeal.τ Cert.LastIdeal.sig) → Buf (Elt Ideal) ℓ) : Prop :=
  ∀ c : Dev Cert.LastIdeal.nD,
    (Cert.Pre_connected_and_finite.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6))) = (fun _ => 1#1)

def Pre_LastReferenceIdeal (m : (ℓ : Loc Cert.LastReferenceIdeal.nD Cert.LastReferenceIdeal.τ Cert.LastReferenceIdeal.sig) → Buf (Elt Ideal) ℓ) : Prop :=
  True

def Pre_LastReferenceIdeal_connected_and_finite [hPre_connected_and_finite : Cert.Pre_connected_and_finite.Facts] (m : (ℓ : Loc Cert.LastReferenceIdeal.nD Cert.LastReferenceIdeal.τ Cert.LastReferenceIdeal.sig) → Buf (Elt Ideal) ℓ) : Prop :=
  ∀ c : Dev Cert.LastReferenceIdeal.nD,
    (Cert.Pre_connected_and_finite.fn (F := Ideal) (m ((c.tc : Thread Cert.LastReferenceIdeal.nD Cert.LastReferenceIdeal.τ).loc Cert.LastReferenceIdeal.main_arg0)) (m ((c.tc : Thread Cert.LastReferenceIdeal.nD Cert.LastReferenceIdeal.τ).loc Cert.LastReferenceIdeal.main_arg1)) (m ((c.tc : Thread Cert.LastReferenceIdeal.nD Cert.LastReferenceIdeal.τ).loc Cert.LastReferenceIdeal.main_arg2)) (m ((c.tc : Thread Cert.LastReferenceIdeal.nD Cert.LastReferenceIdeal.τ).loc Cert.LastReferenceIdeal.main_arg3)) (m ((c.tc : Thread Cert.LastReferenceIdeal.nD Cert.LastReferenceIdeal.τ).loc Cert.LastReferenceIdeal.main_arg4)) (m ((c.tc : Thread Cert.LastReferenceIdeal.nD Cert.LastReferenceIdeal.τ).loc Cert.LastReferenceIdeal.main_arg5)) (m ((c.tc : Thread Cert.LastReferenceIdeal.nD Cert.LastReferenceIdeal.τ).loc Cert.LastReferenceIdeal.main_arg6))) = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstIdeal_connected_and_finite_weights [hPre_connected_and_finite_weights : Cert.Pre_connected_and_finite_weights.Facts] (m : (ℓ : Loc Cert.FirstIdeal.nD Cert.FirstIdeal.τ Cert.FirstIdeal.sig) → Buf (Elt Ideal) ℓ) : Prop :=
  ∀ c : Dev Cert.FirstIdeal.nD,
    (Cert.Pre_connected_and_finite_weights.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6))) = (fun _ => 1#1)

def Pre_FirstReferenceIdeal (m : (ℓ : Loc Cert.FirstReferenceIdeal.nD Cert.FirstReferenceIdeal.τ Cert.FirstReferenceIdeal.sig) → Buf (Elt Ideal) ℓ) : Prop :=
  True

def Pre_FirstReferenceIdeal_connected_and_finite_weights [hPre_connected_and_finite_weights : Cert.Pre_connected_and_finite_weights.Facts] (m : (ℓ : Loc Cert.FirstReferenceIdeal.nD Cert.FirstReferenceIdeal.τ Cert.FirstReferenceIdeal.sig) → Buf (Elt Ideal) ℓ) : Prop :=
  ∀ c : Dev Cert.FirstReferenceIdeal.nD,
    (Cert.Pre_connected_and_finite_weights.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_LastIdeal_pre_connected_and_finite [hLastIdeal : Cert.LastIdeal.Facts] [hPre_connected_and_finite : Cert.Pre_connected_and_finite.Facts] : Prop :=
  ∀ (m : (ℓ : Loc Cert.LastIdeal.nD Cert.LastIdeal.τ Cert.LastIdeal.sig) → Buf (Elt Ideal) ℓ) (g : Dev Cert.LastIdeal.nD → PrngReg), Pre_LastIdeal_connected_and_finite m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6))
      ∧ r.2.sem = fun _ => 0)

def quiescent_LastReferenceIdeal_pre_connected_and_finite [hLastReferenceIdeal : Cert.LastReferenceIdeal.Facts] [hPre_connected_and_finite : Cert.Pre_connected_and_finite.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal_connected_and_finite m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ r.2.sem = fun _ => 0)

def quiescent_FirstIdeal_pre_connected_and_finite_weights [hFirstIdeal : Cert.FirstIdeal.Facts] [hPre_connected_and_finite_weights : Cert.Pre_connected_and_finite_weights.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal_connected_and_finite_weights m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6))
      ∧ r.2.sem = fun _ => 0)

def quiescent_FirstReferenceIdeal_pre_connected_and_finite_weights [hFirstReferenceIdeal : Cert.FirstReferenceIdeal.Facts] [hPre_connected_and_finite_weights : Cert.Pre_connected_and_finite_weights.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal_connected_and_finite_weights m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6))
      ∧ r.2.sem = fun _ => 0)

def preserves_Kernel_KernelIdeal : Prop :=
  True

def preserves_Last_LastIdeal : Prop :=
  True

def algebraic_LastIdeal_LastReferenceIdeal_pre_connected_and_finite [hLastIdeal : Cert.LastIdeal.Facts] [hLastReferenceIdeal : Cert.LastReferenceIdeal.Facts] [hPre_connected_and_finite : Cert.Pre_connected_and_finite.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal_connected_and_finite m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)
      ∧ m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5)
      ∧ m' ((c.tc : Thread Cert.LastReferenceIdeal.nD Cert.LastReferenceIdeal.τ).loc Cert.LastReferenceIdeal.main_arg6) = m ((c.tc : Thread Cert.LastIdeal.nD Cert.LastIdeal.τ).loc Cert.LastIdeal.main_arg6)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v81) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5)
          ∧ r.2.mem ((c.tc : Thread Cert.LastReferenceIdeal.nD Cert.LastReferenceIdeal.τ).loc Cert.LastReferenceIdeal.main_arg6) = m' ((c.tc : Thread Cert.LastReferenceIdeal.nD Cert.LastReferenceIdeal.τ).loc Cert.LastReferenceIdeal.main_arg6))

def preserves_First_FirstIdeal : Prop :=
  True

def algebraic_FirstIdeal_FirstReferenceIdeal_pre_connected_and_finite_weights [hFirstIdeal : Cert.FirstIdeal.Facts] [hFirstReferenceIdeal : Cert.FirstReferenceIdeal.Facts] [hPre_connected_and_finite_weights : Cert.Pre_connected_and_finite_weights.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal_connected_and_finite_weights m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)
      ∧ m' ((c.tc : Thread Cert.FirstReferenceIdeal.nD Cert.FirstReferenceIdeal.τ).loc Cert.FirstReferenceIdeal.main_arg6) = m ((c.tc : Thread Cert.FirstIdeal.nD Cert.FirstIdeal.τ).loc Cert.FirstIdeal.main_arg6)) →
    ∃ (v0 : (c : Dev Cert.FirstIdeal.nD) → Buf (Elt Ideal) ((c.tc : Thread Cert.FirstIdeal.nD Cert.FirstIdeal.τ).loc Cert.FirstIdeal.main_v1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v1) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v89) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6))

def Claim : Prop :=
  ∃ (hKernel : Cert.Kernel.Facts) (hKernelIdeal : Cert.KernelIdeal.Facts) (hReferenceIdeal : Cert.ReferenceIdeal.Facts) (hLast : Cert.Last.Facts) (hLastIdeal : Cert.LastIdeal.Facts) (hLastReferenceIdeal : Cert.LastReferenceIdeal.Facts) (hFirst : Cert.First.Facts) (hFirstIdeal : Cert.FirstIdeal.Facts) (hFirstReferenceIdeal : Cert.FirstReferenceIdeal.Facts) (hPre_connected_and_finite : Cert.Pre_connected_and_finite.Facts) (hPre_connected_and_finite_weights : Cert.Pre_connected_and_finite_weights.Facts),
    quiescent_Kernel (hKernel := hKernel)
    ∧ quiescent_KernelIdeal (hKernelIdeal := hKernelIdeal)
    ∧ quiescent_ReferenceIdeal (hReferenceIdeal := hReferenceIdeal)
    ∧ quiescent_Last (hLast := hLast)
    ∧ quiescent_LastIdeal (hLastIdeal := hLastIdeal)
    ∧ quiescent_LastIdeal_pre_connected_and_finite (hLastIdeal := hLastIdeal) (hPre_connected_and_finite := hPre_connected_and_finite)
    ∧ quiescent_LastReferenceIdeal (hLastReferenceIdeal := hLastReferenceIdeal)
    ∧ quiescent_LastReferenceIdeal_pre_connected_and_finite (hLastReferenceIdeal := hLastReferenceIdeal) (hPre_connected_and_finite := hPre_connected_and_finite)
    ∧ quiescent_First (hFirst := hFirst)
    ∧ quiescent_FirstIdeal (hFirstIdeal := hFirstIdeal)
    ∧ quiescent_FirstIdeal_pre_connected_and_finite_weights (hFirstIdeal := hFirstIdeal) (hPre_connected_and_finite_weights := hPre_connected_and_finite_weights)
    ∧ quiescent_FirstReferenceIdeal (hFirstReferenceIdeal := hFirstReferenceIdeal)
    ∧ quiescent_FirstReferenceIdeal_pre_connected_and_finite_weights (hFirstReferenceIdeal := hFirstReferenceIdeal) (hPre_connected_and_finite_weights := hPre_connected_and_finite_weights)
    ∧ preserves_Kernel_KernelIdeal
    ∧ preserves_Last_LastIdeal
    ∧ algebraic_LastIdeal_LastReferenceIdeal_pre_connected_and_finite (hLastIdeal := hLastIdeal) (hLastReferenceIdeal := hLastReferenceIdeal) (hPre_connected_and_finite := hPre_connected_and_finite)
    ∧ preserves_First_FirstIdeal
    ∧ algebraic_FirstIdeal_FirstReferenceIdeal_pre_connected_and_finite_weights (hFirstIdeal := hFirstIdeal) (hFirstReferenceIdeal := hFirstReferenceIdeal) (hPre_connected_and_finite_weights := hPre_connected_and_finite_weights)
-- ==== Pre_connected_and_finite.lean ====
abbrev S1024x256 : Shape := ⟨2, ![1024, 256]⟩
abbrev S2x31744 : Shape := ⟨2, ![2, 31744]⟩
abbrev S992x1 : Shape := ⟨2, ![992, 1]⟩
abbrev S992x248 : Shape := ⟨2, ![992, 248]⟩
abbrev S248x992 : Shape := ⟨2, ![248, 992]⟩
abbrev S5x256x2496 : Shape := ⟨3, ![5, 256, 2496]⟩
abbrev S2496 : Shape := ⟨1, ![2496]⟩
abbrev S1x31744 : Shape := ⟨2, ![1, 31744]⟩
abbrev S31744 : Shape := ⟨1, ![31744]⟩
abbrev S_ : Shape := ⟨0, ![]⟩

class Facts : Prop where
  slices_S2x31744_S1x31744_0_0 : S2x31744.Slices ![0, 0] S1x31744
  shapeCasts_S1x31744_S31744 : S1x31744.ShapeCasts S31744
  bcast_S_S31744 : S_.BroadcastsInDim S31744 (![] : Fin 0 → Fin S31744.rank)
  reducesTo_S31744_S_d0 : S31744.ReducesTo [0] S_
  h_S_ : 0 < S_.numel
  slices_S2x31744_S1x31744_1_0 : S2x31744.Slices ![1, 0] S1x31744
  bcast_S_S1024x256 : S_.BroadcastsInDim S1024x256 (![] : Fin 0 → Fin S1024x256.rank)
  reducesTo_S1024x256_S_d0_1 : S1024x256.ReducesTo [0, 1] S_

variable [Facts]

def fn_where {F : FTy → Type} [FloatOps F] (arg0 : IVec S31744 1) (arg1 : IVec S_ 32) (arg2 : IVec S_ 32) : IVec S31744 32 :=
  let v0 : IVec S31744 32 := broadcastInDim S31744 ![] bcast_S_S31744 arg1
  let v1 : IVec S31744 32 := broadcastInDim S31744 ![] bcast_S_S31744 arg2
  let v2 : IVec S31744 32 := select arg0 v0 v1
  v2

def fn_part2 {F : FTy → Type} [FloatOps F] (main_arg0 : FVec F S1024x256 .f32) (main_v34 : IVec S_ 1) : IVec S_ 1 :=
  let main_v35 : FVec F S1024x256 .f32 := Host.absf main_arg0
  let main_cst : FVec F S_ .f32 := constant S_ .f32 0x7F800000#32
  let main_v36 : FVec F S1024x256 .f32 := broadcastInDim S1024x256 ![] bcast_S_S1024x256 main_cst
  let main_v37 : IVec S1024x256 1 := cmpf .olt main_v35 main_v36
  let main_c_12 : IVec S_ 1 := constantI S_ 1 1#1
  let main_v38 : IVec S_ 1 := (fun x v => Host.reduce IntOp.andi x v reducesTo_S1024x256_S_d0_1 h_S_) main_v37 main_c_12
  let main_v39 : IVec S_ 1 := andi main_v34 main_v38
  main_v39

def fn_part1 {F : FTy → Type} [FloatOps F] (main_arg0 : FVec F S1024x256 .f32) (main_v13 : IVec S_ 1) (main_v15 : IVec S31744 32) (main_v16 : IVec S31744 32) (main_v17 : IVec S31744 32) : IVec S_ 1 :=
  let main_v18 : IVec S31744 32 := Host.remsi main_v16 main_v17
  let main_c_5 : IVec S_ 32 := constantI S_ 32 31#32
  let main_v19 : IVec S31744 32 := broadcastInDim S31744 ![] bcast_S_S31744 main_c_5
  let main_v20 : IVec S31744 32 := Host.divsi main_v18 main_v19
  let main_c_6 : IVec S_ 32 := constantI S_ 32 31#32
  let main_v21 : IVec S31744 32 := broadcastInDim S31744 ![] bcast_S_S31744 main_c_6
  let main_v22 : IVec S31744 32 := Host.remsi main_v16 main_v21
  let main_c_7 : IVec S_ 32 := constantI S_ 32 992#32
  let main_v23 : IVec S31744 32 := broadcastInDim S31744 ![] bcast_S_S31744 main_c_7
  let main_v24 : IVec S31744 32 := Host.divsi main_v16 main_v23
  let main_c_8 : IVec S_ 32 := constantI S_ 32 32#32
  let main_v25 : IVec S31744 32 := broadcastInDim S31744 ![] bcast_S_S31744 main_c_8
  let main_v26 : IVec S31744 32 := muli main_v25 main_v24
  let main_v27 : IVec S31744 32 := addi main_v26 main_v22
  let main_v28 : IVec S31744 1 := cmpi .sge main_v22 main_v20
  let main_c_9 : IVec S_ 32 := constantI S_ 32 1#32
  let main_c_10 : IVec S_ 32 := constantI S_ 32 0#32
  let main_v29 : IVec S31744 32 := fn_where (F := F) main_v28 main_c_9 main_c_10
  let main_v30 : IVec S31744 32 := id main_v29
  let main_v31 : IVec S31744 32 := addi main_v27 main_v30
  let main_v32 : IVec S31744 1 := cmpi .eq main_v15 main_v31
  let main_c_11 : IVec S_ 1 := constantI S_ 1 1#1
  let main_v33 : IVec S_ 1 := (fun x v => Host.reduce IntOp.andi x v reducesTo_S31744_S_d0 h_S_) main_v32 main_c_11
  let main_v34 : IVec S_ 1 := andi main_v13 main_v33
  fn_part2 (F := F) main_arg0 main_v34

def fn {F : FTy → Type} [FloatOps F] (main_arg0 : FVec F S1024x256 .f32) (main_arg1 : IVec S2x31744 32) (main_arg2 : FVec F S992x1 .f32) (main_arg3 : FVec F S992x248 .f32) (main_arg4 : FVec F S248x992 .f32) (main_arg5 : FVec F S5x256x2496 .f32) (main_arg6 : FVec F S2496 .f32) : IVec S_ 1 :=
  let main_v0 : IVec S1x31744 32 := (extractStridedSlice S1x31744 ![0, 0] · slices_S2x31744_S1x31744_0_0) main_arg1
  let main_v1 : IVec S31744 32 := shapeCast S31744 main_v0 shapeCasts_S1x31744_S31744
  let main_v2 : IVec S31744 32 := iotaInDim S31744 32 0
  let main_c : IVec S_ 32 := constantI S_ 32 992#32
  let main_v3 : IVec S31744 32 := broadcastInDim S31744 ![] bcast_S_S31744 main_c
  let main_v4 : IVec S31744 32 := Host.divsi main_v2 main_v3
  let main_c_0 : IVec S_ 32 := constantI S_ 32 32#32
  let main_v5 : IVec S31744 32 := broadcastInDim S31744 ![] bcast_S_S31744 main_c_0
  let main_v6 : IVec S31744 32 := muli main_v5 main_v4
  let main_c_1 : IVec S_ 32 := constantI S_ 32 992#32
  let main_v7 : IVec S31744 32 := broadcastInDim S31744 ![] bcast_S_S31744 main_c_1
  let main_v8 : IVec S31744 32 := Host.remsi main_v2 main_v7
  let main_c_2 : IVec S_ 32 := constantI S_ 32 31#32
  let main_v9 : IVec S31744 32 := broadcastInDim S31744 ![] bcast_S_S31744 main_c_2
  let main_v10 : IVec S31744 32 := Host.divsi main_v8 main_v9
  let main_v11 : IVec S31744 32 := addi main_v6 main_v10
  let main_v12 : IVec S31744 1 := cmpi .eq main_v1 main_v11
  let main_c_3 : IVec S_ 1 := constantI S_ 1 1#1
  let main_v13 : IVec S_ 1 := (fun x v => Host.reduce IntOp.andi x v reducesTo_S31744_S_d0 h_S_) main_v12 main_c_3
  let main_v14 : IVec S1x31744 32 := (extractStridedSlice S1x31744 ![1, 0] · slices_S2x31744_S1x31744_1_0) main_arg1
  let main_v15 : IVec S31744 32 := shapeCast S31744 main_v14 shapeCasts_S1x31744_S31744
  let main_v16 : IVec S31744 32 := iotaInDim S31744 32 0
  let main_c_4 : IVec S_ 32 := constantI S_ 32 992#32
  let main_v17 : IVec S31744 32 := broadcastInDim S31744 ![] bcast_S_S31744 main_c_4
  fn_part1 (F := F) main_arg0 main_v13 main_v15 main_v16 main_v17
-- ==== Pre_connected_and_finite_weights.lean ====
abbrev S776x2496 : Shape := ⟨2, ![776, 2496]⟩
abbrev S2x31744 : Shape := ⟨2, ![2, 31744]⟩
abbrev S992x1 : Shape := ⟨2, ![992, 1]⟩
abbrev S992x248 : Shape := ⟨2, ![992, 248]⟩
abbrev S248x992 : Shape := ⟨2, ![248, 992]⟩
abbrev S5x2496x256 : Shape := ⟨3, ![5, 2496, 256]⟩
abbrev S256 : Shape := ⟨1, ![256]⟩
abbrev S1x31744 : Shape := ⟨2, ![1, 31744]⟩
abbrev S31744 : Shape := ⟨1, ![31744]⟩
abbrev S_ : Shape := ⟨0, ![]⟩

class Facts : Prop where
  slices_S2x31744_S1x31744_0_0 : S2x31744.Slices ![0, 0] S1x31744
  shapeCasts_S1x31744_S31744 : S1x31744.ShapeCasts S31744
  bcast_S_S31744 : S_.BroadcastsInDim S31744 (![] : Fin 0 → Fin S31744.rank)
  reducesTo_S31744_S_d0 : S31744.ReducesTo [0] S_
  h_S_ : 0 < S_.numel
  slices_S2x31744_S1x31744_1_0 : S2x31744.Slices ![1, 0] S1x31744
  bcast_S_S776x2496 : S_.BroadcastsInDim S776x2496 (![] : Fin 0 → Fin S776x2496.rank)
  reducesTo_S776x2496_S_d0_1 : S776x2496.ReducesTo [0, 1] S_
  bcast_S_S5x2496x256 : S_.BroadcastsInDim S5x2496x256 (![] : Fin 0 → Fin S5x2496x256.rank)
  reducesTo_S5x2496x256_S_d0_1_2 : S5x2496x256.ReducesTo [0, 1, 2] S_

variable [Facts]

def fn_where {F : FTy → Type} [FloatOps F] (arg0 : IVec S31744 1) (arg1 : IVec S_ 32) (arg2 : IVec S_ 32) : IVec S31744 32 :=
  let v0 : IVec S31744 32 := broadcastInDim S31744 ![] bcast_S_S31744 arg1
  let v1 : IVec S31744 32 := broadcastInDim S31744 ![] bcast_S_S31744 arg2
  let v2 : IVec S31744 32 := select arg0 v0 v1
  v2

def fn_part2 {F : FTy → Type} [FloatOps F] (main_arg0 : FVec F S776x2496 .f32) (main_arg5 : FVec F S5x2496x256 .f32) (main_v34 : IVec S_ 1) : IVec S_ 1 :=
  let main_v35 : FVec F S776x2496 .f32 := Host.absf main_arg0
  let main_cst : FVec F S_ .f32 := constant S_ .f32 0x7F800000#32
  let main_v36 : FVec F S776x2496 .f32 := broadcastInDim S776x2496 ![] bcast_S_S776x2496 main_cst
  let main_v37 : IVec S776x2496 1 := cmpf .olt main_v35 main_v36
  let main_c_12 : IVec S_ 1 := constantI S_ 1 1#1
  let main_v38 : IVec S_ 1 := (fun x v => Host.reduce IntOp.andi x v reducesTo_S776x2496_S_d0_1 h_S_) main_v37 main_c_12
  let main_v39 : IVec S_ 1 := andi main_v34 main_v38
  let main_v40 : FVec F S5x2496x256 .f32 := Host.absf main_arg5
  let main_cst_13 : FVec F S_ .f32 := constant S_ .f32 0x7F800000#32
  let main_v41 : FVec F S5x2496x256 .f32 := broadcastInDim S5x2496x256 ![] bcast_S_S5x2496x256 main_cst_13
  let main_v42 : IVec S5x2496x256 1 := cmpf .olt main_v40 main_v41
  let main_c_14 : IVec S_ 1 := constantI S_ 1 1#1
  let main_v43 : IVec S_ 1 := (fun x v => Host.reduce IntOp.andi x v reducesTo_S5x2496x256_S_d0_1_2 h_S_) main_v42 main_c_14
  let main_v44 : IVec S_ 1 := andi main_v39 main_v43
  main_v44

def fn_part1 {F : FTy → Type} [FloatOps F] (main_arg0 : FVec F S776x2496 .f32) (main_arg5 : FVec F S5x2496x256 .f32) (main_v13 : IVec S_ 1) (main_v15 : IVec S31744 32) (main_v16 : IVec S31744 32) (main_v17 : IVec S31744 32) : IVec S_ 1 :=
  let main_v18 : IVec S31744 32 := Host.remsi main_v16 main_v17
  let main_c_5 : IVec S_ 32 := constantI S_ 32 31#32
  let main_v19 : IVec S31744 32 := broadcastInDim S31744 ![] bcast_S_S31744 main_c_5
  let main_v20 : IVec S31744 32 := Host.divsi main_v18 main_v19
  let main_c_6 : IVec S_ 32 := constantI S_ 32 31#32
  let main_v21 : IVec S31744 32 := broadcastInDim S31744 ![] bcast_S_S31744 main_c_6
  let main_v22 : IVec S31744 32 := Host.remsi main_v16 main_v21
  let main_c_7 : IVec S_ 32 := constantI S_ 32 992#32
  let main_v23 : IVec S31744 32 := broadcastInDim S31744 ![] bcast_S_S31744 main_c_7
  let main_v24 : IVec S31744 32 := Host.divsi main_v16 main_v23
  let main_c_8 : IVec S_ 32 := constantI S_ 32 32#32
  let main_v25 : IVec S31744 32 := broadcastInDim S31744 ![] bcast_S_S31744 main_c_8
  let main_v26 : IVec S31744 32 := muli main_v25 main_v24
  let main_v27 : IVec S31744 32 := addi main_v26 main_v22
  let main_v28 : IVec S31744 1 := cmpi .sge main_v22 main_v20
  let main_c_9 : IVec S_ 32 := constantI S_ 32 1#32
  let main_c_10 : IVec S_ 32 := constantI S_ 32 0#32
  let main_v29 : IVec S31744 32 := fn_where (F := F) main_v28 main_c_9 main_c_10
  let main_v30 : IVec S31744 32 := id main_v29
  let main_v31 : IVec S31744 32 := addi main_v27 main_v30
  let main_v32 : IVec S31744 1 := cmpi .eq main_v15 main_v31
  let main_c_11 : IVec S_ 1 := constantI S_ 1 1#1
  let main_v33 : IVec S_ 1 := (fun x v => Host.reduce IntOp.andi x v reducesTo_S31744_S_d0 h_S_) main_v32 main_c_11
  let main_v34 : IVec S_ 1 := andi main_v13 main_v33
  fn_part2 (F := F) main_arg0 main_arg5 main_v34

def fn {F : FTy → Type} [FloatOps F] (main_arg0 : FVec F S776x2496 .f32) (main_arg1 : IVec S2x31744 32) (main_arg2 : FVec F S992x1 .f32) (main_arg3 : FVec F S992x248 .f32) (main_arg4 : FVec F S248x992 .f32) (main_arg5 : FVec F S5x2496x256 .f32) (main_arg6 : FVec F S256 .f32) : IVec S_ 1 :=
  let main_v0 : IVec S1x31744 32 := (extractStridedSlice S1x31744 ![0, 0] · slices_S2x31744_S1x31744_0_0) main_arg1
  let main_v1 : IVec S31744 32 := shapeCast S31744 main_v0 shapeCasts_S1x31744_S31744
  let main_v2 : IVec S31744 32 := iotaInDim S31744 32 0
  let main_c : IVec S_ 32 := constantI S_ 32 992#32
  let main_v3 : IVec S31744 32 := broadcastInDim S31744 ![] bcast_S_S31744 main_c
  let main_v4 : IVec S31744 32 := Host.divsi main_v2 main_v3
  let main_c_0 : IVec S_ 32 := constantI S_ 32 32#32
  let main_v5 : IVec S31744 32 := broadcastInDim S31744 ![] bcast_S_S31744 main_c_0
  let main_v6 : IVec S31744 32 := muli main_v5 main_v4
  let main_c_1 : IVec S_ 32 := constantI S_ 32 992#32
  let main_v7 : IVec S31744 32 := broadcastInDim S31744 ![] bcast_S_S31744 main_c_1
  let main_v8 : IVec S31744 32 := Host.remsi main_v2 main_v7
  let main_c_2 : IVec S_ 32 := constantI S_ 32 31#32
  let main_v9 : IVec S31744 32 := broadcastInDim S31744 ![] bcast_S_S31744 main_c_2
  let main_v10 : IVec S31744 32 := Host.divsi main_v8 main_v9
  let main_v11 : IVec S31744 32 := addi main_v6 main_v10
  let main_v12 : IVec S31744 1 := cmpi .eq main_v1 main_v11
  let main_c_3 : IVec S_ 1 := constantI S_ 1 1#1
  let main_v13 : IVec S_ 1 := (fun x v => Host.reduce IntOp.andi x v reducesTo_S31744_S_d0 h_S_) main_v12 main_c_3
  let main_v14 : IVec S1x31744 32 := (extractStridedSlice S1x31744 ![1, 0] · slices_S2x31744_S1x31744_1_0) main_arg1
  let main_v15 : IVec S31744 32 := shapeCast S31744 main_v14 shapeCasts_S1x31744_S31744
  let main_v16 : IVec S31744 32 := iotaInDim S31744 32 0
  let main_c_4 : IVec S_ 32 := constantI S_ 32 992#32
  let main_v17 : IVec S31744 32 := broadcastInDim S31744 ![] bcast_S_S31744 main_c_4
  fn_part1 (F := F) main_arg0 main_arg5 main_v13 main_v15 main_v16 main_v17
-- ==== Kernel.lean ====
abbrev S1024x60 : Shape := ⟨2, ![1024, 60]⟩
abbrev S2x31744 : Shape := ⟨2, ![2, 31744]⟩
abbrev S60 : Shape := ⟨1, ![60]⟩
abbrev S64 : Shape := ⟨1, ![64]⟩
abbrev S992x1 : Shape := ⟨2, ![992, 1]⟩
abbrev S992x248 : Shape := ⟨2, ![992, 248]⟩
abbrev S248x992 : Shape := ⟨2, ![248, 992]⟩
abbrev S32x1x1x4 : Shape := ⟨4, ![32, 1, 1, 4]⟩
abbrev S32 : Shape := ⟨1, ![32]⟩
abbrev S64x32x1x4 : Shape := ⟨4, ![64, 32, 1, 4]⟩
abbrev S32x1x1x8 : Shape := ⟨4, ![32, 1, 1, 8]⟩
abbrev S64x32x1x8 : Shape := ⟨4, ![64, 32, 1, 8]⟩
abbrev S5x2496x256 : Shape := ⟨3, ![5, 2496, 256]⟩
abbrev S256 : Shape := ⟨1, ![256]⟩
abbrev S5x256x64 : Shape := ⟨3, ![5, 256, 64]⟩
abbrev S64x64 : Shape := ⟨2, ![64, 64]⟩
abbrev S5x64x256 : Shape := ⟨3, ![5, 64, 256]⟩
abbrev S5x256x2496 : Shape := ⟨3, ![5, 256, 2496]⟩
abbrev S2496 : Shape := ⟨1, ![2496]⟩
abbrev S1x60 : Shape := ⟨2, ![1, 60]⟩
abbrev S32x4 : Shape := ⟨2, ![32, 4]⟩
abbrev S1x32 : Shape := ⟨2, ![1, 32]⟩
abbrev S64x32x4 : Shape := ⟨3, ![64, 32, 4]⟩
abbrev S1x64 : Shape := ⟨2, ![1, 64]⟩
abbrev S32x8 : Shape := ⟨2, ![32, 8]⟩
abbrev S64x32x8 : Shape := ⟨3, ![64, 32, 8]⟩
abbrev S1x256 : Shape := ⟨2, ![1, 256]⟩
abbrev S1x2496 : Shape := ⟨2, ![1, 2496]⟩
abbrev S1024x2496 : Shape := ⟨2, ![1024, 2496]⟩
abbrev S_ : Shape := ⟨0, ![]⟩
abbrev S256x2496 : Shape := ⟨2, ![256, 2496]⟩
abbrev S1024x1 : Shape := ⟨2, ![1024, 1]⟩
abbrev S1024x62 : Shape := ⟨2, ![1024, 62]⟩
abbrev S32x32x62 : Shape := ⟨3, ![32, 32, 62]⟩
abbrev S1x1 : Shape := ⟨2, ![1, 1]⟩
abbrev S1x62 : Shape := ⟨2, ![1, 62]⟩
abbrev S8x62 : Shape := ⟨2, ![8, 62]⟩
abbrev S768x62 : Shape := ⟨2, ![768, 62]⟩
abbrev S776x62 : Shape := ⟨2, ![776, 62]⟩
abbrev S4x32 : Shape := ⟨2, ![4, 32]⟩
abbrev S58x32 : Shape := ⟨2, ![58, 32]⟩
abbrev S62x32 : Shape := ⟨2, ![62, 32]⟩
abbrev S2x32 : Shape := ⟨2, ![2, 32]⟩
abbrev S56x32 : Shape := ⟨2, ![56, 32]⟩
abbrev S54x32 : Shape := ⟨2, ![54, 32]⟩
abbrev S6x32 : Shape := ⟨2, ![6, 32]⟩
abbrev S52x32 : Shape := ⟨2, ![52, 32]⟩
abbrev S8x32 : Shape := ⟨2, ![8, 32]⟩
abbrev S50x32 : Shape := ⟨2, ![50, 32]⟩
abbrev S10x32 : Shape := ⟨2, ![10, 32]⟩
abbrev S48x32 : Shape := ⟨2, ![48, 32]⟩
abbrev S12x32 : Shape := ⟨2, ![12, 32]⟩
abbrev S46x32 : Shape := ⟨2, ![46, 32]⟩
abbrev S14x32 : Shape := ⟨2, ![14, 32]⟩
abbrev S44x32 : Shape := ⟨2, ![44, 32]⟩
abbrev S16x32 : Shape := ⟨2, ![16, 32]⟩
abbrev S42x32 : Shape := ⟨2, ![42, 32]⟩
abbrev S18x32 : Shape := ⟨2, ![18, 32]⟩
abbrev S40x32 : Shape := ⟨2, ![40, 32]⟩
abbrev S20x32 : Shape := ⟨2, ![20, 32]⟩
abbrev S38x32 : Shape := ⟨2, ![38, 32]⟩
abbrev S22x32 : Shape := ⟨2, ![22, 32]⟩
abbrev S36x32 : Shape := ⟨2, ![36, 32]⟩
abbrev S24x32 : Shape := ⟨2, ![24, 32]⟩
abbrev S34x32 : Shape := ⟨2, ![34, 32]⟩
abbrev S26x32 : Shape := ⟨2, ![26, 32]⟩
abbrev S32x32 : Shape := ⟨2, ![32, 32]⟩
abbrev S28x32 : Shape := ⟨2, ![28, 32]⟩
abbrev S30x32 : Shape := ⟨2, ![30, 32]⟩
abbrev S62x960 : Shape := ⟨2, ![62, 960]⟩
abbrev S1x960 : Shape := ⟨2, ![1, 960]⟩
abbrev S776x960 : Shape := ⟨2, ![776, 960]⟩
abbrev S776x32 : Shape := ⟨2, ![776, 32]⟩
abbrev S776x1024 : Shape := ⟨2, ![776, 1024]⟩
abbrev S4x32x64 : Shape := ⟨3, ![4, 32, 64]⟩
abbrev S128x64 : Shape := ⟨2, ![128, 64]⟩
abbrev S896x64 : Shape := ⟨2, ![896, 64]⟩
abbrev S1024x64 : Shape := ⟨2, ![1024, 64]⟩
abbrev S832x64 : Shape := ⟨2, ![832, 64]⟩
abbrev S768x64 : Shape := ⟨2, ![768, 64]⟩
abbrev S192x64 : Shape := ⟨2, ![192, 64]⟩
abbrev S704x64 : Shape := ⟨2, ![704, 64]⟩
abbrev S256x64 : Shape := ⟨2, ![256, 64]⟩
abbrev S640x64 : Shape := ⟨2, ![640, 64]⟩
abbrev S320x64 : Shape := ⟨2, ![320, 64]⟩
abbrev S576x64 : Shape := ⟨2, ![576, 64]⟩
abbrev S384x64 : Shape := ⟨2, ![384, 64]⟩
abbrev S512x64 : Shape := ⟨2, ![512, 64]⟩
abbrev S448x64 : Shape := ⟨2, ![448, 64]⟩
abbrev S1024x960 : Shape := ⟨2, ![1024, 960]⟩
abbrev S62x896 : Shape := ⟨2, ![62, 896]⟩
abbrev S1x896 : Shape := ⟨2, ![1, 896]⟩
abbrev S776x896 : Shape := ⟨2, ![776, 896]⟩
abbrev S8x32x64 : Shape := ⟨3, ![8, 32, 64]⟩
abbrev S960x64 : Shape := ⟨2, ![960, 64]⟩
abbrev S960x768 : Shape := ⟨2, ![960, 768]⟩
abbrev S1x768 : Shape := ⟨2, ![1, 768]⟩
abbrev S776x768 : Shape := ⟨2, ![776, 768]⟩
abbrev S776x2496 : Shape := ⟨2, ![776, 2496]⟩
abbrev S1x992 : Shape := ⟨2, ![1, 992]⟩
abbrev S1x248 : Shape := ⟨2, ![1, 248]⟩
abbrev S1x31 : Shape := ⟨2, ![1, 31]⟩
abbrev S1x30 : Shape := ⟨2, ![1, 30]⟩
abbrev S1x2 : Shape := ⟨2, ![1, 2]⟩
abbrev S1x29 : Shape := ⟨2, ![1, 29]⟩
abbrev S1x3 : Shape := ⟨2, ![1, 3]⟩
abbrev S1x28 : Shape := ⟨2, ![1, 28]⟩
abbrev S1x4 : Shape := ⟨2, ![1, 4]⟩
abbrev S1x27 : Shape := ⟨2, ![1, 27]⟩
abbrev S1x5 : Shape := ⟨2, ![1, 5]⟩
abbrev S1x26 : Shape := ⟨2, ![1, 26]⟩
abbrev S1x6 : Shape := ⟨2, ![1, 6]⟩
abbrev S1x25 : Shape := ⟨2, ![1, 25]⟩
abbrev S1x7 : Shape := ⟨2, ![1, 7]⟩
abbrev S1x24 : Shape := ⟨2, ![1, 24]⟩
abbrev S1x8 : Shape := ⟨2, ![1, 8]⟩
abbrev S1x23 : Shape := ⟨2, ![1, 23]⟩
abbrev S1x9 : Shape := ⟨2, ![1, 9]⟩
abbrev S1x22 : Shape := ⟨2, ![1, 22]⟩
abbrev S1x10 : Shape := ⟨2, ![1, 10]⟩
abbrev S1x21 : Shape := ⟨2, ![1, 21]⟩
abbrev S1x11 : Shape := ⟨2, ![1, 11]⟩
abbrev S1x20 : Shape := ⟨2, ![1, 20]⟩
abbrev S1x12 : Shape := ⟨2, ![1, 12]⟩
abbrev S1x19 : Shape := ⟨2, ![1, 19]⟩
abbrev S1x13 : Shape := ⟨2, ![1, 13]⟩
abbrev S1x18 : Shape := ⟨2, ![1, 18]⟩
abbrev S1x14 : Shape := ⟨2, ![1, 14]⟩
abbrev S1x17 : Shape := ⟨2, ![1, 17]⟩
abbrev S1x15 : Shape := ⟨2, ![1, 15]⟩
abbrev S1x16 : Shape := ⟨2, ![1, 16]⟩
abbrev S32x1 : Shape := ⟨2, ![32, 1]⟩
abbrev S32x128 : Shape := ⟨2, ![32, 128]⟩
abbrev S1x2496x256 : Shape := ⟨3, ![1, 2496, 256]⟩
abbrev S2496x256 : Shape := ⟨2, ![2496, 256]⟩
abbrev S776x256 : Shape := ⟨2, ![776, 256]⟩
abbrev S256x256 : Shape := ⟨2, ![256, 256]⟩
abbrev S768x256 : Shape := ⟨2, ![768, 256]⟩
abbrev S1024x256 : Shape := ⟨2, ![1024, 256]⟩
abbrev S4096x256 : Shape := ⟨2, ![4096, 256]⟩
abbrev S128x8192 : Shape := ⟨2, ![128, 8192]⟩
abbrev S32x8192 : Shape := ⟨2, ![32, 8192]⟩
abbrev S1x256x64 : Shape := ⟨3, ![1, 256, 64]⟩
abbrev S32x32x64 : Shape := ⟨3, ![32, 32, 64]⟩
abbrev S1x64x256 : Shape := ⟨3, ![1, 64, 256]⟩
abbrev S64x256 : Shape := ⟨2, ![64, 256]⟩
abbrev S128x32 : Shape := ⟨2, ![128, 32]⟩
abbrev S32x32x256 : Shape := ⟨3, ![32, 32, 256]⟩
abbrev S1x256x2496 : Shape := ⟨3, ![1, 256, 2496]⟩

abbrev nBuf : Space → Nat
  | .hbm => 47
  | .vmem => 29
  | .smem => 0
  | _ => 0

abbrev bufTy : (tb : Table) → Fin (tcTables nBuf tb) → BufTy
  | .hbm, ⟨0, _⟩ => ⟨S1024x60, .f32⟩
  | .hbm, ⟨1, _⟩ => ⟨S2x31744, .i32⟩
  | .hbm, ⟨2, _⟩ => ⟨S60, .f32⟩
  | .hbm, ⟨3, _⟩ => ⟨S64, .f32⟩
  | .hbm, ⟨4, _⟩ => ⟨S992x1, .f32⟩
  | .hbm, ⟨5, _⟩ => ⟨S992x248, .f32⟩
  | .hbm, ⟨6, _⟩ => ⟨S248x992, .f32⟩
  | .hbm, ⟨7, _⟩ => ⟨S32x1x1x4, .f32⟩
  | .hbm, ⟨8, _⟩ => ⟨S32, .f32⟩
  | .hbm, ⟨9, _⟩ => ⟨S64x32x1x4, .f32⟩
  | .hbm, ⟨10, _⟩ => ⟨S64, .f32⟩
  | .hbm, ⟨11, _⟩ => ⟨S32x1x1x8, .f32⟩
  | .hbm, ⟨12, _⟩ => ⟨S32, .f32⟩
  | .hbm, ⟨13, _⟩ => ⟨S64x32x1x8, .f32⟩
  | .hbm, ⟨14, _⟩ => ⟨S64, .f32⟩
  | .hbm, ⟨15, _⟩ => ⟨S32x1x1x8, .f32⟩
  | .hbm, ⟨16, _⟩ => ⟨S32, .f32⟩
  | .hbm, ⟨17, _⟩ => ⟨S64x32x1x8, .f32⟩
  | .hbm, ⟨18, _⟩ => ⟨S64, .f32⟩
  | .hbm, ⟨19, _⟩ => ⟨S5x2496x256, .f32⟩
  | .hbm, ⟨20, _⟩ => ⟨S256, .f32⟩
  | .hbm, ⟨21, _⟩ => ⟨S5x256x64, .f32⟩
  | .hbm, ⟨22, _⟩ => ⟨S64, .f32⟩
  | .hbm, ⟨23, _⟩ => ⟨S64x64, .f32⟩
  | .hbm, ⟨24, _⟩ => ⟨S5x64x256, .f32⟩
  | .hbm, ⟨25, _⟩ => ⟨S256, .f32⟩
  | .hbm, ⟨26, _⟩ => ⟨S5x256x2496, .f32⟩
  | .hbm, ⟨27, _⟩ => ⟨S2496, .f32⟩
  | .hbm, ⟨28, _⟩ => ⟨S1x60, .f32⟩
  | .hbm, ⟨29, _⟩ => ⟨S32x4, .f32⟩
  | .hbm, ⟨30, _⟩ => ⟨S1x32, .f32⟩
  | .hbm, ⟨31, _⟩ => ⟨S64x32x4, .f32⟩
  | .hbm, ⟨32, _⟩ => ⟨S1x64, .f32⟩
  | .hbm, ⟨33, _⟩ => ⟨S32x8, .f32⟩
  | .hbm, ⟨34, _⟩ => ⟨S1x32, .f32⟩
  | .hbm, ⟨35, _⟩ => ⟨S64x32x8, .f32⟩
  | .hbm, ⟨36, _⟩ => ⟨S1x64, .f32⟩
  | .hbm, ⟨37, _⟩ => ⟨S32x8, .f32⟩
  | .hbm, ⟨38, _⟩ => ⟨S1x32, .f32⟩
  | .hbm, ⟨39, _⟩ => ⟨S64x32x8, .f32⟩
  | .hbm, ⟨40, _⟩ => ⟨S1x64, .f32⟩
  | .hbm, ⟨41, _⟩ => ⟨S1x256, .f32⟩
  | .hbm, ⟨42, _⟩ => ⟨S1x64, .f32⟩
  | .hbm, ⟨43, _⟩ => ⟨S1x64, .f32⟩
  | .hbm, ⟨44, _⟩ => ⟨S1x256, .f32⟩
  | .hbm, ⟨45, _⟩ => ⟨S1x2496, .f32⟩
  | .hbm, ⟨46, _⟩ => ⟨S1024x2496, .f32⟩
  | .local _ .vmem, ⟨0, _⟩ => ⟨S1024x60, .f32⟩
  | .local _ .vmem, ⟨1, _⟩ => ⟨S1x60, .f32⟩
  | .local _ .vmem, ⟨2, _⟩ => ⟨S32x4, .f32⟩
  | .local _ .vmem, ⟨3, _⟩ => ⟨S1x32, .f32⟩
  | .local _ .vmem, ⟨4, _⟩ => ⟨S64x32x4, .f32⟩
  | .local _ .vmem, ⟨5, _⟩ => ⟨S1x64, .f32⟩
  | .local _ .vmem, ⟨6, _⟩ => ⟨S32x8, .f32⟩
  | .local _ .vmem, ⟨7, _⟩ => ⟨S1x32, .f32⟩
  | .local _ .vmem, ⟨8, _⟩ => ⟨S64x32x8, .f32⟩
  | .local _ .vmem, ⟨9, _⟩ => ⟨S1x64, .f32⟩
  | .local _ .vmem, ⟨10, _⟩ => ⟨S32x8, .f32⟩
  | .local _ .vmem, ⟨11, _⟩ => ⟨S1x32, .f32⟩
  | .local _ .vmem, ⟨12, _⟩ => ⟨S64x32x8, .f32⟩
  | .local _ .vmem, ⟨13, _⟩ => ⟨S1x64, .f32⟩
  | .local _ .vmem, ⟨14, _⟩ => ⟨S992x1, .f32⟩
  | .local _ .vmem, ⟨15, _⟩ => ⟨S1x256, .f32⟩
  | .local _ .vmem, ⟨16, _⟩ => ⟨S1x64, .f32⟩
  | .local _ .vmem, ⟨17, _⟩ => ⟨S64x64, .f32⟩
  | .local _ .vmem, ⟨18, _⟩ => ⟨S1x64, .f32⟩
  | .local _ .vmem, ⟨19, _⟩ => ⟨S1x256, .f32⟩
  | .local _ .vmem, ⟨20, _⟩ => ⟨S1x2496, .f32⟩
  | .local _ .vmem, ⟨21, _⟩ => ⟨S5x2496x256, .f32⟩
  | .local _ .vmem, ⟨22, _⟩ => ⟨S5x256x2496, .f32⟩
  | .local _ .vmem, ⟨23, _⟩ => ⟨S256x2496, .f32⟩
  | .local _ .vmem, ⟨24, _⟩ => ⟨S256x2496, .f32⟩
  | .local _ .vmem, ⟨25, _⟩ => ⟨S992x248, .f32⟩
  | .local _ .vmem, ⟨26, _⟩ => ⟨S248x992, .f32⟩
  | .local _ .vmem, ⟨27, _⟩ => ⟨S5x256x64, .f32⟩
  | .local _ .vmem, ⟨28, _⟩ => ⟨S5x64x256, .f32⟩
  | _, _ => ⟨S1024x60, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_v15 : Ref sig .tc := ⟨.hbm, 43, rfl⟩
abbrev main_call0_v16 : Ref sig .tc := ⟨.hbm, 44, rfl⟩
abbrev main_call0_v17 : Ref sig .tc := ⟨.hbm, 45, rfl⟩
abbrev main_v0 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1024x60 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x60 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x32x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x32x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x32x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S992x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x2496 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== ReferenceIdeal.lean ====
abbrev S1024x60 : Shape := ⟨2, ![1024, 60]⟩
abbrev S2x31744 : Shape := ⟨2, ![2, 31744]⟩
abbrev S60 : Shape := ⟨1, ![60]⟩
abbrev S64 : Shape := ⟨1, ![64]⟩
abbrev S992x1 : Shape := ⟨2, ![992, 1]⟩
abbrev S992x248 : Shape := ⟨2, ![992, 248]⟩
abbrev S248x992 : Shape := ⟨2, ![248, 992]⟩
abbrev S32x1x1x4 : Shape := ⟨4, ![32, 1, 1, 4]⟩
abbrev S32 : Shape := ⟨1, ![32]⟩
abbrev S64x32x1x4 : Shape := ⟨4, ![64, 32, 1, 4]⟩
abbrev S32x1x1x8 : Shape := ⟨4, ![32, 1, 1, 8]⟩
abbrev S64x32x1x8 : Shape := ⟨4, ![64, 32, 1, 8]⟩
abbrev S5x2496x256 : Shape := ⟨3, ![5, 2496, 256]⟩
abbrev S256 : Shape := ⟨1, ![256]⟩
abbrev S5x256x64 : Shape := ⟨3, ![5, 256, 64]⟩
abbrev S64x64 : Shape := ⟨2, ![64, 64]⟩
abbrev S5x64x256 : Shape := ⟨3, ![5, 64, 256]⟩
abbrev S5x256x2496 : Shape := ⟨3, ![5, 256, 2496]⟩
abbrev S2496 : Shape := ⟨1, ![2496]⟩
abbrev S1x31744 : Shape := ⟨2, ![1, 31744]⟩
abbrev S31744 : Shape := ⟨1, ![31744]⟩
abbrev S32x1 : Shape := ⟨2, ![32, 1]⟩
abbrev S_ : Shape := ⟨0, ![]⟩
abbrev S8 : Shape := ⟨1, ![8]⟩
abbrev S1x8 : Shape := ⟨2, ![1, 8]⟩
abbrev S32x8 : Shape := ⟨2, ![32, 8]⟩
abbrev S256x1 : Shape := ⟨2, ![256, 1]⟩
abbrev S256x60 : Shape := ⟨2, ![256, 60]⟩
abbrev S32x1x32x60 : Shape := ⟨4, ![32, 1, 32, 60]⟩
abbrev S32x1x32x62 : Shape := ⟨4, ![32, 1, 32, 62]⟩
abbrev S32x1x32x30 : Shape := ⟨4, ![32, 1, 32, 30]⟩
abbrev S32x1x1x1 : Shape := ⟨4, ![32, 1, 1, 1]⟩
abbrev S32x32x32x30 : Shape := ⟨4, ![32, 32, 32, 30]⟩
abbrev S1x32x1x1 : Shape := ⟨4, ![1, 32, 1, 1]⟩
abbrev S32x32x32x32 : Shape := ⟨4, ![32, 32, 32, 32]⟩
abbrev S32x32x32x15 : Shape := ⟨4, ![32, 32, 32, 15]⟩
abbrev S64x32x1x1 : Shape := ⟨4, ![64, 32, 1, 1]⟩
abbrev S64x32 : Shape := ⟨2, ![64, 32]⟩
abbrev S64x32x32x15 : Shape := ⟨4, ![64, 32, 32, 15]⟩
abbrev S32x64x32x15 : Shape := ⟨4, ![32, 64, 32, 15]⟩
abbrev S1x64x1x1 : Shape := ⟨4, ![1, 64, 1, 1]⟩
abbrev S32x1x32x28 : Shape := ⟨4, ![32, 1, 32, 28]⟩
abbrev S32x32x32x28 : Shape := ⟨4, ![32, 32, 32, 28]⟩
abbrev S32x32x32x12 : Shape := ⟨4, ![32, 32, 32, 12]⟩
abbrev S64x32x32x12 : Shape := ⟨4, ![64, 32, 32, 12]⟩
abbrev S32x64x32x12 : Shape := ⟨4, ![32, 64, 32, 12]⟩
abbrev S32x64x32x39 : Shape := ⟨4, ![32, 64, 32, 39]⟩
abbrev S32x32x64x39 : Shape := ⟨4, ![32, 32, 64, 39]⟩
abbrev S32x32x39x64 : Shape := ⟨4, ![32, 32, 39, 64]⟩
abbrev S1024x2496 : Shape := ⟨2, ![1024, 2496]⟩
abbrev S1x992 : Shape := ⟨2, ![1, 992]⟩
abbrev S1x248 : Shape := ⟨2, ![1, 248]⟩
abbrev S1x992x1x1 : Shape := ⟨4, ![1, 992, 1, 1]⟩
abbrev S32x992x1x1 : Shape := ⟨4, ![32, 992, 1, 1]⟩
abbrev S31744x1 : Shape := ⟨2, ![31744, 1]⟩
abbrev S1024 : Shape := ⟨1, ![1024]⟩
abbrev S1x2496x256 : Shape := ⟨3, ![1, 2496, 256]⟩
abbrev S2496x256 : Shape := ⟨2, ![2496, 256]⟩
abbrev S1024x256 : Shape := ⟨2, ![1024, 256]⟩
abbrev S31744x2496 : Shape := ⟨2, ![31744, 2496]⟩
abbrev S1x256 : Shape := ⟨2, ![1, 256]⟩
abbrev S1x256x64 : Shape := ⟨3, ![1, 256, 64]⟩
abbrev S256x64 : Shape := ⟨2, ![256, 64]⟩
abbrev S1024x64 : Shape := ⟨2, ![1024, 64]⟩
abbrev S31744x256 : Shape := ⟨2, ![31744, 256]⟩
abbrev S1x64 : Shape := ⟨2, ![1, 64]⟩
abbrev S1x64x256 : Shape := ⟨3, ![1, 64, 256]⟩
abbrev S64x256 : Shape := ⟨2, ![64, 256]⟩
abbrev S31744x64 : Shape := ⟨2, ![31744, 64]⟩
abbrev S1x256x2496 : Shape := ⟨3, ![1, 256, 2496]⟩
abbrev S256x2496 : Shape := ⟨2, ![256, 2496]⟩
abbrev S1x2496 : Shape := ⟨2, ![1, 2496]⟩

abbrev nBuf : Space → Nat
  | .hbm => 975
  | .vmem => 0
  | .smem => 0
  | _ => 0

abbrev hbmTy0_0 (i : Nat) : BufTy := match i % 128 with
  | 0 => ⟨S1024x60, .f32⟩
  | 1 => ⟨S2x31744, .i32⟩
  | 2 => ⟨S60, .f32⟩
  | 3 => ⟨S64, .f32⟩
  | 4 => ⟨S992x1, .f32⟩
  | 5 => ⟨S992x248, .f32⟩
  | 6 => ⟨S248x992, .f32⟩
  | 7 => ⟨S32x1x1x4, .f32⟩
  | 8 => ⟨S32, .f32⟩
  | 9 => ⟨S64x32x1x4, .f32⟩
  | 10 => ⟨S64, .f32⟩
  | 11 => ⟨S32x1x1x8, .f32⟩
  | 12 => ⟨S32, .f32⟩
  | 13 => ⟨S64x32x1x8, .f32⟩
  | 14 => ⟨S64, .f32⟩
  | 15 => ⟨S32x1x1x8, .f32⟩
  | 16 => ⟨S32, .f32⟩
  | 17 => ⟨S64x32x1x8, .f32⟩
  | 18 => ⟨S64, .f32⟩
  | 19 => ⟨S5x2496x256, .f32⟩
  | 20 => ⟨S256, .f32⟩
  | 21 => ⟨S5x256x64, .f32⟩
  | 22 => ⟨S64, .f32⟩
  | 23 => ⟨S64x64, .f32⟩
  | 24 => ⟨S5x64x256, .f32⟩
  | 25 => ⟨S256, .f32⟩
  | 26 => ⟨S5x256x2496, .f32⟩
  | 27 => ⟨S2496, .f32⟩
  | 28 => ⟨S1x31744, .i32⟩
  | 29 => ⟨S31744, .i32⟩
  | 30 => ⟨S1x31744, .i32⟩
  | 31 => ⟨S31744, .i32⟩
  | 32 => ⟨S32, .i32⟩
  | 33 => ⟨S32x1, .i32⟩
  | 34 => ⟨S_, .i32⟩
  | 35 => ⟨S32x1, .i32⟩
  | 36 => ⟨S32x1, .i32⟩
  | 37 => ⟨S8, .i32⟩
  | 38 => ⟨S1x8, .i32⟩
  | 39 => ⟨S32x8, .i32⟩
  | 40 => ⟨S32x8, .i32⟩
  | 41 => ⟨S32x8, .i32⟩
  | 42 => ⟨S256, .i32⟩
  | 43 => ⟨S_, .i32⟩
  | 44 => ⟨S256, .i32⟩
  | 45 => ⟨S256, .i1⟩
  | 46 => ⟨S_, .i32⟩
  | 47 => ⟨S256, .i32⟩
  | 48 => ⟨S256, .i32⟩
  | 49 => ⟨S256, .i32⟩
  | 50 => ⟨S256x1, .i32⟩
  | 51 => ⟨S256x60, .f32⟩
  | 52 => ⟨S1024x60, .f32⟩
  | 53 => ⟨S32x1x32x60, .f32⟩
  | 54 => ⟨S_, .i32⟩
  | 55 => ⟨S_, .f32⟩
  | 56 => ⟨S32x1x32x62, .f32⟩
  | 57 => ⟨S32x1x32x30, .f32⟩
  | 58 => ⟨S32x1x1x1, .f32⟩
  | 59 => ⟨S32x1, .f32⟩
  | 60 => ⟨S32x32x32x30, .f32⟩
  | 61 => ⟨S32x32x32x30, .f32⟩
  | 62 => ⟨S_, .f32⟩
  | 63 => ⟨S32x32x32x30, .f32⟩
  | 64 => ⟨S32x32x32x30, .f32⟩
  | 65 => ⟨S32x1x32x30, .f32⟩
  | 66 => ⟨S32x1x1x1, .f32⟩
  | 67 => ⟨S32x1, .f32⟩
  | 68 => ⟨S32x32x32x30, .f32⟩
  | 69 => ⟨S32x32x32x30, .f32⟩
  | 70 => ⟨S32x32x32x30, .f32⟩
  | 71 => ⟨S32x1x32x30, .f32⟩
  | 72 => ⟨S32x1x1x1, .f32⟩
  | 73 => ⟨S32x1, .f32⟩
  | 74 => ⟨S32x32x32x30, .f32⟩
  | 75 => ⟨S32x32x32x30, .f32⟩
  | 76 => ⟨S32x32x32x30, .f32⟩
  | 77 => ⟨S32x1x32x30, .f32⟩
  | 78 => ⟨S32x1x1x1, .f32⟩
  | 79 => ⟨S32x1, .f32⟩
  | 80 => ⟨S32x32x32x30, .f32⟩
  | 81 => ⟨S32x32x32x30, .f32⟩
  | 82 => ⟨S32x32x32x30, .f32⟩
  | 83 => ⟨S1x32x1x1, .f32⟩
  | 84 => ⟨S32x32x32x30, .f32⟩
  | 85 => ⟨S32x32x32x30, .f32⟩
  | 86 => ⟨S_, .f32⟩
  | 87 => ⟨S32x32x32x30, .f32⟩
  | 88 => ⟨S32x32x32x30, .f32⟩
  | 89 => ⟨S_, .i32⟩
  | 90 => ⟨S_, .f32⟩
  | 91 => ⟨S32x32x32x32, .f32⟩
  | 92 => ⟨S32x32x32x15, .f32⟩
  | 93 => ⟨S64x32x1x1, .f32⟩
  | 94 => ⟨S64x32, .f32⟩
  | 95 => ⟨S64x32x32x15, .f32⟩
  | 96 => ⟨S32x64x32x15, .f32⟩
  | 97 => ⟨S_, .f32⟩
  | 98 => ⟨S32x64x32x15, .f32⟩
  | 99 => ⟨S32x64x32x15, .f32⟩
  | 100 => ⟨S32x32x32x15, .f32⟩
  | 101 => ⟨S64x32x1x1, .f32⟩
  | 102 => ⟨S64x32, .f32⟩
  | 103 => ⟨S64x32x32x15, .f32⟩
  | 104 => ⟨S32x64x32x15, .f32⟩
  | 105 => ⟨S32x64x32x15, .f32⟩
  | 106 => ⟨S32x32x32x15, .f32⟩
  | 107 => ⟨S64x32x1x1, .f32⟩
  | 108 => ⟨S64x32, .f32⟩
  | 109 => ⟨S64x32x32x15, .f32⟩
  | 110 => ⟨S32x64x32x15, .f32⟩
  | 111 => ⟨S32x64x32x15, .f32⟩
  | 112 => ⟨S32x32x32x15, .f32⟩
  | 113 => ⟨S64x32x1x1, .f32⟩
  | 114 => ⟨S64x32, .f32⟩
  | 115 => ⟨S64x32x32x15, .f32⟩
  | 116 => ⟨S32x64x32x15, .f32⟩
  | 117 => ⟨S32x64x32x15, .f32⟩
  | 118 => ⟨S1x64x1x1, .f32⟩
  | 119 => ⟨S32x64x32x15, .f32⟩
  | 120 => ⟨S32x64x32x15, .f32⟩
  | 121 => ⟨S_, .f32⟩
  | 122 => ⟨S32x64x32x15, .f32⟩
  | 123 => ⟨S32x64x32x15, .f32⟩
  | 124 => ⟨S_, .i32⟩
  | 125 => ⟨S_, .f32⟩
  | 126 => ⟨S32x1x32x62, .f32⟩
  | 127 => ⟨S32x1x32x28, .f32⟩
  | _ => ⟨S1024x60, .f32⟩

abbrev hbmTy0_1 (i : Nat) : BufTy := match i % 128 with
  | 0 => ⟨S32x1x1x1, .f32⟩
  | 1 => ⟨S32x1, .f32⟩
  | 2 => ⟨S32x32x32x28, .f32⟩
  | 3 => ⟨S32x32x32x28, .f32⟩
  | 4 => ⟨S_, .f32⟩
  | 5 => ⟨S32x32x32x28, .f32⟩
  | 6 => ⟨S32x32x32x28, .f32⟩
  | 7 => ⟨S32x1x32x28, .f32⟩
  | 8 => ⟨S32x1x1x1, .f32⟩
  | 9 => ⟨S32x1, .f32⟩
  | 10 => ⟨S32x32x32x28, .f32⟩
  | 11 => ⟨S32x32x32x28, .f32⟩
  | 12 => ⟨S32x32x32x28, .f32⟩
  | 13 => ⟨S32x1x32x28, .f32⟩
  | 14 => ⟨S32x1x1x1, .f32⟩
  | 15 => ⟨S32x1, .f32⟩
  | 16 => ⟨S32x32x32x28, .f32⟩
  | 17 => ⟨S32x32x32x28, .f32⟩
  | 18 => ⟨S32x32x32x28, .f32⟩
  | 19 => ⟨S32x1x32x28, .f32⟩
  | 20 => ⟨S32x1x1x1, .f32⟩
  | 21 => ⟨S32x1, .f32⟩
  | 22 => ⟨S32x32x32x28, .f32⟩
  | 23 => ⟨S32x32x32x28, .f32⟩
  | 24 => ⟨S32x32x32x28, .f32⟩
  | 25 => ⟨S32x1x32x28, .f32⟩
  | 26 => ⟨S32x1x1x1, .f32⟩
  | 27 => ⟨S32x1, .f32⟩
  | 28 => ⟨S32x32x32x28, .f32⟩
  | 29 => ⟨S32x32x32x28, .f32⟩
  | 30 => ⟨S32x32x32x28, .f32⟩
  | 31 => ⟨S32x1x32x28, .f32⟩
  | 32 => ⟨S32x1x1x1, .f32⟩
  | 33 => ⟨S32x1, .f32⟩
  | 34 => ⟨S32x32x32x28, .f32⟩
  | 35 => ⟨S32x32x32x28, .f32⟩
  | 36 => ⟨S32x32x32x28, .f32⟩
  | 37 => ⟨S32x1x32x28, .f32⟩
  | 38 => ⟨S32x1x1x1, .f32⟩
  | 39 => ⟨S32x1, .f32⟩
  | 40 => ⟨S32x32x32x28, .f32⟩
  | 41 => ⟨S32x32x32x28, .f32⟩
  | 42 => ⟨S32x32x32x28, .f32⟩
  | 43 => ⟨S32x1x32x28, .f32⟩
  | 44 => ⟨S32x1x1x1, .f32⟩
  | 45 => ⟨S32x1, .f32⟩
  | 46 => ⟨S32x32x32x28, .f32⟩
  | 47 => ⟨S32x32x32x28, .f32⟩
  | 48 => ⟨S32x32x32x28, .f32⟩
  | 49 => ⟨S1x32x1x1, .f32⟩
  | 50 => ⟨S32x32x32x28, .f32⟩
  | 51 => ⟨S32x32x32x28, .f32⟩
  | 52 => ⟨S_, .f32⟩
  | 53 => ⟨S32x32x32x28, .f32⟩
  | 54 => ⟨S32x32x32x28, .f32⟩
  | 55 => ⟨S_, .i32⟩
  | 56 => ⟨S_, .f32⟩
  | 57 => ⟨S32x32x32x30, .f32⟩
  | 58 => ⟨S32x32x32x12, .f32⟩
  | 59 => ⟨S64x32x1x1, .f32⟩
  | 60 => ⟨S64x32, .f32⟩
  | 61 => ⟨S64x32x32x12, .f32⟩
  | 62 => ⟨S32x64x32x12, .f32⟩
  | 63 => ⟨S_, .f32⟩
  | 64 => ⟨S32x64x32x12, .f32⟩
  | 65 => ⟨S32x64x32x12, .f32⟩
  | 66 => ⟨S32x32x32x12, .f32⟩
  | 67 => ⟨S64x32x1x1, .f32⟩
  | 68 => ⟨S64x32, .f32⟩
  | 69 => ⟨S64x32x32x12, .f32⟩
  | 70 => ⟨S32x64x32x12, .f32⟩
  | 71 => ⟨S32x64x32x12, .f32⟩
  | 72 => ⟨S32x32x32x12, .f32⟩
  | 73 => ⟨S64x32x1x1, .f32⟩
  | 74 => ⟨S64x32, .f32⟩
  | 75 => ⟨S64x32x32x12, .f32⟩
  | 76 => ⟨S32x64x32x12, .f32⟩
  | 77 => ⟨S32x64x32x12, .f32⟩
  | 78 => ⟨S32x32x32x12, .f32⟩
  | 79 => ⟨S64x32x1x1, .f32⟩
  | 80 => ⟨S64x32, .f32⟩
  | 81 => ⟨S64x32x32x12, .f32⟩
  | 82 => ⟨S32x64x32x12, .f32⟩
  | 83 => ⟨S32x64x32x12, .f32⟩
  | 84 => ⟨S32x32x32x12, .f32⟩
  | 85 => ⟨S64x32x1x1, .f32⟩
  | 86 => ⟨S64x32, .f32⟩
  | 87 => ⟨S64x32x32x12, .f32⟩
  | 88 => ⟨S32x64x32x12, .f32⟩
  | 89 => ⟨S32x64x32x12, .f32⟩
  | 90 => ⟨S32x32x32x12, .f32⟩
  | 91 => ⟨S64x32x1x1, .f32⟩
  | 92 => ⟨S64x32, .f32⟩
  | 93 => ⟨S64x32x32x12, .f32⟩
  | 94 => ⟨S32x64x32x12, .f32⟩
  | 95 => ⟨S32x64x32x12, .f32⟩
  | 96 => ⟨S32x32x32x12, .f32⟩
  | 97 => ⟨S64x32x1x1, .f32⟩
  | 98 => ⟨S64x32, .f32⟩
  | 99 => ⟨S64x32x32x12, .f32⟩
  | 100 => ⟨S32x64x32x12, .f32⟩
  | 101 => ⟨S32x64x32x12, .f32⟩
  | 102 => ⟨S32x32x32x12, .f32⟩
  | 103 => ⟨S64x32x1x1, .f32⟩
  | 104 => ⟨S64x32, .f32⟩
  | 105 => ⟨S64x32x32x12, .f32⟩
  | 106 => ⟨S32x64x32x12, .f32⟩
  | 107 => ⟨S32x64x32x12, .f32⟩
  | 108 => ⟨S1x64x1x1, .f32⟩
  | 109 => ⟨S32x64x32x12, .f32⟩
  | 110 => ⟨S32x64x32x12, .f32⟩
  | 111 => ⟨S_, .f32⟩
  | 112 => ⟨S32x64x32x12, .f32⟩
  | 113 => ⟨S32x64x32x12, .f32⟩
  | 114 => ⟨S_, .i32⟩
  | 115 => ⟨S_, .f32⟩
  | 116 => ⟨S32x1x32x62, .f32⟩
  | 117 => ⟨S32x1x32x28, .f32⟩
  | 118 => ⟨S32x1x1x1, .f32⟩
  | 119 => ⟨S32x1, .f32⟩
  | 120 => ⟨S32x32x32x28, .f32⟩
  | 121 => ⟨S32x32x32x28, .f32⟩
  | 122 => ⟨S_, .f32⟩
  | 123 => ⟨S32x32x32x28, .f32⟩
  | 124 => ⟨S32x32x32x28, .f32⟩
  | 125 => ⟨S32x1x32x28, .f32⟩
  | 126 => ⟨S32x1x1x1, .f32⟩
  | 127 => ⟨S32x1, .f32⟩
  | _ => ⟨S1024x60, .f32⟩

abbrev hbmTy0_2 (i : Nat) : BufTy := match i % 128 with
  | 0 => ⟨S32x32x32x28, .f32⟩
  | 1 => ⟨S32x32x32x28, .f32⟩
  | 2 => ⟨S32x32x32x28, .f32⟩
  | 3 => ⟨S32x1x32x28, .f32⟩
  | 4 => ⟨S32x1x1x1, .f32⟩
  | 5 => ⟨S32x1, .f32⟩
  | 6 => ⟨S32x32x32x28, .f32⟩
  | 7 => ⟨S32x32x32x28, .f32⟩
  | 8 => ⟨S32x32x32x28, .f32⟩
  | 9 => ⟨S32x1x32x28, .f32⟩
  | 10 => ⟨S32x1x1x1, .f32⟩
  | 11 => ⟨S32x1, .f32⟩
  | 12 => ⟨S32x32x32x28, .f32⟩
  | 13 => ⟨S32x32x32x28, .f32⟩
  | 14 => ⟨S32x32x32x28, .f32⟩
  | 15 => ⟨S32x1x32x28, .f32⟩
  | 16 => ⟨S32x1x1x1, .f32⟩
  | 17 => ⟨S32x1, .f32⟩
  | 18 => ⟨S32x32x32x28, .f32⟩
  | 19 => ⟨S32x32x32x28, .f32⟩
  | 20 => ⟨S32x32x32x28, .f32⟩
  | 21 => ⟨S32x1x32x28, .f32⟩
  | 22 => ⟨S32x1x1x1, .f32⟩
  | 23 => ⟨S32x1, .f32⟩
  | 24 => ⟨S32x32x32x28, .f32⟩
  | 25 => ⟨S32x32x32x28, .f32⟩
  | 26 => ⟨S32x32x32x28, .f32⟩
  | 27 => ⟨S32x1x32x28, .f32⟩
  | 28 => ⟨S32x1x1x1, .f32⟩
  | 29 => ⟨S32x1, .f32⟩
  | 30 => ⟨S32x32x32x28, .f32⟩
  | 31 => ⟨S32x32x32x28, .f32⟩
  | 32 => ⟨S32x32x32x28, .f32⟩
  | 33 => ⟨S32x1x32x28, .f32⟩
  | 34 => ⟨S32x1x1x1, .f32⟩
  | 35 => ⟨S32x1, .f32⟩
  | 36 => ⟨S32x32x32x28, .f32⟩
  | 37 => ⟨S32x32x32x28, .f32⟩
  | 38 => ⟨S32x32x32x28, .f32⟩
  | 39 => ⟨S1x32x1x1, .f32⟩
  | 40 => ⟨S32x32x32x28, .f32⟩
  | 41 => ⟨S32x32x32x28, .f32⟩
  | 42 => ⟨S_, .f32⟩
  | 43 => ⟨S32x32x32x28, .f32⟩
  | 44 => ⟨S32x32x32x28, .f32⟩
  | 45 => ⟨S_, .i32⟩
  | 46 => ⟨S_, .f32⟩
  | 47 => ⟨S32x32x32x30, .f32⟩
  | 48 => ⟨S32x32x32x12, .f32⟩
  | 49 => ⟨S64x32x1x1, .f32⟩
  | 50 => ⟨S64x32, .f32⟩
  | 51 => ⟨S64x32x32x12, .f32⟩
  | 52 => ⟨S32x64x32x12, .f32⟩
  | 53 => ⟨S_, .f32⟩
  | 54 => ⟨S32x64x32x12, .f32⟩
  | 55 => ⟨S32x64x32x12, .f32⟩
  | 56 => ⟨S32x32x32x12, .f32⟩
  | 57 => ⟨S64x32x1x1, .f32⟩
  | 58 => ⟨S64x32, .f32⟩
  | 59 => ⟨S64x32x32x12, .f32⟩
  | 60 => ⟨S32x64x32x12, .f32⟩
  | 61 => ⟨S32x64x32x12, .f32⟩
  | 62 => ⟨S32x32x32x12, .f32⟩
  | 63 => ⟨S64x32x1x1, .f32⟩
  | 64 => ⟨S64x32, .f32⟩
  | 65 => ⟨S64x32x32x12, .f32⟩
  | 66 => ⟨S32x64x32x12, .f32⟩
  | 67 => ⟨S32x64x32x12, .f32⟩
  | 68 => ⟨S32x32x32x12, .f32⟩
  | 69 => ⟨S64x32x1x1, .f32⟩
  | 70 => ⟨S64x32, .f32⟩
  | 71 => ⟨S64x32x32x12, .f32⟩
  | 72 => ⟨S32x64x32x12, .f32⟩
  | 73 => ⟨S32x64x32x12, .f32⟩
  | 74 => ⟨S32x32x32x12, .f32⟩
  | 75 => ⟨S64x32x1x1, .f32⟩
  | 76 => ⟨S64x32, .f32⟩
  | 77 => ⟨S64x32x32x12, .f32⟩
  | 78 => ⟨S32x64x32x12, .f32⟩
  | 79 => ⟨S32x64x32x12, .f32⟩
  | 80 => ⟨S32x32x32x12, .f32⟩
  | 81 => ⟨S64x32x1x1, .f32⟩
  | 82 => ⟨S64x32, .f32⟩
  | 83 => ⟨S64x32x32x12, .f32⟩
  | 84 => ⟨S32x64x32x12, .f32⟩
  | 85 => ⟨S32x64x32x12, .f32⟩
  | 86 => ⟨S32x32x32x12, .f32⟩
  | 87 => ⟨S64x32x1x1, .f32⟩
  | 88 => ⟨S64x32, .f32⟩
  | 89 => ⟨S64x32x32x12, .f32⟩
  | 90 => ⟨S32x64x32x12, .f32⟩
  | 91 => ⟨S32x64x32x12, .f32⟩
  | 92 => ⟨S32x32x32x12, .f32⟩
  | 93 => ⟨S64x32x1x1, .f32⟩
  | 94 => ⟨S64x32, .f32⟩
  | 95 => ⟨S64x32x32x12, .f32⟩
  | 96 => ⟨S32x64x32x12, .f32⟩
  | 97 => ⟨S32x64x32x12, .f32⟩
  | 98 => ⟨S1x64x1x1, .f32⟩
  | 99 => ⟨S32x64x32x12, .f32⟩
  | 100 => ⟨S32x64x32x12, .f32⟩
  | 101 => ⟨S_, .f32⟩
  | 102 => ⟨S32x64x32x12, .f32⟩
  | 103 => ⟨S32x64x32x12, .f32⟩
  | 104 => ⟨S32x64x32x39, .f32⟩
  | 105 => ⟨S32x32x64x39, .f32⟩
  | 106 => ⟨S32x32x39x64, .f32⟩
  | 107 => ⟨S1024x2496, .f32⟩
  | 108 => ⟨S1x992, .f32⟩
  | 109 => ⟨S1x248, .f32⟩
  | 110 => ⟨S_, .f32⟩
  | 111 => ⟨S1x248, .f32⟩
  | 112 => ⟨S1x248, .i1⟩
  | 113 => ⟨S_, .f32⟩
  | 114 => ⟨S1x248, .f32⟩
  | 115 => ⟨S1x248, .i1⟩
  | 116 => ⟨S_, .f32⟩
  | 117 => ⟨S_, .f32⟩
  | 118 => ⟨S1x248, .f32⟩
  | 119 => ⟨S1x248, .f32⟩
  | 120 => ⟨S1x248, .f32⟩
  | 121 => ⟨S_, .f32⟩
  | 122 => ⟨S1x248, .f32⟩
  | 123 => ⟨S1x248, .f32⟩
  | 124 => ⟨S1x248, .f32⟩
  | 125 => ⟨S1x992, .f32⟩
  | 126 => ⟨S1x992, .f32⟩
  | 127 => ⟨S_, .f32⟩
  | _ => ⟨S1024x60, .f32⟩

abbrev hbmTy0_3 (i : Nat) : BufTy := match i % 128 with
  | 0 => ⟨S1x992, .f32⟩
  | 1 => ⟨S1x992, .f32⟩
  | 2 => ⟨S992x1, .f32⟩
  | 3 => ⟨S1x992x1x1, .f32⟩
  | 4 => ⟨S32x992x1x1, .f32⟩
  | 5 => ⟨S31744x1, .f32⟩
  | 6 => ⟨S31744, .f32⟩
  | 7 => ⟨S_, .f32⟩
  | 8 => ⟨S1024, .f32⟩
  | 9 => ⟨S31744x1, .i32⟩
  | 10 => ⟨S1024, .f32⟩
  | 11 => ⟨S_, .f32⟩
  | 12 => ⟨S1024, .f32⟩
  | 13 => ⟨S1024, .i1⟩
  | 14 => ⟨S_, .f32⟩
  | 15 => ⟨S_, .f32⟩
  | 16 => ⟨S1024, .f32⟩
  | 17 => ⟨S1024, .f32⟩
  | 18 => ⟨S_, .f32⟩
  | 19 => ⟨S1024, .f32⟩
  | 20 => ⟨S1024, .i1⟩
  | 21 => ⟨S1024, .f32⟩
  | 22 => ⟨S_, .f32⟩
  | 23 => ⟨S1024, .f32⟩
  | 24 => ⟨S1024, .f32⟩
  | 25 => ⟨S_, .f32⟩
  | 26 => ⟨S_, .f32⟩
  | 27 => ⟨S1024, .f32⟩
  | 28 => ⟨S1024, .f32⟩
  | 29 => ⟨S_, .i32⟩
  | 30 => ⟨S31744, .i32⟩
  | 31 => ⟨S31744, .i1⟩
  | 32 => ⟨S_, .i32⟩
  | 33 => ⟨S31744, .i32⟩
  | 34 => ⟨S31744, .i32⟩
  | 35 => ⟨S31744, .i32⟩
  | 36 => ⟨S31744x1, .i32⟩
  | 37 => ⟨S31744, .f32⟩
  | 38 => ⟨S31744, .f32⟩
  | 39 => ⟨S_, .i32⟩
  | 40 => ⟨S31744, .i32⟩
  | 41 => ⟨S31744, .i1⟩
  | 42 => ⟨S_, .i32⟩
  | 43 => ⟨S31744, .i32⟩
  | 44 => ⟨S31744, .i32⟩
  | 45 => ⟨S31744, .i32⟩
  | 46 => ⟨S31744x1, .i32⟩
  | 47 => ⟨S31744, .f32⟩
  | 48 => ⟨S31744, .f32⟩
  | 49 => ⟨S31744, .f32⟩
  | 50 => ⟨S1x2496x256, .f32⟩
  | 51 => ⟨S2496x256, .f32⟩
  | 52 => ⟨S1024x256, .f32⟩
  | 53 => ⟨S_, .i32⟩
  | 54 => ⟨S31744, .i32⟩
  | 55 => ⟨S31744, .i1⟩
  | 56 => ⟨S_, .i32⟩
  | 57 => ⟨S31744, .i32⟩
  | 58 => ⟨S31744, .i32⟩
  | 59 => ⟨S31744, .i32⟩
  | 60 => ⟨S31744x1, .i32⟩
  | 61 => ⟨S31744x2496, .f32⟩
  | 62 => ⟨S31744x1, .f32⟩
  | 63 => ⟨S31744x2496, .f32⟩
  | 64 => ⟨S31744x2496, .f32⟩
  | 65 => ⟨S_, .f32⟩
  | 66 => ⟨S1024x2496, .f32⟩
  | 67 => ⟨S31744x1, .i32⟩
  | 68 => ⟨S1024x2496, .f32⟩
  | 69 => ⟨S1x2496x256, .f32⟩
  | 70 => ⟨S2496x256, .f32⟩
  | 71 => ⟨S1024x256, .f32⟩
  | 72 => ⟨S1024x256, .f32⟩
  | 73 => ⟨S_, .i32⟩
  | 74 => ⟨S31744, .i32⟩
  | 75 => ⟨S31744, .i1⟩
  | 76 => ⟨S_, .i32⟩
  | 77 => ⟨S31744, .i32⟩
  | 78 => ⟨S31744, .i32⟩
  | 79 => ⟨S31744, .i32⟩
  | 80 => ⟨S31744x1, .i32⟩
  | 81 => ⟨S31744x2496, .f32⟩
  | 82 => ⟨S31744x1, .f32⟩
  | 83 => ⟨S31744x2496, .f32⟩
  | 84 => ⟨S31744x2496, .f32⟩
  | 85 => ⟨S_, .f32⟩
  | 86 => ⟨S1024x2496, .f32⟩
  | 87 => ⟨S31744x1, .i32⟩
  | 88 => ⟨S1024x2496, .f32⟩
  | 89 => ⟨S_, .f32⟩
  | 90 => ⟨S1024x2496, .f32⟩
  | 91 => ⟨S1024x2496, .f32⟩
  | 92 => ⟨S1024x2496, .f32⟩
  | 93 => ⟨S1x2496x256, .f32⟩
  | 94 => ⟨S2496x256, .f32⟩
  | 95 => ⟨S1024x256, .f32⟩
  | 96 => ⟨S1024x256, .f32⟩
  | 97 => ⟨S_, .i32⟩
  | 98 => ⟨S31744, .i32⟩
  | 99 => ⟨S31744, .i1⟩
  | 100 => ⟨S_, .i32⟩
  | 101 => ⟨S31744, .i32⟩
  | 102 => ⟨S31744, .i32⟩
  | 103 => ⟨S31744, .i32⟩
  | 104 => ⟨S31744x1, .i32⟩
  | 105 => ⟨S31744x2496, .f32⟩
  | 106 => ⟨S31744x1, .f32⟩
  | 107 => ⟨S31744x2496, .f32⟩
  | 108 => ⟨S31744x2496, .f32⟩
  | 109 => ⟨S_, .f32⟩
  | 110 => ⟨S1024x2496, .f32⟩
  | 111 => ⟨S31744x1, .i32⟩
  | 112 => ⟨S1024x2496, .f32⟩
  | 113 => ⟨S_, .f32⟩
  | 114 => ⟨S1024x2496, .f32⟩
  | 115 => ⟨S1024x2496, .f32⟩
  | 116 => ⟨S1024x2496, .f32⟩
  | 117 => ⟨S1x2496x256, .f32⟩
  | 118 => ⟨S2496x256, .f32⟩
  | 119 => ⟨S1024x256, .f32⟩
  | 120 => ⟨S1024x256, .f32⟩
  | 121 => ⟨S_, .i32⟩
  | 122 => ⟨S31744, .i32⟩
  | 123 => ⟨S31744, .i1⟩
  | 124 => ⟨S_, .i32⟩
  | 125 => ⟨S31744, .i32⟩
  | 126 => ⟨S31744, .i32⟩
  | 127 => ⟨S31744, .i32⟩
  | _ => ⟨S1024x60, .f32⟩

abbrev hbmTy0_4 (i : Nat) : BufTy := match i % 128 with
  | 0 => ⟨S31744x1, .i32⟩
  | 1 => ⟨S31744x2496, .f32⟩
  | 2 => ⟨S31744x1, .f32⟩
  | 3 => ⟨S31744x2496, .f32⟩
  | 4 => ⟨S31744x2496, .f32⟩
  | 5 => ⟨S_, .f32⟩
  | 6 => ⟨S1024x2496, .f32⟩
  | 7 => ⟨S31744x1, .i32⟩
  | 8 => ⟨S1024x2496, .f32⟩
  | 9 => ⟨S_, .f32⟩
  | 10 => ⟨S1024x2496, .f32⟩
  | 11 => ⟨S1024x2496, .f32⟩
  | 12 => ⟨S1024x2496, .f32⟩
  | 13 => ⟨S1x2496x256, .f32⟩
  | 14 => ⟨S2496x256, .f32⟩
  | 15 => ⟨S1024x256, .f32⟩
  | 16 => ⟨S1024x256, .f32⟩
  | 17 => ⟨S1x256, .f32⟩
  | 18 => ⟨S1024x256, .f32⟩
  | 19 => ⟨S1024x256, .f32⟩
  | 20 => ⟨S_, .f32⟩
  | 21 => ⟨S1024x256, .f32⟩
  | 22 => ⟨S1024x256, .f32⟩
  | 23 => ⟨S31744, .f32⟩
  | 24 => ⟨S_, .f32⟩
  | 25 => ⟨S1024, .f32⟩
  | 26 => ⟨S31744x1, .i32⟩
  | 27 => ⟨S1024, .f32⟩
  | 28 => ⟨S_, .f32⟩
  | 29 => ⟨S1024, .f32⟩
  | 30 => ⟨S1024, .i1⟩
  | 31 => ⟨S_, .f32⟩
  | 32 => ⟨S_, .f32⟩
  | 33 => ⟨S1024, .f32⟩
  | 34 => ⟨S1024, .f32⟩
  | 35 => ⟨S_, .f32⟩
  | 36 => ⟨S1024, .f32⟩
  | 37 => ⟨S1024, .i1⟩
  | 38 => ⟨S1024, .f32⟩
  | 39 => ⟨S_, .f32⟩
  | 40 => ⟨S1024, .f32⟩
  | 41 => ⟨S1024, .f32⟩
  | 42 => ⟨S_, .f32⟩
  | 43 => ⟨S_, .f32⟩
  | 44 => ⟨S1024, .f32⟩
  | 45 => ⟨S1024, .f32⟩
  | 46 => ⟨S_, .i32⟩
  | 47 => ⟨S31744, .i32⟩
  | 48 => ⟨S31744, .i1⟩
  | 49 => ⟨S_, .i32⟩
  | 50 => ⟨S31744, .i32⟩
  | 51 => ⟨S31744, .i32⟩
  | 52 => ⟨S31744, .i32⟩
  | 53 => ⟨S31744x1, .i32⟩
  | 54 => ⟨S31744, .f32⟩
  | 55 => ⟨S31744, .f32⟩
  | 56 => ⟨S_, .i32⟩
  | 57 => ⟨S31744, .i32⟩
  | 58 => ⟨S31744, .i1⟩
  | 59 => ⟨S_, .i32⟩
  | 60 => ⟨S31744, .i32⟩
  | 61 => ⟨S31744, .i32⟩
  | 62 => ⟨S31744, .i32⟩
  | 63 => ⟨S31744x1, .i32⟩
  | 64 => ⟨S31744, .f32⟩
  | 65 => ⟨S31744, .f32⟩
  | 66 => ⟨S31744, .f32⟩
  | 67 => ⟨S1x256x64, .f32⟩
  | 68 => ⟨S256x64, .f32⟩
  | 69 => ⟨S1024x64, .f32⟩
  | 70 => ⟨S_, .i32⟩
  | 71 => ⟨S31744, .i32⟩
  | 72 => ⟨S31744, .i1⟩
  | 73 => ⟨S_, .i32⟩
  | 74 => ⟨S31744, .i32⟩
  | 75 => ⟨S31744, .i32⟩
  | 76 => ⟨S31744, .i32⟩
  | 77 => ⟨S31744x1, .i32⟩
  | 78 => ⟨S31744x256, .f32⟩
  | 79 => ⟨S31744x1, .f32⟩
  | 80 => ⟨S31744x256, .f32⟩
  | 81 => ⟨S31744x256, .f32⟩
  | 82 => ⟨S_, .f32⟩
  | 83 => ⟨S1024x256, .f32⟩
  | 84 => ⟨S31744x1, .i32⟩
  | 85 => ⟨S1024x256, .f32⟩
  | 86 => ⟨S1x256x64, .f32⟩
  | 87 => ⟨S256x64, .f32⟩
  | 88 => ⟨S1024x64, .f32⟩
  | 89 => ⟨S1024x64, .f32⟩
  | 90 => ⟨S_, .i32⟩
  | 91 => ⟨S31744, .i32⟩
  | 92 => ⟨S31744, .i1⟩
  | 93 => ⟨S_, .i32⟩
  | 94 => ⟨S31744, .i32⟩
  | 95 => ⟨S31744, .i32⟩
  | 96 => ⟨S31744, .i32⟩
  | 97 => ⟨S31744x1, .i32⟩
  | 98 => ⟨S31744x256, .f32⟩
  | 99 => ⟨S31744x1, .f32⟩
  | 100 => ⟨S31744x256, .f32⟩
  | 101 => ⟨S31744x256, .f32⟩
  | 102 => ⟨S_, .f32⟩
  | 103 => ⟨S1024x256, .f32⟩
  | 104 => ⟨S31744x1, .i32⟩
  | 105 => ⟨S1024x256, .f32⟩
  | 106 => ⟨S_, .f32⟩
  | 107 => ⟨S1024x256, .f32⟩
  | 108 => ⟨S1024x256, .f32⟩
  | 109 => ⟨S1024x256, .f32⟩
  | 110 => ⟨S1x256x64, .f32⟩
  | 111 => ⟨S256x64, .f32⟩
  | 112 => ⟨S1024x64, .f32⟩
  | 113 => ⟨S1024x64, .f32⟩
  | 114 => ⟨S_, .i32⟩
  | 115 => ⟨S31744, .i32⟩
  | 116 => ⟨S31744, .i1⟩
  | 117 => ⟨S_, .i32⟩
  | 118 => ⟨S31744, .i32⟩
  | 119 => ⟨S31744, .i32⟩
  | 120 => ⟨S31744, .i32⟩
  | 121 => ⟨S31744x1, .i32⟩
  | 122 => ⟨S31744x256, .f32⟩
  | 123 => ⟨S31744x1, .f32⟩
  | 124 => ⟨S31744x256, .f32⟩
  | 125 => ⟨S31744x256, .f32⟩
  | 126 => ⟨S_, .f32⟩
  | 127 => ⟨S1024x256, .f32⟩
  | _ => ⟨S1024x60, .f32⟩

abbrev hbmTy0_5 (i : Nat) : BufTy := match i % 128 with
  | 0 => ⟨S31744x1, .i32⟩
  | 1 => ⟨S1024x256, .f32⟩
  | 2 => ⟨S_, .f32⟩
  | 3 => ⟨S1024x256, .f32⟩
  | 4 => ⟨S1024x256, .f32⟩
  | 5 => ⟨S1024x256, .f32⟩
  | 6 => ⟨S1x256x64, .f32⟩
  | 7 => ⟨S256x64, .f32⟩
  | 8 => ⟨S1024x64, .f32⟩
  | 9 => ⟨S1024x64, .f32⟩
  | 10 => ⟨S_, .i32⟩
  | 11 => ⟨S31744, .i32⟩
  | 12 => ⟨S31744, .i1⟩
  | 13 => ⟨S_, .i32⟩
  | 14 => ⟨S31744, .i32⟩
  | 15 => ⟨S31744, .i32⟩
  | 16 => ⟨S31744, .i32⟩
  | 17 => ⟨S31744x1, .i32⟩
  | 18 => ⟨S31744x256, .f32⟩
  | 19 => ⟨S31744x1, .f32⟩
  | 20 => ⟨S31744x256, .f32⟩
  | 21 => ⟨S31744x256, .f32⟩
  | 22 => ⟨S_, .f32⟩
  | 23 => ⟨S1024x256, .f32⟩
  | 24 => ⟨S31744x1, .i32⟩
  | 25 => ⟨S1024x256, .f32⟩
  | 26 => ⟨S_, .f32⟩
  | 27 => ⟨S1024x256, .f32⟩
  | 28 => ⟨S1024x256, .f32⟩
  | 29 => ⟨S1024x256, .f32⟩
  | 30 => ⟨S1x256x64, .f32⟩
  | 31 => ⟨S256x64, .f32⟩
  | 32 => ⟨S1024x64, .f32⟩
  | 33 => ⟨S1024x64, .f32⟩
  | 34 => ⟨S1x64, .f32⟩
  | 35 => ⟨S1024x64, .f32⟩
  | 36 => ⟨S1024x64, .f32⟩
  | 37 => ⟨S1024x64, .f32⟩
  | 38 => ⟨S_, .i32⟩
  | 39 => ⟨S256, .i32⟩
  | 40 => ⟨S256, .i1⟩
  | 41 => ⟨S_, .i32⟩
  | 42 => ⟨S256, .i32⟩
  | 43 => ⟨S256, .i32⟩
  | 44 => ⟨S256, .i32⟩
  | 45 => ⟨S256x1, .i32⟩
  | 46 => ⟨S256x64, .f32⟩
  | 47 => ⟨S1024x64, .f32⟩
  | 48 => ⟨S31744, .f32⟩
  | 49 => ⟨S_, .f32⟩
  | 50 => ⟨S1024, .f32⟩
  | 51 => ⟨S31744x1, .i32⟩
  | 52 => ⟨S1024, .f32⟩
  | 53 => ⟨S_, .f32⟩
  | 54 => ⟨S1024, .f32⟩
  | 55 => ⟨S1024, .i1⟩
  | 56 => ⟨S_, .f32⟩
  | 57 => ⟨S_, .f32⟩
  | 58 => ⟨S1024, .f32⟩
  | 59 => ⟨S1024, .f32⟩
  | 60 => ⟨S_, .f32⟩
  | 61 => ⟨S1024, .f32⟩
  | 62 => ⟨S1024, .i1⟩
  | 63 => ⟨S1024, .f32⟩
  | 64 => ⟨S_, .f32⟩
  | 65 => ⟨S1024, .f32⟩
  | 66 => ⟨S1024, .f32⟩
  | 67 => ⟨S_, .f32⟩
  | 68 => ⟨S_, .f32⟩
  | 69 => ⟨S1024, .f32⟩
  | 70 => ⟨S1024, .f32⟩
  | 71 => ⟨S_, .i32⟩
  | 72 => ⟨S31744, .i32⟩
  | 73 => ⟨S31744, .i1⟩
  | 74 => ⟨S_, .i32⟩
  | 75 => ⟨S31744, .i32⟩
  | 76 => ⟨S31744, .i32⟩
  | 77 => ⟨S31744, .i32⟩
  | 78 => ⟨S31744x1, .i32⟩
  | 79 => ⟨S31744, .f32⟩
  | 80 => ⟨S31744, .f32⟩
  | 81 => ⟨S_, .i32⟩
  | 82 => ⟨S31744, .i32⟩
  | 83 => ⟨S31744, .i1⟩
  | 84 => ⟨S_, .i32⟩
  | 85 => ⟨S31744, .i32⟩
  | 86 => ⟨S31744, .i32⟩
  | 87 => ⟨S31744, .i32⟩
  | 88 => ⟨S31744x1, .i32⟩
  | 89 => ⟨S31744, .f32⟩
  | 90 => ⟨S31744, .f32⟩
  | 91 => ⟨S31744, .f32⟩
  | 92 => ⟨S1x64x256, .f32⟩
  | 93 => ⟨S64x256, .f32⟩
  | 94 => ⟨S1024x256, .f32⟩
  | 95 => ⟨S_, .i32⟩
  | 96 => ⟨S31744, .i32⟩
  | 97 => ⟨S31744, .i1⟩
  | 98 => ⟨S_, .i32⟩
  | 99 => ⟨S31744, .i32⟩
  | 100 => ⟨S31744, .i32⟩
  | 101 => ⟨S31744, .i32⟩
  | 102 => ⟨S31744x1, .i32⟩
  | 103 => ⟨S31744x64, .f32⟩
  | 104 => ⟨S31744x1, .f32⟩
  | 105 => ⟨S31744x64, .f32⟩
  | 106 => ⟨S31744x64, .f32⟩
  | 107 => ⟨S_, .f32⟩
  | 108 => ⟨S1024x64, .f32⟩
  | 109 => ⟨S31744x1, .i32⟩
  | 110 => ⟨S1024x64, .f32⟩
  | 111 => ⟨S1x64x256, .f32⟩
  | 112 => ⟨S64x256, .f32⟩
  | 113 => ⟨S1024x256, .f32⟩
  | 114 => ⟨S1024x256, .f32⟩
  | 115 => ⟨S_, .i32⟩
  | 116 => ⟨S31744, .i32⟩
  | 117 => ⟨S31744, .i1⟩
  | 118 => ⟨S_, .i32⟩
  | 119 => ⟨S31744, .i32⟩
  | 120 => ⟨S31744, .i32⟩
  | 121 => ⟨S31744, .i32⟩
  | 122 => ⟨S31744x1, .i32⟩
  | 123 => ⟨S31744x64, .f32⟩
  | 124 => ⟨S31744x1, .f32⟩
  | 125 => ⟨S31744x64, .f32⟩
  | 126 => ⟨S31744x64, .f32⟩
  | 127 => ⟨S_, .f32⟩
  | _ => ⟨S1024x60, .f32⟩

abbrev hbmTy0_6 (i : Nat) : BufTy := match i % 128 with
  | 0 => ⟨S1024x64, .f32⟩
  | 1 => ⟨S31744x1, .i32⟩
  | 2 => ⟨S1024x64, .f32⟩
  | 3 => ⟨S_, .f32⟩
  | 4 => ⟨S1024x64, .f32⟩
  | 5 => ⟨S1024x64, .f32⟩
  | 6 => ⟨S1024x64, .f32⟩
  | 7 => ⟨S1x64x256, .f32⟩
  | 8 => ⟨S64x256, .f32⟩
  | 9 => ⟨S1024x256, .f32⟩
  | 10 => ⟨S1024x256, .f32⟩
  | 11 => ⟨S_, .i32⟩
  | 12 => ⟨S31744, .i32⟩
  | 13 => ⟨S31744, .i1⟩
  | 14 => ⟨S_, .i32⟩
  | 15 => ⟨S31744, .i32⟩
  | 16 => ⟨S31744, .i32⟩
  | 17 => ⟨S31744, .i32⟩
  | 18 => ⟨S31744x1, .i32⟩
  | 19 => ⟨S31744x64, .f32⟩
  | 20 => ⟨S31744x1, .f32⟩
  | 21 => ⟨S31744x64, .f32⟩
  | 22 => ⟨S31744x64, .f32⟩
  | 23 => ⟨S_, .f32⟩
  | 24 => ⟨S1024x64, .f32⟩
  | 25 => ⟨S31744x1, .i32⟩
  | 26 => ⟨S1024x64, .f32⟩
  | 27 => ⟨S_, .f32⟩
  | 28 => ⟨S1024x64, .f32⟩
  | 29 => ⟨S1024x64, .f32⟩
  | 30 => ⟨S1024x64, .f32⟩
  | 31 => ⟨S1x64x256, .f32⟩
  | 32 => ⟨S64x256, .f32⟩
  | 33 => ⟨S1024x256, .f32⟩
  | 34 => ⟨S1024x256, .f32⟩
  | 35 => ⟨S_, .i32⟩
  | 36 => ⟨S31744, .i32⟩
  | 37 => ⟨S31744, .i1⟩
  | 38 => ⟨S_, .i32⟩
  | 39 => ⟨S31744, .i32⟩
  | 40 => ⟨S31744, .i32⟩
  | 41 => ⟨S31744, .i32⟩
  | 42 => ⟨S31744x1, .i32⟩
  | 43 => ⟨S31744x64, .f32⟩
  | 44 => ⟨S31744x1, .f32⟩
  | 45 => ⟨S31744x64, .f32⟩
  | 46 => ⟨S31744x64, .f32⟩
  | 47 => ⟨S_, .f32⟩
  | 48 => ⟨S1024x64, .f32⟩
  | 49 => ⟨S31744x1, .i32⟩
  | 50 => ⟨S1024x64, .f32⟩
  | 51 => ⟨S_, .f32⟩
  | 52 => ⟨S1024x64, .f32⟩
  | 53 => ⟨S1024x64, .f32⟩
  | 54 => ⟨S1024x64, .f32⟩
  | 55 => ⟨S1x64x256, .f32⟩
  | 56 => ⟨S64x256, .f32⟩
  | 57 => ⟨S1024x256, .f32⟩
  | 58 => ⟨S1024x256, .f32⟩
  | 59 => ⟨S1x256, .f32⟩
  | 60 => ⟨S1024x256, .f32⟩
  | 61 => ⟨S1024x256, .f32⟩
  | 62 => ⟨S_, .f32⟩
  | 63 => ⟨S1024x256, .f32⟩
  | 64 => ⟨S1024x256, .f32⟩
  | 65 => ⟨S31744, .f32⟩
  | 66 => ⟨S_, .f32⟩
  | 67 => ⟨S1024, .f32⟩
  | 68 => ⟨S31744x1, .i32⟩
  | 69 => ⟨S1024, .f32⟩
  | 70 => ⟨S_, .f32⟩
  | 71 => ⟨S1024, .f32⟩
  | 72 => ⟨S1024, .i1⟩
  | 73 => ⟨S_, .f32⟩
  | 74 => ⟨S_, .f32⟩
  | 75 => ⟨S1024, .f32⟩
  | 76 => ⟨S1024, .f32⟩
  | 77 => ⟨S_, .f32⟩
  | 78 => ⟨S1024, .f32⟩
  | 79 => ⟨S1024, .i1⟩
  | 80 => ⟨S1024, .f32⟩
  | 81 => ⟨S_, .f32⟩
  | 82 => ⟨S1024, .f32⟩
  | 83 => ⟨S1024, .f32⟩
  | 84 => ⟨S_, .f32⟩
  | 85 => ⟨S_, .f32⟩
  | 86 => ⟨S1024, .f32⟩
  | 87 => ⟨S1024, .f32⟩
  | 88 => ⟨S_, .i32⟩
  | 89 => ⟨S31744, .i32⟩
  | 90 => ⟨S31744, .i1⟩
  | 91 => ⟨S_, .i32⟩
  | 92 => ⟨S31744, .i32⟩
  | 93 => ⟨S31744, .i32⟩
  | 94 => ⟨S31744, .i32⟩
  | 95 => ⟨S31744x1, .i32⟩
  | 96 => ⟨S31744, .f32⟩
  | 97 => ⟨S31744, .f32⟩
  | 98 => ⟨S_, .i32⟩
  | 99 => ⟨S31744, .i32⟩
  | 100 => ⟨S31744, .i1⟩
  | 101 => ⟨S_, .i32⟩
  | 102 => ⟨S31744, .i32⟩
  | 103 => ⟨S31744, .i32⟩
  | 104 => ⟨S31744, .i32⟩
  | 105 => ⟨S31744x1, .i32⟩
  | 106 => ⟨S31744, .f32⟩
  | 107 => ⟨S31744, .f32⟩
  | 108 => ⟨S31744, .f32⟩
  | 109 => ⟨S1x256x2496, .f32⟩
  | 110 => ⟨S256x2496, .f32⟩
  | 111 => ⟨S1024x2496, .f32⟩
  | 112 => ⟨S_, .i32⟩
  | 113 => ⟨S31744, .i32⟩
  | 114 => ⟨S31744, .i1⟩
  | 115 => ⟨S_, .i32⟩
  | 116 => ⟨S31744, .i32⟩
  | 117 => ⟨S31744, .i32⟩
  | 118 => ⟨S31744, .i32⟩
  | 119 => ⟨S31744x1, .i32⟩
  | 120 => ⟨S31744x256, .f32⟩
  | 121 => ⟨S31744x1, .f32⟩
  | 122 => ⟨S31744x256, .f32⟩
  | 123 => ⟨S31744x256, .f32⟩
  | 124 => ⟨S_, .f32⟩
  | 125 => ⟨S1024x256, .f32⟩
  | 126 => ⟨S31744x1, .i32⟩
  | 127 => ⟨S1024x256, .f32⟩
  | _ => ⟨S1024x60, .f32⟩

abbrev hbmTy0_7 (i : Nat) : BufTy := match i % 128 with
  | 0 => ⟨S1x256x2496, .f32⟩
  | 1 => ⟨S256x2496, .f32⟩
  | 2 => ⟨S1024x2496, .f32⟩
  | 3 => ⟨S1024x2496, .f32⟩
  | 4 => ⟨S_, .i32⟩
  | 5 => ⟨S31744, .i32⟩
  | 6 => ⟨S31744, .i1⟩
  | 7 => ⟨S_, .i32⟩
  | 8 => ⟨S31744, .i32⟩
  | 9 => ⟨S31744, .i32⟩
  | 10 => ⟨S31744, .i32⟩
  | 11 => ⟨S31744x1, .i32⟩
  | 12 => ⟨S31744x256, .f32⟩
  | 13 => ⟨S31744x1, .f32⟩
  | 14 => ⟨S31744x256, .f32⟩
  | 15 => ⟨S31744x256, .f32⟩
  | 16 => ⟨S_, .f32⟩
  | 17 => ⟨S1024x256, .f32⟩
  | 18 => ⟨S31744x1, .i32⟩
  | 19 => ⟨S1024x256, .f32⟩
  | 20 => ⟨S_, .f32⟩
  | 21 => ⟨S1024x256, .f32⟩
  | 22 => ⟨S1024x256, .f32⟩
  | 23 => ⟨S1024x256, .f32⟩
  | 24 => ⟨S1x256x2496, .f32⟩
  | 25 => ⟨S256x2496, .f32⟩
  | 26 => ⟨S1024x2496, .f32⟩
  | 27 => ⟨S1024x2496, .f32⟩
  | 28 => ⟨S_, .i32⟩
  | 29 => ⟨S31744, .i32⟩
  | 30 => ⟨S31744, .i1⟩
  | 31 => ⟨S_, .i32⟩
  | 32 => ⟨S31744, .i32⟩
  | 33 => ⟨S31744, .i32⟩
  | 34 => ⟨S31744, .i32⟩
  | 35 => ⟨S31744x1, .i32⟩
  | 36 => ⟨S31744x256, .f32⟩
  | 37 => ⟨S31744x1, .f32⟩
  | 38 => ⟨S31744x256, .f32⟩
  | 39 => ⟨S31744x256, .f32⟩
  | 40 => ⟨S_, .f32⟩
  | 41 => ⟨S1024x256, .f32⟩
  | 42 => ⟨S31744x1, .i32⟩
  | 43 => ⟨S1024x256, .f32⟩
  | 44 => ⟨S_, .f32⟩
  | 45 => ⟨S1024x256, .f32⟩
  | 46 => ⟨S1024x256, .f32⟩
  | 47 => ⟨S1024x256, .f32⟩
  | 48 => ⟨S1x256x2496, .f32⟩
  | 49 => ⟨S256x2496, .f32⟩
  | 50 => ⟨S1024x2496, .f32⟩
  | 51 => ⟨S1024x2496, .f32⟩
  | 52 => ⟨S_, .i32⟩
  | 53 => ⟨S31744, .i32⟩
  | 54 => ⟨S31744, .i1⟩
  | 55 => ⟨S_, .i32⟩
  | 56 => ⟨S31744, .i32⟩
  | 57 => ⟨S31744, .i32⟩
  | 58 => ⟨S31744, .i32⟩
  | 59 => ⟨S31744x1, .i32⟩
  | 60 => ⟨S31744x256, .f32⟩
  | 61 => ⟨S31744x1, .f32⟩
  | 62 => ⟨S31744x256, .f32⟩
  | 63 => ⟨S31744x256, .f32⟩
  | 64 => ⟨S_, .f32⟩
  | 65 => ⟨S1024x256, .f32⟩
  | 66 => ⟨S31744x1, .i32⟩
  | 67 => ⟨S1024x256, .f32⟩
  | 68 => ⟨S_, .f32⟩
  | 69 => ⟨S1024x256, .f32⟩
  | 70 => ⟨S1024x256, .f32⟩
  | 71 => ⟨S1024x256, .f32⟩
  | 72 => ⟨S1x256x2496, .f32⟩
  | 73 => ⟨S256x2496, .f32⟩
  | 74 => ⟨S1024x2496, .f32⟩
  | 75 => ⟨S1024x2496, .f32⟩
  | 76 => ⟨S1x2496, .f32⟩
  | 77 => ⟨S1024x2496, .f32⟩
  | 78 => ⟨S1024x2496, .f32⟩
  | _ => ⟨S1024x60, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S1024x60, .f32⟩

abbrev bufTy : (tb : Table) → Fin (tcTables nBuf tb) → BufTy
  | .hbm, ⟨i, _⟩ => hbmTy i
  | _, _ => ⟨S1024x60, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_c : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_0 : Ref sig .tc := ⟨.hbm, 43, rfl⟩
abbrev main_v14 : Ref sig .tc := ⟨.hbm, 44, rfl⟩
abbrev main_v15 : Ref sig .tc := ⟨.hbm, 45, rfl⟩
abbrev main_c_1 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_2 : Ref sig .tc := ⟨.hbm, 54, rfl⟩
abbrev main_call0_v0 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_call1_cst : Ref sig .tc := ⟨.hbm, 86, rfl⟩
abbrev main_call1_v0 : Ref sig .tc := ⟨.hbm, 87, rfl⟩
abbrev main_v52 : Ref sig .tc := ⟨.hbm, 88, rfl⟩
abbrev main_c_3 : Ref sig .tc := ⟨.hbm, 89, rfl⟩
abbrev main_call2_v0 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_4 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_call3_cst : Ref sig .tc := ⟨.hbm, 121, rfl⟩
abbrev main_call3_v0 : Ref sig .tc := ⟨.hbm, 122, rfl⟩
abbrev main_v82 : Ref sig .tc := ⟨.hbm, 123, rfl⟩
abbrev main_c_5 : Ref sig .tc := ⟨.hbm, 124, rfl⟩
abbrev main_call4_v0 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_6 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_call5_cst : Ref sig .tc := ⟨.hbm, 180, rfl⟩
abbrev main_call5_v0 : Ref sig .tc := ⟨.hbm, 181, rfl⟩
abbrev main_v136 : Ref sig .tc := ⟨.hbm, 182, rfl⟩
abbrev main_c_7 : Ref sig .tc := ⟨.hbm, 183, rfl⟩
abbrev main_call6_v0 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_8 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_call7_cst : Ref sig .tc := ⟨.hbm, 239, rfl⟩
abbrev main_call7_v0 : Ref sig .tc := ⟨.hbm, 240, rfl⟩
abbrev main_v190 : Ref sig .tc := ⟨.hbm, 241, rfl⟩
abbrev main_c_9 : Ref sig .tc := ⟨.hbm, 242, rfl⟩
abbrev main_call8_v0 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_cst_10 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_call9_cst : Ref sig .tc := ⟨.hbm, 298, rfl⟩
abbrev main_call9_v0 : Ref sig .tc := ⟨.hbm, 299, rfl⟩
abbrev main_v244 : Ref sig .tc := ⟨.hbm, 300, rfl⟩
abbrev main_c_11 : Ref sig .tc := ⟨.hbm, 301, rfl⟩
abbrev main_call10_v0 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_cst_12 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_v290 : Ref sig .tc := ⟨.hbm, 349, rfl⟩
abbrev main_v291 : Ref sig .tc := ⟨.hbm, 350, rfl⟩
abbrev main_v292 : Ref sig .tc := ⟨.hbm, 351, rfl⟩
abbrev main_v293 : Ref sig .tc := ⟨.hbm, 352, rfl⟩
abbrev main_v294 : Ref sig .tc := ⟨.hbm, 353, rfl⟩
abbrev main_v295 : Ref sig .tc := ⟨.hbm, 354, rfl⟩
abbrev main_v296 : Ref sig .tc := ⟨.hbm, 355, rfl⟩
abbrev main_v297 : Ref sig .tc := ⟨.hbm, 356, rfl⟩
abbrev main_call11_cst : Ref sig .tc := ⟨.hbm, 357, rfl⟩
abbrev main_call11_v0 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_call12_cst : Ref sig .tc := ⟨.hbm, 366, rfl⟩
abbrev main_call12_v0 : Ref sig .tc := ⟨.hbm, 367, rfl⟩
abbrev main_call12_v1 : Ref sig .tc := ⟨.hbm, 368, rfl⟩
abbrev main_call12_cst_0 : Ref sig .tc := ⟨.hbm, 369, rfl⟩
abbrev main_call12_v2 : Ref sig .tc := ⟨.hbm, 370, rfl⟩
abbrev main_call12_v3 : Ref sig .tc := ⟨.hbm, 371, rfl⟩
abbrev main_call12_cst_1 : Ref sig .tc := ⟨.hbm, 372, rfl⟩
abbrev main_call12_call0_v0 : Ref sig .tc := ⟨.hbm, 373, rfl⟩
abbrev main_call12_call0_v1 : Ref sig .tc := ⟨.hbm, 374, rfl⟩
abbrev main_call12_v4 : Ref sig .tc := ⟨.hbm, 375, rfl⟩
abbrev main_call12_v5 : Ref sig .tc := ⟨.hbm, 376, rfl⟩
abbrev main_call12_cst_2 : Ref sig .tc := ⟨.hbm, 377, rfl⟩
abbrev main_call12_v6 : Ref sig .tc := ⟨.hbm, 378, rfl⟩
abbrev main_call12_v7 : Ref sig .tc := ⟨.hbm, 379, rfl⟩
abbrev main_v305 : Ref sig .tc := ⟨.hbm, 380, rfl⟩
abbrev main_v306 : Ref sig .tc := ⟨.hbm, 381, rfl⟩
abbrev main_v307 : Ref sig .tc := ⟨.hbm, 382, rfl⟩
abbrev main_call13_cst : Ref sig .tc := ⟨.hbm, 383, rfl⟩
abbrev main_call13_v0 : Ref sig .tc := ⟨.hbm, 384, rfl⟩
abbrev main_v308 : Ref sig .tc := ⟨.hbm, 385, rfl⟩
abbrev main_v309 : Ref sig .tc := ⟨.hbm, 386, rfl⟩
abbrev main_v310 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_cst_13 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_cst_14 : Ref sig .tc := ⟨.hbm, 395, rfl⟩
abbrev main_v317 : Ref sig .tc := ⟨.hbm, 396, rfl⟩
abbrev main_v318 : Ref sig .tc := ⟨.hbm, 397, rfl⟩
abbrev main_cst_15 : Ref sig .tc := ⟨.hbm, 398, rfl⟩
abbrev main_call14_v0 : Ref sig .tc := ⟨.hbm, 399, rfl⟩
abbrev main_call14_v1 : Ref sig .tc := ⟨.hbm, 400, rfl⟩
abbrev main_v319 : Ref sig .tc := ⟨.hbm, 401, rfl⟩
abbrev main_cst_16 : Ref sig .tc := ⟨.hbm, 402, rfl⟩
abbrev main_v320 : Ref sig .tc := ⟨.hbm, 403, rfl⟩
abbrev main_v321 : Ref sig .tc := ⟨.hbm, 404, rfl⟩
abbrev main_v322 : Ref sig .tc := ⟨.hbm, 405, rfl⟩
abbrev main_cst_17 : Ref sig .tc := ⟨.hbm, 406, rfl⟩
abbrev main_v323 : Ref sig .tc := ⟨.hbm, 407, rfl⟩
abbrev main_v324 : Ref sig .tc := ⟨.hbm, 408, rfl⟩
abbrev main_cst_18 : Ref sig .tc := ⟨.hbm, 409, rfl⟩
abbrev main_call15_v0 : Ref sig .tc := ⟨.hbm, 410, rfl⟩
abbrev main_call15_v1 : Ref sig .tc := ⟨.hbm, 411, rfl⟩
abbrev main_v325 : Ref sig .tc := ⟨.hbm, 412, rfl⟩
abbrev main_c_19 : Ref sig .tc := ⟨.hbm, 413, rfl⟩
abbrev main_v326 : Ref sig .tc := ⟨.hbm, 414, rfl⟩
abbrev main_v327 : Ref sig .tc := ⟨.hbm, 415, rfl⟩
abbrev main_c_20 : Ref sig .tc := ⟨.hbm, 416, rfl⟩
abbrev main_v328 : Ref sig .tc := ⟨.hbm, 417, rfl⟩
abbrev main_v329 : Ref sig .tc := ⟨.hbm, 418, rfl⟩
abbrev main_v330 : Ref sig .tc := ⟨.hbm, 419, rfl⟩
abbrev main_v331 : Ref sig .tc := ⟨.hbm, 420, rfl⟩
abbrev main_v332 : Ref sig .tc := ⟨.hbm, 421, rfl⟩
abbrev main_v333 : Ref sig .tc := ⟨.hbm, 422, rfl⟩
abbrev main_c_21 : Ref sig .tc := ⟨.hbm, 423, rfl⟩
abbrev main_v334 : Ref sig .tc := ⟨.hbm, 424, rfl⟩
abbrev main_v335 : Ref sig .tc := ⟨.hbm, 425, rfl⟩
abbrev main_c_22 : Ref sig .tc := ⟨.hbm, 426, rfl⟩
abbrev main_v336 : Ref sig .tc := ⟨.hbm, 427, rfl⟩
abbrev main_v337 : Ref sig .tc := ⟨.hbm, 428, rfl⟩
abbrev main_v338 : Ref sig .tc := ⟨.hbm, 429, rfl⟩
abbrev main_v339 : Ref sig .tc := ⟨.hbm, 430, rfl⟩
abbrev main_v340 : Ref sig .tc := ⟨.hbm, 431, rfl⟩
abbrev main_v341 : Ref sig .tc := ⟨.hbm, 432, rfl⟩
abbrev main_v342 : Ref sig .tc := ⟨.hbm, 433, rfl⟩
abbrev main_v343 : Ref sig .tc := ⟨.hbm, 434, rfl⟩
abbrev main_v344 : Ref sig .tc := ⟨.hbm, 435, rfl⟩
abbrev main_v345 : Ref sig .tc := ⟨.hbm, 436, rfl⟩
abbrev main_c_23 : Ref sig .tc := ⟨.hbm, 437, rfl⟩
abbrev main_v346 : Ref sig .tc := ⟨.hbm, 438, rfl⟩
abbrev main_v347 : Ref sig .tc := ⟨.hbm, 439, rfl⟩
abbrev main_c_24 : Ref sig .tc := ⟨.hbm, 440, rfl⟩
abbrev main_v348 : Ref sig .tc := ⟨.hbm, 441, rfl⟩
abbrev main_v349 : Ref sig .tc := ⟨.hbm, 442, rfl⟩
abbrev main_v350 : Ref sig .tc := ⟨.hbm, 443, rfl⟩
abbrev main_v351 : Ref sig .tc := ⟨.hbm, 444, rfl⟩
abbrev main_v352 : Ref sig .tc := ⟨.hbm, 445, rfl⟩
abbrev main_v353 : Ref sig .tc := ⟨.hbm, 446, rfl⟩
abbrev main_v354 : Ref sig .tc := ⟨.hbm, 447, rfl⟩
abbrev main_v355 : Ref sig .tc := ⟨.hbm, 448, rfl⟩
abbrev main_cst_25 : Ref sig .tc := ⟨.hbm, 449, rfl⟩
abbrev main_v356 : Ref sig .tc := ⟨.hbm, 450, rfl⟩
abbrev main_v357 : Ref sig .tc := ⟨.hbm, 451, rfl⟩
abbrev main_v358 : Ref sig .tc := ⟨.hbm, 452, rfl⟩
abbrev main_v359 : Ref sig .tc := ⟨.hbm, 453, rfl⟩
abbrev main_v360 : Ref sig .tc := ⟨.hbm, 454, rfl⟩
abbrev main_v361 : Ref sig .tc := ⟨.hbm, 455, rfl⟩
abbrev main_v362 : Ref sig .tc := ⟨.hbm, 456, rfl⟩
abbrev main_c_26 : Ref sig .tc := ⟨.hbm, 457, rfl⟩
abbrev main_v363 : Ref sig .tc := ⟨.hbm, 458, rfl⟩
abbrev main_v364 : Ref sig .tc := ⟨.hbm, 459, rfl⟩
abbrev main_c_27 : Ref sig .tc := ⟨.hbm, 460, rfl⟩
abbrev main_v365 : Ref sig .tc := ⟨.hbm, 461, rfl⟩
abbrev main_v366 : Ref sig .tc := ⟨.hbm, 462, rfl⟩
abbrev main_v367 : Ref sig .tc := ⟨.hbm, 463, rfl⟩
abbrev main_v368 : Ref sig .tc := ⟨.hbm, 464, rfl⟩
abbrev main_v369 : Ref sig .tc := ⟨.hbm, 465, rfl⟩
abbrev main_v370 : Ref sig .tc := ⟨.hbm, 466, rfl⟩
abbrev main_v371 : Ref sig .tc := ⟨.hbm, 467, rfl⟩
abbrev main_v372 : Ref sig .tc := ⟨.hbm, 468, rfl⟩
abbrev main_cst_28 : Ref sig .tc := ⟨.hbm, 469, rfl⟩
abbrev main_v373 : Ref sig .tc := ⟨.hbm, 470, rfl⟩
abbrev main_v374 : Ref sig .tc := ⟨.hbm, 471, rfl⟩
abbrev main_v375 : Ref sig .tc := ⟨.hbm, 472, rfl⟩
abbrev main_cst_29 : Ref sig .tc := ⟨.hbm, 473, rfl⟩
abbrev main_v376 : Ref sig .tc := ⟨.hbm, 474, rfl⟩
abbrev main_v377 : Ref sig .tc := ⟨.hbm, 475, rfl⟩
abbrev main_v378 : Ref sig .tc := ⟨.hbm, 476, rfl⟩
abbrev main_v379 : Ref sig .tc := ⟨.hbm, 477, rfl⟩
abbrev main_v380 : Ref sig .tc := ⟨.hbm, 478, rfl⟩
abbrev main_v381 : Ref sig .tc := ⟨.hbm, 479, rfl⟩
abbrev main_v382 : Ref sig .tc := ⟨.hbm, 480, rfl⟩
abbrev main_c_30 : Ref sig .tc := ⟨.hbm, 481, rfl⟩
abbrev main_v383 : Ref sig .tc := ⟨.hbm, 482, rfl⟩
abbrev main_v384 : Ref sig .tc := ⟨.hbm, 483, rfl⟩
abbrev main_c_31 : Ref sig .tc := ⟨.hbm, 484, rfl⟩
abbrev main_v385 : Ref sig .tc := ⟨.hbm, 485, rfl⟩
abbrev main_v386 : Ref sig .tc := ⟨.hbm, 486, rfl⟩
abbrev main_v387 : Ref sig .tc := ⟨.hbm, 487, rfl⟩
abbrev main_v388 : Ref sig .tc := ⟨.hbm, 488, rfl⟩
abbrev main_v389 : Ref sig .tc := ⟨.hbm, 489, rfl⟩
abbrev main_v390 : Ref sig .tc := ⟨.hbm, 490, rfl⟩
abbrev main_v391 : Ref sig .tc := ⟨.hbm, 491, rfl⟩
abbrev main_v392 : Ref sig .tc := ⟨.hbm, 492, rfl⟩
abbrev main_cst_32 : Ref sig .tc := ⟨.hbm, 493, rfl⟩
abbrev main_v393 : Ref sig .tc := ⟨.hbm, 494, rfl⟩
abbrev main_v394 : Ref sig .tc := ⟨.hbm, 495, rfl⟩
abbrev main_v395 : Ref sig .tc := ⟨.hbm, 496, rfl⟩
abbrev main_cst_33 : Ref sig .tc := ⟨.hbm, 497, rfl⟩
abbrev main_v396 : Ref sig .tc := ⟨.hbm, 498, rfl⟩
abbrev main_v397 : Ref sig .tc := ⟨.hbm, 499, rfl⟩
abbrev main_v398 : Ref sig .tc := ⟨.hbm, 500, rfl⟩
abbrev main_v399 : Ref sig .tc := ⟨.hbm, 501, rfl⟩
abbrev main_v400 : Ref sig .tc := ⟨.hbm, 502, rfl⟩
abbrev main_v401 : Ref sig .tc := ⟨.hbm, 503, rfl⟩
abbrev main_v402 : Ref sig .tc := ⟨.hbm, 504, rfl⟩
abbrev main_c_34 : Ref sig .tc := ⟨.hbm, 505, rfl⟩
abbrev main_v403 : Ref sig .tc := ⟨.hbm, 506, rfl⟩
abbrev main_v404 : Ref sig .tc := ⟨.hbm, 507, rfl⟩
abbrev main_c_35 : Ref sig .tc := ⟨.hbm, 508, rfl⟩
abbrev main_v405 : Ref sig .tc := ⟨.hbm, 509, rfl⟩
abbrev main_v406 : Ref sig .tc := ⟨.hbm, 510, rfl⟩
abbrev main_v407 : Ref sig .tc := ⟨.hbm, 511, rfl⟩
abbrev main_v408 : Ref sig .tc := ⟨.hbm, 512, rfl⟩
abbrev main_v409 : Ref sig .tc := ⟨.hbm, 513, rfl⟩
abbrev main_v410 : Ref sig .tc := ⟨.hbm, 514, rfl⟩
abbrev main_v411 : Ref sig .tc := ⟨.hbm, 515, rfl⟩
abbrev main_v412 : Ref sig .tc := ⟨.hbm, 516, rfl⟩
abbrev main_cst_36 : Ref sig .tc := ⟨.hbm, 517, rfl⟩
abbrev main_v413 : Ref sig .tc := ⟨.hbm, 518, rfl⟩
abbrev main_v414 : Ref sig .tc := ⟨.hbm, 519, rfl⟩
abbrev main_v415 : Ref sig .tc := ⟨.hbm, 520, rfl⟩
abbrev main_cst_37 : Ref sig .tc := ⟨.hbm, 521, rfl⟩
abbrev main_v416 : Ref sig .tc := ⟨.hbm, 522, rfl⟩
abbrev main_v417 : Ref sig .tc := ⟨.hbm, 523, rfl⟩
abbrev main_v418 : Ref sig .tc := ⟨.hbm, 524, rfl⟩
abbrev main_v419 : Ref sig .tc := ⟨.hbm, 525, rfl⟩
abbrev main_v420 : Ref sig .tc := ⟨.hbm, 526, rfl⟩
abbrev main_v421 : Ref sig .tc := ⟨.hbm, 527, rfl⟩
abbrev main_v422 : Ref sig .tc := ⟨.hbm, 528, rfl⟩
abbrev main_v423 : Ref sig .tc := ⟨.hbm, 529, rfl⟩
abbrev main_v424 : Ref sig .tc := ⟨.hbm, 530, rfl⟩
abbrev main_v425 : Ref sig .tc := ⟨.hbm, 531, rfl⟩
abbrev main_call16_cst : Ref sig .tc := ⟨.hbm, 532, rfl⟩
abbrev main_call16_v0 : Ref sig .tc := ⟨.hbm, 533, rfl⟩
abbrev main_v426 : Ref sig .tc := ⟨.hbm, 534, rfl⟩
abbrev main_v427 : Ref sig .tc := ⟨.hbm, 535, rfl⟩
abbrev main_cst_38 : Ref sig .tc := ⟨.hbm, 536, rfl⟩
abbrev main_v428 : Ref sig .tc := ⟨.hbm, 537, rfl⟩
abbrev main_v429 : Ref sig .tc := ⟨.hbm, 538, rfl⟩
abbrev main_v430 : Ref sig .tc := ⟨.hbm, 539, rfl⟩
abbrev main_cst_39 : Ref sig .tc := ⟨.hbm, 540, rfl⟩
abbrev main_v431 : Ref sig .tc := ⟨.hbm, 541, rfl⟩
abbrev main_v432 : Ref sig .tc := ⟨.hbm, 542, rfl⟩
abbrev main_cst_40 : Ref sig .tc := ⟨.hbm, 543, rfl⟩
abbrev main_call17_v0 : Ref sig .tc := ⟨.hbm, 544, rfl⟩
abbrev main_call17_v1 : Ref sig .tc := ⟨.hbm, 545, rfl⟩
abbrev main_v433 : Ref sig .tc := ⟨.hbm, 546, rfl⟩
abbrev main_cst_41 : Ref sig .tc := ⟨.hbm, 547, rfl⟩
abbrev main_v434 : Ref sig .tc := ⟨.hbm, 548, rfl⟩
abbrev main_v435 : Ref sig .tc := ⟨.hbm, 549, rfl⟩
abbrev main_v436 : Ref sig .tc := ⟨.hbm, 550, rfl⟩
abbrev main_cst_42 : Ref sig .tc := ⟨.hbm, 551, rfl⟩
abbrev main_v437 : Ref sig .tc := ⟨.hbm, 552, rfl⟩
abbrev main_v438 : Ref sig .tc := ⟨.hbm, 553, rfl⟩
abbrev main_cst_43 : Ref sig .tc := ⟨.hbm, 554, rfl⟩
abbrev main_call18_v0 : Ref sig .tc := ⟨.hbm, 555, rfl⟩
abbrev main_call18_v1 : Ref sig .tc := ⟨.hbm, 556, rfl⟩
abbrev main_v439 : Ref sig .tc := ⟨.hbm, 557, rfl⟩
abbrev main_c_44 : Ref sig .tc := ⟨.hbm, 558, rfl⟩
abbrev main_v440 : Ref sig .tc := ⟨.hbm, 559, rfl⟩
abbrev main_v441 : Ref sig .tc := ⟨.hbm, 560, rfl⟩
abbrev main_c_45 : Ref sig .tc := ⟨.hbm, 561, rfl⟩
abbrev main_v442 : Ref sig .tc := ⟨.hbm, 562, rfl⟩
abbrev main_v443 : Ref sig .tc := ⟨.hbm, 563, rfl⟩
abbrev main_v444 : Ref sig .tc := ⟨.hbm, 564, rfl⟩
abbrev main_v445 : Ref sig .tc := ⟨.hbm, 565, rfl⟩
abbrev main_v446 : Ref sig .tc := ⟨.hbm, 566, rfl⟩
abbrev main_v447 : Ref sig .tc := ⟨.hbm, 567, rfl⟩
abbrev main_c_46 : Ref sig .tc := ⟨.hbm, 568, rfl⟩
abbrev main_v448 : Ref sig .tc := ⟨.hbm, 569, rfl⟩
abbrev main_v449 : Ref sig .tc := ⟨.hbm, 570, rfl⟩
abbrev main_c_47 : Ref sig .tc := ⟨.hbm, 571, rfl⟩
abbrev main_v450 : Ref sig .tc := ⟨.hbm, 572, rfl⟩
abbrev main_v451 : Ref sig .tc := ⟨.hbm, 573, rfl⟩
abbrev main_v452 : Ref sig .tc := ⟨.hbm, 574, rfl⟩
abbrev main_v453 : Ref sig .tc := ⟨.hbm, 575, rfl⟩
abbrev main_v454 : Ref sig .tc := ⟨.hbm, 576, rfl⟩
abbrev main_v455 : Ref sig .tc := ⟨.hbm, 577, rfl⟩
abbrev main_v456 : Ref sig .tc := ⟨.hbm, 578, rfl⟩
abbrev main_v457 : Ref sig .tc := ⟨.hbm, 579, rfl⟩
abbrev main_v458 : Ref sig .tc := ⟨.hbm, 580, rfl⟩
abbrev main_v459 : Ref sig .tc := ⟨.hbm, 581, rfl⟩
abbrev main_c_48 : Ref sig .tc := ⟨.hbm, 582, rfl⟩
abbrev main_v460 : Ref sig .tc := ⟨.hbm, 583, rfl⟩
abbrev main_v461 : Ref sig .tc := ⟨.hbm, 584, rfl⟩
abbrev main_c_49 : Ref sig .tc := ⟨.hbm, 585, rfl⟩
abbrev main_v462 : Ref sig .tc := ⟨.hbm, 586, rfl⟩
abbrev main_v463 : Ref sig .tc := ⟨.hbm, 587, rfl⟩
abbrev main_v464 : Ref sig .tc := ⟨.hbm, 588, rfl⟩
abbrev main_v465 : Ref sig .tc := ⟨.hbm, 589, rfl⟩
abbrev main_v466 : Ref sig .tc := ⟨.hbm, 590, rfl⟩
abbrev main_v467 : Ref sig .tc := ⟨.hbm, 591, rfl⟩
abbrev main_v468 : Ref sig .tc := ⟨.hbm, 592, rfl⟩
abbrev main_v469 : Ref sig .tc := ⟨.hbm, 593, rfl⟩
abbrev main_cst_50 : Ref sig .tc := ⟨.hbm, 594, rfl⟩
abbrev main_v470 : Ref sig .tc := ⟨.hbm, 595, rfl⟩
abbrev main_v471 : Ref sig .tc := ⟨.hbm, 596, rfl⟩
abbrev main_v472 : Ref sig .tc := ⟨.hbm, 597, rfl⟩
abbrev main_v473 : Ref sig .tc := ⟨.hbm, 598, rfl⟩
abbrev main_v474 : Ref sig .tc := ⟨.hbm, 599, rfl⟩
abbrev main_v475 : Ref sig .tc := ⟨.hbm, 600, rfl⟩
abbrev main_v476 : Ref sig .tc := ⟨.hbm, 601, rfl⟩
abbrev main_c_51 : Ref sig .tc := ⟨.hbm, 602, rfl⟩
abbrev main_v477 : Ref sig .tc := ⟨.hbm, 603, rfl⟩
abbrev main_v478 : Ref sig .tc := ⟨.hbm, 604, rfl⟩
abbrev main_c_52 : Ref sig .tc := ⟨.hbm, 605, rfl⟩
abbrev main_v479 : Ref sig .tc := ⟨.hbm, 606, rfl⟩
abbrev main_v480 : Ref sig .tc := ⟨.hbm, 607, rfl⟩
abbrev main_v481 : Ref sig .tc := ⟨.hbm, 608, rfl⟩
abbrev main_v482 : Ref sig .tc := ⟨.hbm, 609, rfl⟩
abbrev main_v483 : Ref sig .tc := ⟨.hbm, 610, rfl⟩
abbrev main_v484 : Ref sig .tc := ⟨.hbm, 611, rfl⟩
abbrev main_v485 : Ref sig .tc := ⟨.hbm, 612, rfl⟩
abbrev main_v486 : Ref sig .tc := ⟨.hbm, 613, rfl⟩
abbrev main_cst_53 : Ref sig .tc := ⟨.hbm, 614, rfl⟩
abbrev main_v487 : Ref sig .tc := ⟨.hbm, 615, rfl⟩
abbrev main_v488 : Ref sig .tc := ⟨.hbm, 616, rfl⟩
abbrev main_v489 : Ref sig .tc := ⟨.hbm, 617, rfl⟩
abbrev main_cst_54 : Ref sig .tc := ⟨.hbm, 618, rfl⟩
abbrev main_v490 : Ref sig .tc := ⟨.hbm, 619, rfl⟩
abbrev main_v491 : Ref sig .tc := ⟨.hbm, 620, rfl⟩
abbrev main_v492 : Ref sig .tc := ⟨.hbm, 621, rfl⟩
abbrev main_v493 : Ref sig .tc := ⟨.hbm, 622, rfl⟩
abbrev main_v494 : Ref sig .tc := ⟨.hbm, 623, rfl⟩
abbrev main_v495 : Ref sig .tc := ⟨.hbm, 624, rfl⟩
abbrev main_v496 : Ref sig .tc := ⟨.hbm, 625, rfl⟩
abbrev main_c_55 : Ref sig .tc := ⟨.hbm, 626, rfl⟩
abbrev main_v497 : Ref sig .tc := ⟨.hbm, 627, rfl⟩
abbrev main_v498 : Ref sig .tc := ⟨.hbm, 628, rfl⟩
abbrev main_c_56 : Ref sig .tc := ⟨.hbm, 629, rfl⟩
abbrev main_v499 : Ref sig .tc := ⟨.hbm, 630, rfl⟩
abbrev main_v500 : Ref sig .tc := ⟨.hbm, 631, rfl⟩
abbrev main_v501 : Ref sig .tc := ⟨.hbm, 632, rfl⟩
abbrev main_v502 : Ref sig .tc := ⟨.hbm, 633, rfl⟩
abbrev main_v503 : Ref sig .tc := ⟨.hbm, 634, rfl⟩
abbrev main_v504 : Ref sig .tc := ⟨.hbm, 635, rfl⟩
abbrev main_v505 : Ref sig .tc := ⟨.hbm, 636, rfl⟩
abbrev main_v506 : Ref sig .tc := ⟨.hbm, 637, rfl⟩
abbrev main_cst_57 : Ref sig .tc := ⟨.hbm, 638, rfl⟩
abbrev main_v507 : Ref sig .tc := ⟨.hbm, 639, rfl⟩
abbrev main_v508 : Ref sig .tc := ⟨.hbm, 640, rfl⟩
abbrev main_v509 : Ref sig .tc := ⟨.hbm, 641, rfl⟩
abbrev main_cst_58 : Ref sig .tc := ⟨.hbm, 642, rfl⟩
abbrev main_v510 : Ref sig .tc := ⟨.hbm, 643, rfl⟩
abbrev main_v511 : Ref sig .tc := ⟨.hbm, 644, rfl⟩
abbrev main_v512 : Ref sig .tc := ⟨.hbm, 645, rfl⟩
abbrev main_v513 : Ref sig .tc := ⟨.hbm, 646, rfl⟩
abbrev main_v514 : Ref sig .tc := ⟨.hbm, 647, rfl⟩
abbrev main_v515 : Ref sig .tc := ⟨.hbm, 648, rfl⟩
abbrev main_v516 : Ref sig .tc := ⟨.hbm, 649, rfl⟩
abbrev main_c_59 : Ref sig .tc := ⟨.hbm, 650, rfl⟩
abbrev main_v517 : Ref sig .tc := ⟨.hbm, 651, rfl⟩
abbrev main_v518 : Ref sig .tc := ⟨.hbm, 652, rfl⟩
abbrev main_c_60 : Ref sig .tc := ⟨.hbm, 653, rfl⟩
abbrev main_v519 : Ref sig .tc := ⟨.hbm, 654, rfl⟩
abbrev main_v520 : Ref sig .tc := ⟨.hbm, 655, rfl⟩
abbrev main_v521 : Ref sig .tc := ⟨.hbm, 656, rfl⟩
abbrev main_v522 : Ref sig .tc := ⟨.hbm, 657, rfl⟩
abbrev main_v523 : Ref sig .tc := ⟨.hbm, 658, rfl⟩
abbrev main_v524 : Ref sig .tc := ⟨.hbm, 659, rfl⟩
abbrev main_v525 : Ref sig .tc := ⟨.hbm, 660, rfl⟩
abbrev main_v526 : Ref sig .tc := ⟨.hbm, 661, rfl⟩
abbrev main_cst_61 : Ref sig .tc := ⟨.hbm, 662, rfl⟩
abbrev main_v527 : Ref sig .tc := ⟨.hbm, 663, rfl⟩
abbrev main_v528 : Ref sig .tc := ⟨.hbm, 664, rfl⟩
abbrev main_v529 : Ref sig .tc := ⟨.hbm, 665, rfl⟩
abbrev main_cst_62 : Ref sig .tc := ⟨.hbm, 666, rfl⟩
abbrev main_v530 : Ref sig .tc := ⟨.hbm, 667, rfl⟩
abbrev main_v531 : Ref sig .tc := ⟨.hbm, 668, rfl⟩
abbrev main_v532 : Ref sig .tc := ⟨.hbm, 669, rfl⟩
abbrev main_v533 : Ref sig .tc := ⟨.hbm, 670, rfl⟩
abbrev main_v534 : Ref sig .tc := ⟨.hbm, 671, rfl⟩
abbrev main_v535 : Ref sig .tc := ⟨.hbm, 672, rfl⟩
abbrev main_v536 : Ref sig .tc := ⟨.hbm, 673, rfl⟩
abbrev main_v537 : Ref sig .tc := ⟨.hbm, 674, rfl⟩
abbrev main_v538 : Ref sig .tc := ⟨.hbm, 675, rfl⟩
abbrev main_v539 : Ref sig .tc := ⟨.hbm, 676, rfl⟩
abbrev main_v540 : Ref sig .tc := ⟨.hbm, 677, rfl⟩
abbrev main_c_63 : Ref sig .tc := ⟨.hbm, 678, rfl⟩
abbrev main_v541 : Ref sig .tc := ⟨.hbm, 679, rfl⟩
abbrev main_v542 : Ref sig .tc := ⟨.hbm, 680, rfl⟩
abbrev main_c_64 : Ref sig .tc := ⟨.hbm, 681, rfl⟩
abbrev main_v543 : Ref sig .tc := ⟨.hbm, 682, rfl⟩
abbrev main_v544 : Ref sig .tc := ⟨.hbm, 683, rfl⟩
abbrev main_v545 : Ref sig .tc := ⟨.hbm, 684, rfl⟩
abbrev main_v546 : Ref sig .tc := ⟨.hbm, 685, rfl⟩
abbrev main_v547 : Ref sig .tc := ⟨.hbm, 686, rfl⟩
abbrev main_v548 : Ref sig .tc := ⟨.hbm, 687, rfl⟩
abbrev main_v549 : Ref sig .tc := ⟨.hbm, 688, rfl⟩
abbrev main_cst_65 : Ref sig .tc := ⟨.hbm, 689, rfl⟩
abbrev main_v550 : Ref sig .tc := ⟨.hbm, 690, rfl⟩
abbrev main_v551 : Ref sig .tc := ⟨.hbm, 691, rfl⟩
abbrev main_v552 : Ref sig .tc := ⟨.hbm, 692, rfl⟩
abbrev main_cst_66 : Ref sig .tc := ⟨.hbm, 693, rfl⟩
abbrev main_v553 : Ref sig .tc := ⟨.hbm, 694, rfl⟩
abbrev main_v554 : Ref sig .tc := ⟨.hbm, 695, rfl⟩
abbrev main_cst_67 : Ref sig .tc := ⟨.hbm, 696, rfl⟩
abbrev main_call19_v0 : Ref sig .tc := ⟨.hbm, 697, rfl⟩
abbrev main_call19_v1 : Ref sig .tc := ⟨.hbm, 698, rfl⟩
abbrev main_v555 : Ref sig .tc := ⟨.hbm, 699, rfl⟩
abbrev main_cst_68 : Ref sig .tc := ⟨.hbm, 700, rfl⟩
abbrev main_v556 : Ref sig .tc := ⟨.hbm, 701, rfl⟩
abbrev main_v557 : Ref sig .tc := ⟨.hbm, 702, rfl⟩
abbrev main_v558 : Ref sig .tc := ⟨.hbm, 703, rfl⟩
abbrev main_cst_69 : Ref sig .tc := ⟨.hbm, 704, rfl⟩
abbrev main_v559 : Ref sig .tc := ⟨.hbm, 705, rfl⟩
abbrev main_v560 : Ref sig .tc := ⟨.hbm, 706, rfl⟩
abbrev main_cst_70 : Ref sig .tc := ⟨.hbm, 707, rfl⟩
abbrev main_call20_v0 : Ref sig .tc := ⟨.hbm, 708, rfl⟩
abbrev main_call20_v1 : Ref sig .tc := ⟨.hbm, 709, rfl⟩
abbrev main_v561 : Ref sig .tc := ⟨.hbm, 710, rfl⟩
abbrev main_c_71 : Ref sig .tc := ⟨.hbm, 711, rfl⟩
abbrev main_v562 : Ref sig .tc := ⟨.hbm, 712, rfl⟩
abbrev main_v563 : Ref sig .tc := ⟨.hbm, 713, rfl⟩
abbrev main_c_72 : Ref sig .tc := ⟨.hbm, 714, rfl⟩
abbrev main_v564 : Ref sig .tc := ⟨.hbm, 715, rfl⟩
abbrev main_v565 : Ref sig .tc := ⟨.hbm, 716, rfl⟩
abbrev main_v566 : Ref sig .tc := ⟨.hbm, 717, rfl⟩
abbrev main_v567 : Ref sig .tc := ⟨.hbm, 718, rfl⟩
abbrev main_v568 : Ref sig .tc := ⟨.hbm, 719, rfl⟩
abbrev main_v569 : Ref sig .tc := ⟨.hbm, 720, rfl⟩
abbrev main_c_73 : Ref sig .tc := ⟨.hbm, 721, rfl⟩
abbrev main_v570 : Ref sig .tc := ⟨.hbm, 722, rfl⟩
abbrev main_v571 : Ref sig .tc := ⟨.hbm, 723, rfl⟩
abbrev main_c_74 : Ref sig .tc := ⟨.hbm, 724, rfl⟩
abbrev main_v572 : Ref sig .tc := ⟨.hbm, 725, rfl⟩
abbrev main_v573 : Ref sig .tc := ⟨.hbm, 726, rfl⟩
abbrev main_v574 : Ref sig .tc := ⟨.hbm, 727, rfl⟩
abbrev main_v575 : Ref sig .tc := ⟨.hbm, 728, rfl⟩
abbrev main_v576 : Ref sig .tc := ⟨.hbm, 729, rfl⟩
abbrev main_v577 : Ref sig .tc := ⟨.hbm, 730, rfl⟩
abbrev main_v578 : Ref sig .tc := ⟨.hbm, 731, rfl⟩
abbrev main_v579 : Ref sig .tc := ⟨.hbm, 732, rfl⟩
abbrev main_v580 : Ref sig .tc := ⟨.hbm, 733, rfl⟩
abbrev main_v581 : Ref sig .tc := ⟨.hbm, 734, rfl⟩
abbrev main_c_75 : Ref sig .tc := ⟨.hbm, 735, rfl⟩
abbrev main_v582 : Ref sig .tc := ⟨.hbm, 736, rfl⟩
abbrev main_v583 : Ref sig .tc := ⟨.hbm, 737, rfl⟩
abbrev main_c_76 : Ref sig .tc := ⟨.hbm, 738, rfl⟩
abbrev main_v584 : Ref sig .tc := ⟨.hbm, 739, rfl⟩
abbrev main_v585 : Ref sig .tc := ⟨.hbm, 740, rfl⟩
abbrev main_v586 : Ref sig .tc := ⟨.hbm, 741, rfl⟩
abbrev main_v587 : Ref sig .tc := ⟨.hbm, 742, rfl⟩
abbrev main_v588 : Ref sig .tc := ⟨.hbm, 743, rfl⟩
abbrev main_v589 : Ref sig .tc := ⟨.hbm, 744, rfl⟩
abbrev main_v590 : Ref sig .tc := ⟨.hbm, 745, rfl⟩
abbrev main_v591 : Ref sig .tc := ⟨.hbm, 746, rfl⟩
abbrev main_cst_77 : Ref sig .tc := ⟨.hbm, 747, rfl⟩
abbrev main_v592 : Ref sig .tc := ⟨.hbm, 748, rfl⟩
abbrev main_v593 : Ref sig .tc := ⟨.hbm, 749, rfl⟩
abbrev main_v594 : Ref sig .tc := ⟨.hbm, 750, rfl⟩
abbrev main_v595 : Ref sig .tc := ⟨.hbm, 751, rfl⟩
abbrev main_v596 : Ref sig .tc := ⟨.hbm, 752, rfl⟩
abbrev main_v597 : Ref sig .tc := ⟨.hbm, 753, rfl⟩
abbrev main_v598 : Ref sig .tc := ⟨.hbm, 754, rfl⟩
abbrev main_c_78 : Ref sig .tc := ⟨.hbm, 755, rfl⟩
abbrev main_v599 : Ref sig .tc := ⟨.hbm, 756, rfl⟩
abbrev main_v600 : Ref sig .tc := ⟨.hbm, 757, rfl⟩
abbrev main_c_79 : Ref sig .tc := ⟨.hbm, 758, rfl⟩
abbrev main_v601 : Ref sig .tc := ⟨.hbm, 759, rfl⟩
abbrev main_v602 : Ref sig .tc := ⟨.hbm, 760, rfl⟩
abbrev main_v603 : Ref sig .tc := ⟨.hbm, 761, rfl⟩
abbrev main_v604 : Ref sig .tc := ⟨.hbm, 762, rfl⟩
abbrev main_v605 : Ref sig .tc := ⟨.hbm, 763, rfl⟩
abbrev main_v606 : Ref sig .tc := ⟨.hbm, 764, rfl⟩
abbrev main_v607 : Ref sig .tc := ⟨.hbm, 765, rfl⟩
abbrev main_v608 : Ref sig .tc := ⟨.hbm, 766, rfl⟩
abbrev main_cst_80 : Ref sig .tc := ⟨.hbm, 767, rfl⟩
abbrev main_v609 : Ref sig .tc := ⟨.hbm, 768, rfl⟩
abbrev main_v610 : Ref sig .tc := ⟨.hbm, 769, rfl⟩
abbrev main_v611 : Ref sig .tc := ⟨.hbm, 770, rfl⟩
abbrev main_cst_81 : Ref sig .tc := ⟨.hbm, 771, rfl⟩
abbrev main_v612 : Ref sig .tc := ⟨.hbm, 772, rfl⟩
abbrev main_v613 : Ref sig .tc := ⟨.hbm, 773, rfl⟩
abbrev main_v614 : Ref sig .tc := ⟨.hbm, 774, rfl⟩
abbrev main_v615 : Ref sig .tc := ⟨.hbm, 775, rfl⟩
abbrev main_v616 : Ref sig .tc := ⟨.hbm, 776, rfl⟩
abbrev main_v617 : Ref sig .tc := ⟨.hbm, 777, rfl⟩
abbrev main_v618 : Ref sig .tc := ⟨.hbm, 778, rfl⟩
abbrev main_c_82 : Ref sig .tc := ⟨.hbm, 779, rfl⟩
abbrev main_v619 : Ref sig .tc := ⟨.hbm, 780, rfl⟩
abbrev main_v620 : Ref sig .tc := ⟨.hbm, 781, rfl⟩
abbrev main_c_83 : Ref sig .tc := ⟨.hbm, 782, rfl⟩
abbrev main_v621 : Ref sig .tc := ⟨.hbm, 783, rfl⟩
abbrev main_v622 : Ref sig .tc := ⟨.hbm, 784, rfl⟩
abbrev main_v623 : Ref sig .tc := ⟨.hbm, 785, rfl⟩
abbrev main_v624 : Ref sig .tc := ⟨.hbm, 786, rfl⟩
abbrev main_v625 : Ref sig .tc := ⟨.hbm, 787, rfl⟩
abbrev main_v626 : Ref sig .tc := ⟨.hbm, 788, rfl⟩
abbrev main_v627 : Ref sig .tc := ⟨.hbm, 789, rfl⟩
abbrev main_v628 : Ref sig .tc := ⟨.hbm, 790, rfl⟩
abbrev main_cst_84 : Ref sig .tc := ⟨.hbm, 791, rfl⟩
abbrev main_v629 : Ref sig .tc := ⟨.hbm, 792, rfl⟩
abbrev main_v630 : Ref sig .tc := ⟨.hbm, 793, rfl⟩
abbrev main_v631 : Ref sig .tc := ⟨.hbm, 794, rfl⟩
abbrev main_cst_85 : Ref sig .tc := ⟨.hbm, 795, rfl⟩
abbrev main_v632 : Ref sig .tc := ⟨.hbm, 796, rfl⟩
abbrev main_v633 : Ref sig .tc := ⟨.hbm, 797, rfl⟩
abbrev main_v634 : Ref sig .tc := ⟨.hbm, 798, rfl⟩
abbrev main_v635 : Ref sig .tc := ⟨.hbm, 799, rfl⟩
abbrev main_v636 : Ref sig .tc := ⟨.hbm, 800, rfl⟩
abbrev main_v637 : Ref sig .tc := ⟨.hbm, 801, rfl⟩
abbrev main_v638 : Ref sig .tc := ⟨.hbm, 802, rfl⟩
abbrev main_c_86 : Ref sig .tc := ⟨.hbm, 803, rfl⟩
abbrev main_v639 : Ref sig .tc := ⟨.hbm, 804, rfl⟩
abbrev main_v640 : Ref sig .tc := ⟨.hbm, 805, rfl⟩
abbrev main_c_87 : Ref sig .tc := ⟨.hbm, 806, rfl⟩
abbrev main_v641 : Ref sig .tc := ⟨.hbm, 807, rfl⟩
abbrev main_v642 : Ref sig .tc := ⟨.hbm, 808, rfl⟩
abbrev main_v643 : Ref sig .tc := ⟨.hbm, 809, rfl⟩
abbrev main_v644 : Ref sig .tc := ⟨.hbm, 810, rfl⟩
abbrev main_v645 : Ref sig .tc := ⟨.hbm, 811, rfl⟩
abbrev main_v646 : Ref sig .tc := ⟨.hbm, 812, rfl⟩
abbrev main_v647 : Ref sig .tc := ⟨.hbm, 813, rfl⟩
abbrev main_v648 : Ref sig .tc := ⟨.hbm, 814, rfl⟩
abbrev main_cst_88 : Ref sig .tc := ⟨.hbm, 815, rfl⟩
abbrev main_v649 : Ref sig .tc := ⟨.hbm, 816, rfl⟩
abbrev main_v650 : Ref sig .tc := ⟨.hbm, 817, rfl⟩
abbrev main_v651 : Ref sig .tc := ⟨.hbm, 818, rfl⟩
abbrev main_cst_89 : Ref sig .tc := ⟨.hbm, 819, rfl⟩
abbrev main_v652 : Ref sig .tc := ⟨.hbm, 820, rfl⟩
abbrev main_v653 : Ref sig .tc := ⟨.hbm, 821, rfl⟩
abbrev main_v654 : Ref sig .tc := ⟨.hbm, 822, rfl⟩
abbrev main_v655 : Ref sig .tc := ⟨.hbm, 823, rfl⟩
abbrev main_v656 : Ref sig .tc := ⟨.hbm, 824, rfl⟩
abbrev main_v657 : Ref sig .tc := ⟨.hbm, 825, rfl⟩
abbrev main_v658 : Ref sig .tc := ⟨.hbm, 826, rfl⟩
abbrev main_v659 : Ref sig .tc := ⟨.hbm, 827, rfl⟩
abbrev main_v660 : Ref sig .tc := ⟨.hbm, 828, rfl⟩
abbrev main_v661 : Ref sig .tc := ⟨.hbm, 829, rfl⟩
abbrev main_call21_cst : Ref sig .tc := ⟨.hbm, 830, rfl⟩
abbrev main_call21_v0 : Ref sig .tc := ⟨.hbm, 831, rfl⟩
abbrev main_v662 : Ref sig .tc := ⟨.hbm, 832, rfl⟩
abbrev main_v663 : Ref sig .tc := ⟨.hbm, 833, rfl⟩
abbrev main_cst_90 : Ref sig .tc := ⟨.hbm, 834, rfl⟩
abbrev main_v664 : Ref sig .tc := ⟨.hbm, 835, rfl⟩
abbrev main_v665 : Ref sig .tc := ⟨.hbm, 836, rfl⟩
abbrev main_v666 : Ref sig .tc := ⟨.hbm, 837, rfl⟩
abbrev main_cst_91 : Ref sig .tc := ⟨.hbm, 838, rfl⟩
abbrev main_v667 : Ref sig .tc := ⟨.hbm, 839, rfl⟩
abbrev main_v668 : Ref sig .tc := ⟨.hbm, 840, rfl⟩
abbrev main_cst_92 : Ref sig .tc := ⟨.hbm, 841, rfl⟩
abbrev main_call22_v0 : Ref sig .tc := ⟨.hbm, 842, rfl⟩
abbrev main_call22_v1 : Ref sig .tc := ⟨.hbm, 843, rfl⟩
abbrev main_v669 : Ref sig .tc := ⟨.hbm, 844, rfl⟩
abbrev main_cst_93 : Ref sig .tc := ⟨.hbm, 845, rfl⟩
abbrev main_v670 : Ref sig .tc := ⟨.hbm, 846, rfl⟩
abbrev main_v671 : Ref sig .tc := ⟨.hbm, 847, rfl⟩
abbrev main_v672 : Ref sig .tc := ⟨.hbm, 848, rfl⟩
abbrev main_cst_94 : Ref sig .tc := ⟨.hbm, 849, rfl⟩
abbrev main_v673 : Ref sig .tc := ⟨.hbm, 850, rfl⟩
abbrev main_v674 : Ref sig .tc := ⟨.hbm, 851, rfl⟩
abbrev main_cst_95 : Ref sig .tc := ⟨.hbm, 852, rfl⟩
abbrev main_call23_v0 : Ref sig .tc := ⟨.hbm, 853, rfl⟩
abbrev main_call23_v1 : Ref sig .tc := ⟨.hbm, 854, rfl⟩
abbrev main_v675 : Ref sig .tc := ⟨.hbm, 855, rfl⟩
abbrev main_c_96 : Ref sig .tc := ⟨.hbm, 856, rfl⟩
abbrev main_v676 : Ref sig .tc := ⟨.hbm, 857, rfl⟩
abbrev main_v677 : Ref sig .tc := ⟨.hbm, 858, rfl⟩
abbrev main_c_97 : Ref sig .tc := ⟨.hbm, 859, rfl⟩
abbrev main_v678 : Ref sig .tc := ⟨.hbm, 860, rfl⟩
abbrev main_v679 : Ref sig .tc := ⟨.hbm, 861, rfl⟩
abbrev main_v680 : Ref sig .tc := ⟨.hbm, 862, rfl⟩
abbrev main_v681 : Ref sig .tc := ⟨.hbm, 863, rfl⟩
abbrev main_v682 : Ref sig .tc := ⟨.hbm, 864, rfl⟩
abbrev main_v683 : Ref sig .tc := ⟨.hbm, 865, rfl⟩
abbrev main_c_98 : Ref sig .tc := ⟨.hbm, 866, rfl⟩
abbrev main_v684 : Ref sig .tc := ⟨.hbm, 867, rfl⟩
abbrev main_v685 : Ref sig .tc := ⟨.hbm, 868, rfl⟩
abbrev main_c_99 : Ref sig .tc := ⟨.hbm, 869, rfl⟩
abbrev main_v686 : Ref sig .tc := ⟨.hbm, 870, rfl⟩
abbrev main_v687 : Ref sig .tc := ⟨.hbm, 871, rfl⟩
abbrev main_v688 : Ref sig .tc := ⟨.hbm, 872, rfl⟩
abbrev main_v689 : Ref sig .tc := ⟨.hbm, 873, rfl⟩
abbrev main_v690 : Ref sig .tc := ⟨.hbm, 874, rfl⟩
abbrev main_v691 : Ref sig .tc := ⟨.hbm, 875, rfl⟩
abbrev main_v692 : Ref sig .tc := ⟨.hbm, 876, rfl⟩
abbrev main_v693 : Ref sig .tc := ⟨.hbm, 877, rfl⟩
abbrev main_v694 : Ref sig .tc := ⟨.hbm, 878, rfl⟩
abbrev main_v695 : Ref sig .tc := ⟨.hbm, 879, rfl⟩
abbrev main_c_100 : Ref sig .tc := ⟨.hbm, 880, rfl⟩
abbrev main_v696 : Ref sig .tc := ⟨.hbm, 881, rfl⟩
abbrev main_v697 : Ref sig .tc := ⟨.hbm, 882, rfl⟩
abbrev main_c_101 : Ref sig .tc := ⟨.hbm, 883, rfl⟩
abbrev main_v698 : Ref sig .tc := ⟨.hbm, 884, rfl⟩
abbrev main_v699 : Ref sig .tc := ⟨.hbm, 885, rfl⟩
abbrev main_v700 : Ref sig .tc := ⟨.hbm, 886, rfl⟩
abbrev main_v701 : Ref sig .tc := ⟨.hbm, 887, rfl⟩
abbrev main_v702 : Ref sig .tc := ⟨.hbm, 888, rfl⟩
abbrev main_v703 : Ref sig .tc := ⟨.hbm, 889, rfl⟩
abbrev main_v704 : Ref sig .tc := ⟨.hbm, 890, rfl⟩
abbrev main_v705 : Ref sig .tc := ⟨.hbm, 891, rfl⟩
abbrev main_cst_102 : Ref sig .tc := ⟨.hbm, 892, rfl⟩
abbrev main_v706 : Ref sig .tc := ⟨.hbm, 893, rfl⟩
abbrev main_v707 : Ref sig .tc := ⟨.hbm, 894, rfl⟩
abbrev main_v708 : Ref sig .tc := ⟨.hbm, 895, rfl⟩
abbrev main_v709 : Ref sig .tc := ⟨.hbm, 896, rfl⟩
abbrev main_v710 : Ref sig .tc := ⟨.hbm, 897, rfl⟩
abbrev main_v711 : Ref sig .tc := ⟨.hbm, 898, rfl⟩
abbrev main_v712 : Ref sig .tc := ⟨.hbm, 899, rfl⟩
abbrev main_c_103 : Ref sig .tc := ⟨.hbm, 900, rfl⟩
abbrev main_v713 : Ref sig .tc := ⟨.hbm, 901, rfl⟩
abbrev main_v714 : Ref sig .tc := ⟨.hbm, 902, rfl⟩
abbrev main_c_104 : Ref sig .tc := ⟨.hbm, 903, rfl⟩
abbrev main_v715 : Ref sig .tc := ⟨.hbm, 904, rfl⟩
abbrev main_v716 : Ref sig .tc := ⟨.hbm, 905, rfl⟩
abbrev main_v717 : Ref sig .tc := ⟨.hbm, 906, rfl⟩
abbrev main_v718 : Ref sig .tc := ⟨.hbm, 907, rfl⟩
abbrev main_v719 : Ref sig .tc := ⟨.hbm, 908, rfl⟩
abbrev main_v720 : Ref sig .tc := ⟨.hbm, 909, rfl⟩
abbrev main_v721 : Ref sig .tc := ⟨.hbm, 910, rfl⟩
abbrev main_v722 : Ref sig .tc := ⟨.hbm, 911, rfl⟩
abbrev main_cst_105 : Ref sig .tc := ⟨.hbm, 912, rfl⟩
abbrev main_v723 : Ref sig .tc := ⟨.hbm, 913, rfl⟩
abbrev main_v724 : Ref sig .tc := ⟨.hbm, 914, rfl⟩
abbrev main_v725 : Ref sig .tc := ⟨.hbm, 915, rfl⟩
abbrev main_cst_106 : Ref sig .tc := ⟨.hbm, 916, rfl⟩
abbrev main_v726 : Ref sig .tc := ⟨.hbm, 917, rfl⟩
abbrev main_v727 : Ref sig .tc := ⟨.hbm, 918, rfl⟩
abbrev main_v728 : Ref sig .tc := ⟨.hbm, 919, rfl⟩
abbrev main_v729 : Ref sig .tc := ⟨.hbm, 920, rfl⟩
abbrev main_v730 : Ref sig .tc := ⟨.hbm, 921, rfl⟩
abbrev main_v731 : Ref sig .tc := ⟨.hbm, 922, rfl⟩
abbrev main_v732 : Ref sig .tc := ⟨.hbm, 923, rfl⟩
abbrev main_c_107 : Ref sig .tc := ⟨.hbm, 924, rfl⟩
abbrev main_v733 : Ref sig .tc := ⟨.hbm, 925, rfl⟩
abbrev main_v734 : Ref sig .tc := ⟨.hbm, 926, rfl⟩
abbrev main_c_108 : Ref sig .tc := ⟨.hbm, 927, rfl⟩
abbrev main_v735 : Ref sig .tc := ⟨.hbm, 928, rfl⟩
abbrev main_v736 : Ref sig .tc := ⟨.hbm, 929, rfl⟩
abbrev main_v737 : Ref sig .tc := ⟨.hbm, 930, rfl⟩
abbrev main_v738 : Ref sig .tc := ⟨.hbm, 931, rfl⟩
abbrev main_v739 : Ref sig .tc := ⟨.hbm, 932, rfl⟩
abbrev main_v740 : Ref sig .tc := ⟨.hbm, 933, rfl⟩
abbrev main_v741 : Ref sig .tc := ⟨.hbm, 934, rfl⟩
abbrev main_v742 : Ref sig .tc := ⟨.hbm, 935, rfl⟩
abbrev main_cst_109 : Ref sig .tc := ⟨.hbm, 936, rfl⟩
abbrev main_v743 : Ref sig .tc := ⟨.hbm, 937, rfl⟩
abbrev main_v744 : Ref sig .tc := ⟨.hbm, 938, rfl⟩
abbrev main_v745 : Ref sig .tc := ⟨.hbm, 939, rfl⟩
abbrev main_cst_110 : Ref sig .tc := ⟨.hbm, 940, rfl⟩
abbrev main_v746 : Ref sig .tc := ⟨.hbm, 941, rfl⟩
abbrev main_v747 : Ref sig .tc := ⟨.hbm, 942, rfl⟩
abbrev main_v748 : Ref sig .tc := ⟨.hbm, 943, rfl⟩
abbrev main_v749 : Ref sig .tc := ⟨.hbm, 944, rfl⟩
abbrev main_v750 : Ref sig .tc := ⟨.hbm, 945, rfl⟩
abbrev main_v751 : Ref sig .tc := ⟨.hbm, 946, rfl⟩
abbrev main_v752 : Ref sig .tc := ⟨.hbm, 947, rfl⟩
abbrev main_c_111 : Ref sig .tc := ⟨.hbm, 948, rfl⟩
abbrev main_v753 : Ref sig .tc := ⟨.hbm, 949, rfl⟩
abbrev main_v754 : Ref sig .tc := ⟨.hbm, 950, rfl⟩
abbrev main_c_112 : Ref sig .tc := ⟨.hbm, 951, rfl⟩
abbrev main_v755 : Ref sig .tc := ⟨.hbm, 952, rfl⟩
abbrev main_v756 : Ref sig .tc := ⟨.hbm, 953, rfl⟩
abbrev main_v757 : Ref sig .tc := ⟨.hbm, 954, rfl⟩
abbrev main_v758 : Ref sig .tc := ⟨.hbm, 955, rfl⟩
abbrev main_v759 : Ref sig .tc := ⟨.hbm, 956, rfl⟩
abbrev main_v760 : Ref sig .tc := ⟨.hbm, 957, rfl⟩
abbrev main_v761 : Ref sig .tc := ⟨.hbm, 958, rfl⟩
abbrev main_v762 : Ref sig .tc := ⟨.hbm, 959, rfl⟩
abbrev main_cst_113 : Ref sig .tc := ⟨.hbm, 960, rfl⟩
abbrev main_v763 : Ref sig .tc := ⟨.hbm, 961, rfl⟩
abbrev main_v764 : Ref sig .tc := ⟨.hbm, 962, rfl⟩
abbrev main_v765 : Ref sig .tc := ⟨.hbm, 963, rfl⟩
abbrev main_cst_114 : Ref sig .tc := ⟨.hbm, 964, rfl⟩
abbrev main_v766 : Ref sig .tc := ⟨.hbm, 965, rfl⟩
abbrev main_v767 : Ref sig .tc := ⟨.hbm, 966, rfl⟩
abbrev main_v768 : Ref sig .tc := ⟨.hbm, 967, rfl⟩
abbrev main_v769 : Ref sig .tc := ⟨.hbm, 968, rfl⟩
abbrev main_v770 : Ref sig .tc := ⟨.hbm, 969, rfl⟩
abbrev main_v771 : Ref sig .tc := ⟨.hbm, 970, rfl⟩
abbrev main_v772 : Ref sig .tc := ⟨.hbm, 971, rfl⟩
abbrev main_v773 : Ref sig .tc := ⟨.hbm, 972, rfl⟩
abbrev main_v774 : Ref sig .tc := ⟨.hbm, 973, rfl⟩
abbrev main_v775 : Ref sig .tc := ⟨.hbm, 974, rfl⟩

abbrev nD : Nat := 1
abbrev τ : Topo := Topo.v7x

variable {F : FTy → Type} [FloatOps F]
-- ==== Last.lean ====
abbrev S1024x256 : Shape := ⟨2, ![1024, 256]⟩
abbrev S2x31744 : Shape := ⟨2, ![2, 31744]⟩
abbrev S992x1 : Shape := ⟨2, ![992, 1]⟩
abbrev S992x248 : Shape := ⟨2, ![992, 248]⟩
abbrev S248x992 : Shape := ⟨2, ![248, 992]⟩
abbrev S5x256x2496 : Shape := ⟨3, ![5, 256, 2496]⟩
abbrev S2496 : Shape := ⟨1, ![2496]⟩
abbrev S1x2496 : Shape := ⟨2, ![1, 2496]⟩
abbrev S1024x2496 : Shape := ⟨2, ![1024, 2496]⟩
abbrev S_ : Shape := ⟨0, ![]⟩
abbrev S256x2496 : Shape := ⟨2, ![256, 2496]⟩
abbrev S1x992 : Shape := ⟨2, ![1, 992]⟩
abbrev S1x248 : Shape := ⟨2, ![1, 248]⟩
abbrev S1x1 : Shape := ⟨2, ![1, 1]⟩
abbrev S1x31 : Shape := ⟨2, ![1, 31]⟩
abbrev S1x32 : Shape := ⟨2, ![1, 32]⟩
abbrev S1x30 : Shape := ⟨2, ![1, 30]⟩
abbrev S1x2 : Shape := ⟨2, ![1, 2]⟩
abbrev S1x29 : Shape := ⟨2, ![1, 29]⟩
abbrev S1x3 : Shape := ⟨2, ![1, 3]⟩
abbrev S1x28 : Shape := ⟨2, ![1, 28]⟩
abbrev S1x4 : Shape := ⟨2, ![1, 4]⟩
abbrev S1x27 : Shape := ⟨2, ![1, 27]⟩
abbrev S1x5 : Shape := ⟨2, ![1, 5]⟩
abbrev S1x26 : Shape := ⟨2, ![1, 26]⟩
abbrev S1x6 : Shape := ⟨2, ![1, 6]⟩
abbrev S1x25 : Shape := ⟨2, ![1, 25]⟩
abbrev S1x7 : Shape := ⟨2, ![1, 7]⟩
abbrev S1x24 : Shape := ⟨2, ![1, 24]⟩
abbrev S1x8 : Shape := ⟨2, ![1, 8]⟩
abbrev S1x23 : Shape := ⟨2, ![1, 23]⟩
abbrev S1x9 : Shape := ⟨2, ![1, 9]⟩
abbrev S1x22 : Shape := ⟨2, ![1, 22]⟩
abbrev S1x10 : Shape := ⟨2, ![1, 10]⟩
abbrev S1x21 : Shape := ⟨2, ![1, 21]⟩
abbrev S1x11 : Shape := ⟨2, ![1, 11]⟩
abbrev S1x20 : Shape := ⟨2, ![1, 20]⟩
abbrev S1x12 : Shape := ⟨2, ![1, 12]⟩
abbrev S1x19 : Shape := ⟨2, ![1, 19]⟩
abbrev S1x13 : Shape := ⟨2, ![1, 13]⟩
abbrev S1x18 : Shape := ⟨2, ![1, 18]⟩
abbrev S1x14 : Shape := ⟨2, ![1, 14]⟩
abbrev S1x17 : Shape := ⟨2, ![1, 17]⟩
abbrev S1x15 : Shape := ⟨2, ![1, 15]⟩
abbrev S1x16 : Shape := ⟨2, ![1, 16]⟩
abbrev S32x32 : Shape := ⟨2, ![32, 32]⟩
abbrev S32 : Shape := ⟨1, ![32]⟩
abbrev S32x1 : Shape := ⟨2, ![32, 1]⟩
abbrev S128x32 : Shape := ⟨2, ![128, 32]⟩
abbrev S32x8192 : Shape := ⟨2, ![32, 8192]⟩
abbrev S128x8192 : Shape := ⟨2, ![128, 8192]⟩
abbrev S32x32x256 : Shape := ⟨3, ![32, 32, 256]⟩
abbrev S256x256 : Shape := ⟨2, ![256, 256]⟩
abbrev S1x256x2496 : Shape := ⟨3, ![1, 256, 2496]⟩

abbrev nBuf : Space → Nat
  | .hbm => 9
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S2x31744, .i32⟩
  | .hbm, ⟨2, _⟩ => ⟨S992x1, .f32⟩
  | .hbm, ⟨3, _⟩ => ⟨S992x248, .f32⟩
  | .hbm, ⟨4, _⟩ => ⟨S248x992, .f32⟩
  | .hbm, ⟨5, _⟩ => ⟨S5x256x2496, .f32⟩
  | .hbm, ⟨6, _⟩ => ⟨S2496, .f32⟩
  | .hbm, ⟨7, _⟩ => ⟨S1x2496, .f32⟩
  | .hbm, ⟨8, _⟩ => ⟨S1024x2496, .f32⟩
  | .local _ .vmem, ⟨0, _⟩ => ⟨S1024x256, .f32⟩
  | .local _ .vmem, ⟨1, _⟩ => ⟨S992x1, .f32⟩
  | .local _ .vmem, ⟨2, _⟩ => ⟨S1x2496, .f32⟩
  | .local _ .vmem, ⟨3, _⟩ => ⟨S5x256x2496, .f32⟩
  | .local _ .vmem, ⟨4, _⟩ => ⟨S256x2496, .f32⟩
  | .local _ .vmem, ⟨5, _⟩ => ⟨S256x2496, .f32⟩
  | .local _ .vmem, ⟨6, _⟩ => ⟨S992x248, .f32⟩
  | .local _ .vmem, ⟨7, _⟩ => ⟨S248x992, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch6 : Ref sig .tc := ⟨.vmem, 6, rfl⟩
abbrev cc0_scratch7 : Ref sig .tc := ⟨.vmem, 7, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S992x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2496 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LastReferenceIdeal.lean ====
abbrev S1024x256 : Shape := ⟨2, ![1024, 256]⟩
abbrev S2x31744 : Shape := ⟨2, ![2, 31744]⟩
abbrev S992x1 : Shape := ⟨2, ![992, 1]⟩
abbrev S992x248 : Shape := ⟨2, ![992, 248]⟩
abbrev S248x992 : Shape := ⟨2, ![248, 992]⟩
abbrev S5x256x2496 : Shape := ⟨3, ![5, 256, 2496]⟩
abbrev S2496 : Shape := ⟨1, ![2496]⟩
abbrev S1x992 : Shape := ⟨2, ![1, 992]⟩
abbrev S1x248 : Shape := ⟨2, ![1, 248]⟩
abbrev S_ : Shape := ⟨0, ![]⟩
abbrev S1x1x1x992 : Shape := ⟨4, ![1, 1, 1, 992]⟩
abbrev S32x1x1x992 : Shape := ⟨4, ![32, 1, 1, 992]⟩
abbrev S32x992 : Shape := ⟨2, ![32, 992]⟩
abbrev S31744 : Shape := ⟨1, ![31744]⟩
abbrev S31744x1024 : Shape := ⟨2, ![31744, 1024]⟩
abbrev S1x31744 : Shape := ⟨2, ![1, 31744]⟩
abbrev S31744x1 : Shape := ⟨2, ![31744, 1]⟩
abbrev S1024 : Shape := ⟨1, ![1024]⟩
abbrev S1024x31744 : Shape := ⟨2, ![1024, 31744]⟩
abbrev S1024x1024 : Shape := ⟨2, ![1024, 1024]⟩
abbrev S32x32x256 : Shape := ⟨3, ![32, 32, 256]⟩
abbrev S1x256x2496 : Shape := ⟨3, ![1, 256, 2496]⟩
abbrev S256x2496 : Shape := ⟨2, ![256, 2496]⟩
abbrev S1024x2496 : Shape := ⟨2, ![1024, 2496]⟩
abbrev S1x2496 : Shape := ⟨2, ![1, 2496]⟩

abbrev nBuf : Space → Nat
  | .hbm => 125
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S2x31744, .i32⟩
  | .hbm, ⟨2, _⟩ => ⟨S992x1, .f32⟩
  | .hbm, ⟨3, _⟩ => ⟨S992x248, .f32⟩
  | .hbm, ⟨4, _⟩ => ⟨S248x992, .f32⟩
  | .hbm, ⟨5, _⟩ => ⟨S5x256x2496, .f32⟩
  | .hbm, ⟨6, _⟩ => ⟨S2496, .f32⟩
  | .hbm, ⟨7, _⟩ => ⟨S1x992, .f32⟩
  | .hbm, ⟨8, _⟩ => ⟨S1x248, .f32⟩
  | .hbm, ⟨9, _⟩ => ⟨S_, .f32⟩
  | .hbm, ⟨10, _⟩ => ⟨S1x248, .f32⟩
  | .hbm, ⟨11, _⟩ => ⟨S1x248, .i1⟩
  | .hbm, ⟨12, _⟩ => ⟨S_, .f32⟩
  | .hbm, ⟨13, _⟩ => ⟨S1x248, .f32⟩
  | .hbm, ⟨14, _⟩ => ⟨S1x248, .i1⟩
  | .hbm, ⟨15, _⟩ => ⟨S_, .f32⟩
  | .hbm, ⟨16, _⟩ => ⟨S_, .f32⟩
  | .hbm, ⟨17, _⟩ => ⟨S1x248, .f32⟩
  | .hbm, ⟨18, _⟩ => ⟨S1x248, .f32⟩
  | .hbm, ⟨19, _⟩ => ⟨S1x248, .f32⟩
  | .hbm, ⟨20, _⟩ => ⟨S_, .f32⟩
  | .hbm, ⟨21, _⟩ => ⟨S1x248, .f32⟩
  | .hbm, ⟨22, _⟩ => ⟨S1x248, .f32⟩
  | .hbm, ⟨23, _⟩ => ⟨S1x248, .f32⟩
  | .hbm, ⟨24, _⟩ => ⟨S1x992, .f32⟩
  | .hbm, ⟨25, _⟩ => ⟨S1x992, .f32⟩
  | .hbm, ⟨26, _⟩ => ⟨S_, .f32⟩
  | .hbm, ⟨27, _⟩ => ⟨S1x992, .f32⟩
  | .hbm, ⟨28, _⟩ => ⟨S1x992, .f32⟩
  | .hbm, ⟨29, _⟩ => ⟨S1x1x1x992, .f32⟩
  | .hbm, ⟨30, _⟩ => ⟨S32x1x1x992, .f32⟩
  | .hbm, ⟨31, _⟩ => ⟨S32x992, .f32⟩
  | .hbm, ⟨32, _⟩ => ⟨S31744, .f32⟩
  | .hbm, ⟨33, _⟩ => ⟨S31744x1024, .i32⟩
  | .hbm, ⟨34, _⟩ => ⟨S1x31744, .i32⟩
  | .hbm, ⟨35, _⟩ => ⟨S31744, .i32⟩
  | .hbm, ⟨36, _⟩ => ⟨S31744x1, .i32⟩
  | .hbm, ⟨37, _⟩ => ⟨S31744x1024, .i32⟩
  | .hbm, ⟨38, _⟩ => ⟨S31744x1024, .i1⟩
  | .hbm, ⟨39, _⟩ => ⟨S_, .f32⟩
  | .hbm, ⟨40, _⟩ => ⟨S_, .f32⟩
  | .hbm, ⟨41, _⟩ => ⟨S31744x1024, .f32⟩
  | .hbm, ⟨42, _⟩ => ⟨S31744x1024, .f32⟩
  | .hbm, ⟨43, _⟩ => ⟨S31744x1024, .f32⟩
  | .hbm, ⟨44, _⟩ => ⟨S1x31744, .i32⟩
  | .hbm, ⟨45, _⟩ => ⟨S31744, .i32⟩
  | .hbm, ⟨46, _⟩ => ⟨S31744x1, .i32⟩
  | .hbm, ⟨47, _⟩ => ⟨S31744x1024, .i32⟩
  | .hbm, ⟨48, _⟩ => ⟨S31744x1024, .i1⟩
  | .hbm, ⟨49, _⟩ => ⟨S_, .f32⟩
  | .hbm, ⟨50, _⟩ => ⟨S_, .f32⟩
  | .hbm, ⟨51, _⟩ => ⟨S31744x1024, .f32⟩
  | .hbm, ⟨52, _⟩ => ⟨S31744x1024, .f32⟩
  | .hbm, ⟨53, _⟩ => ⟨S31744x1024, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .i1⟩
  | .hbm, ⟨58, _⟩ => ⟨S_, .f32⟩
  | .hbm, ⟨59, _⟩ => ⟨S1024, .f32⟩
  | .hbm, ⟨60, _⟩ => ⟨S1024, .i1⟩
  | .hbm, ⟨61, _⟩ => ⟨S_, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S_, .f32⟩
  | .hbm, ⟨70, _⟩ => ⟨S_, .f32⟩
  | .hbm, ⟨71, _⟩ => ⟨S1024, .f32⟩
  | .hbm, ⟨72, _⟩ => ⟨S1024, .f32⟩
  | .hbm, ⟨73, _⟩ => ⟨S31744, .f32⟩
  | .hbm, ⟨74, _⟩ => ⟨S31744, .f32⟩
  | .hbm, ⟨75, _⟩ => ⟨S31744, .f32⟩
  | .hbm, ⟨76, _⟩ => ⟨S31744, .f32⟩
  | .hbm, ⟨77, _⟩ => ⟨S31744, .f32⟩
  | .hbm, ⟨78, _⟩ => ⟨S31744x1, .f32⟩
  | .hbm, ⟨79, _⟩ => ⟨S31744x1024, .f32⟩
  | .hbm, ⟨80, _⟩ => ⟨S31744x1024, .f32⟩
  | .hbm, ⟨81, _⟩ => ⟨S31744x1024, .f32⟩
  | .hbm, ⟨82, _⟩ => ⟨S1024x31744, .f32⟩
  | .hbm, ⟨83, _⟩ => ⟨S1024x1024, .f32⟩
  | .hbm, ⟨84, _⟩ => ⟨S32x32x256, .f32⟩
  | .hbm, ⟨85, _⟩ => ⟨S32x32x256, .f32⟩
  | .hbm, ⟨86, _⟩ => ⟨S1024x256, .f32⟩
  | .hbm, ⟨87, _⟩ => ⟨S1x256x2496, .f32⟩
  | .hbm, ⟨88, _⟩ => ⟨S256x2496, .f32⟩
  | .hbm, ⟨89, _⟩ => ⟨S1024x2496, .f32⟩
  | .hbm, ⟨90, _⟩ => ⟨S1024x256, .f32⟩
  | .hbm, ⟨91, _⟩ => ⟨S1x256x2496, .f32⟩
  | .hbm, ⟨92, _⟩ => ⟨S256x2496, .f32⟩
  | .hbm, ⟨93, _⟩ => ⟨S1024x2496, .f32⟩
  | .hbm, ⟨94, _⟩ => ⟨S1024x2496, .f32⟩
  | .hbm, ⟨95, _⟩ => ⟨S1024x256, .f32⟩
  | .hbm, ⟨96, _⟩ => ⟨S_, .f32⟩
  | .hbm, ⟨97, _⟩ => ⟨S1024x256, .f32⟩
  | .hbm, ⟨98, _⟩ => ⟨S1024x256, .f32⟩
  | .hbm, ⟨99, _⟩ => ⟨S1024x256, .f32⟩
  | .hbm, ⟨100, _⟩ => ⟨S1x256x2496, .f32⟩
  | .hbm, ⟨101, _⟩ => ⟨S256x2496, .f32⟩
  | .hbm, ⟨102, _⟩ => ⟨S1024x2496, .f32⟩
  | .hbm, ⟨103, _⟩ => ⟨S1024x2496, .f32⟩
  | .hbm, ⟨104, _⟩ => ⟨S1024x256, .f32⟩
  | .hbm, ⟨105, _⟩ => ⟨S_, .f32⟩
  | .hbm, ⟨106, _⟩ => ⟨S1024x256, .f32⟩
  | .hbm, ⟨107, _⟩ => ⟨S1024x256, .f32⟩
  | .hbm, ⟨108, _⟩ => ⟨S1024x256, .f32⟩
  | .hbm, ⟨109, _⟩ => ⟨S1x256x2496, .f32⟩
  | .hbm, ⟨110, _⟩ => ⟨S256x2496, .f32⟩
  | .hbm, ⟨111, _⟩ => ⟨S1024x2496, .f32⟩
  | .hbm, ⟨112, _⟩ => ⟨S1024x2496, .f32⟩
  | .hbm, ⟨113, _⟩ => ⟨S1024x256, .f32⟩
  | .hbm, ⟨114, _⟩ => ⟨S_, .f32⟩
  | .hbm, ⟨115, _⟩ => ⟨S1024x256, .f32⟩
  | .hbm, ⟨116, _⟩ => ⟨S1024x256, .f32⟩
  | .hbm, ⟨117, _⟩ => ⟨S1024x256, .f32⟩
  | .hbm, ⟨118, _⟩ => ⟨S1x256x2496, .f32⟩
  | .hbm, ⟨119, _⟩ => ⟨S256x2496, .f32⟩
  | .hbm, ⟨120, _⟩ => ⟨S1024x2496, .f32⟩
  | .hbm, ⟨121, _⟩ => ⟨S1024x2496, .f32⟩
  | .hbm, ⟨122, _⟩ => ⟨S1x2496, .f32⟩
  | .hbm, ⟨123, _⟩ => ⟨S1024x2496, .f32⟩
  | .hbm, ⟨124, _⟩ => ⟨S1024x2496, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_cst_1 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_v4 : Ref sig .tc := ⟨.hbm, 18, rfl⟩
abbrev main_call0_v5 : Ref sig .tc := ⟨.hbm, 19, rfl⟩
abbrev main_call0_cst_2 : Ref sig .tc := ⟨.hbm, 20, rfl⟩
abbrev main_call0_v6 : Ref sig .tc := ⟨.hbm, 21, rfl⟩
abbrev main_call0_v7 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call1_cst : Ref sig .tc := ⟨.hbm, 26, rfl⟩
abbrev main_call1_v0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_cst_0 : Ref sig .tc := ⟨.hbm, 40, rfl⟩
abbrev main_call2_v0 : Ref sig .tc := ⟨.hbm, 41, rfl⟩
abbrev main_call2_v1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_1 : Ref sig .tc := ⟨.hbm, 49, rfl⟩
abbrev main_cst_2 : Ref sig .tc := ⟨.hbm, 50, rfl⟩
abbrev main_call3_v0 : Ref sig .tc := ⟨.hbm, 51, rfl⟩
abbrev main_call3_v1 : Ref sig .tc := ⟨.hbm, 52, rfl⟩
abbrev main_v22 : Ref sig .tc := ⟨.hbm, 53, rfl⟩
abbrev main_v23 : Ref sig .tc := ⟨.hbm, 54, rfl⟩
abbrev main_cst_3 : Ref sig .tc := ⟨.hbm, 55, rfl⟩
abbrev main_v24 : Ref sig .tc := ⟨.hbm, 56, rfl⟩
abbrev main_v25 : Ref sig .tc := ⟨.hbm, 57, rfl⟩
abbrev main_cst_4 : Ref sig .tc := ⟨.hbm, 58, rfl⟩
abbrev main_v26 : Ref sig .tc := ⟨.hbm, 59, rfl⟩
abbrev main_v27 : Ref sig .tc := ⟨.hbm, 60, rfl⟩
abbrev main_cst_5 : Ref sig .tc := ⟨.hbm, 61, rfl⟩
abbrev main_call4_v0 : Ref sig .tc := ⟨.hbm, 62, rfl⟩
abbrev main_call4_v1 : Ref sig .tc := ⟨.hbm, 63, rfl⟩
abbrev main_v28 : Ref sig .tc := ⟨.hbm, 64, rfl⟩
abbrev main_v29 : Ref sig .tc := ⟨.hbm, 65, rfl⟩
abbrev main_cst_6 : Ref sig .tc := ⟨.hbm, 66, rfl⟩
abbrev main_v30 : Ref sig .tc := ⟨.hbm, 67, rfl⟩
abbrev main_v31 : Ref sig .tc := ⟨.hbm, 68, rfl⟩
abbrev main_cst_7 : Ref sig .tc := ⟨.hbm, 69, rfl⟩
abbrev main_call5_v0 : Ref sig .tc := ⟨.hbm, 70, rfl⟩
abbrev main_call5_v1 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_8 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_9 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_10 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩

abbrev nD : Nat := 1
abbrev τ : Topo := Topo.v7x

variable {F : FTy → Type} [FloatOps F]
-- ==== First.lean ====
abbrev S776x2496 : Shape := ⟨2, ![776, 2496]⟩
abbrev S2x31744 : Shape := ⟨2, ![2, 31744]⟩
abbrev S992x1 : Shape := ⟨2, ![992, 1]⟩
abbrev S992x248 : Shape := ⟨2, ![992, 248]⟩
abbrev S248x992 : Shape := ⟨2, ![248, 992]⟩
abbrev S5x2496x256 : Shape := ⟨3, ![5, 2496, 256]⟩
abbrev S256 : Shape := ⟨1, ![256]⟩
abbrev S1x256 : Shape := ⟨2, ![1, 256]⟩
abbrev S1024x256 : Shape := ⟨2, ![1024, 256]⟩
abbrev S_ : Shape := ⟨0, ![]⟩
abbrev S1x992 : Shape := ⟨2, ![1, 992]⟩
abbrev S1x248 : Shape := ⟨2, ![1, 248]⟩
abbrev S1x1 : Shape := ⟨2, ![1, 1]⟩
abbrev S1x31 : Shape := ⟨2, ![1, 31]⟩
abbrev S1x32 : Shape := ⟨2, ![1, 32]⟩
abbrev S1x30 : Shape := ⟨2, ![1, 30]⟩
abbrev S1x2 : Shape := ⟨2, ![1, 2]⟩
abbrev S1x29 : Shape := ⟨2, ![1, 29]⟩
abbrev S1x3 : Shape := ⟨2, ![1, 3]⟩
abbrev S1x28 : Shape := ⟨2, ![1, 28]⟩
abbrev S1x4 : Shape := ⟨2, ![1, 4]⟩
abbrev S1x27 : Shape := ⟨2, ![1, 27]⟩
abbrev S1x5 : Shape := ⟨2, ![1, 5]⟩
abbrev S1x26 : Shape := ⟨2, ![1, 26]⟩
abbrev S1x6 : Shape := ⟨2, ![1, 6]⟩
abbrev S1x25 : Shape := ⟨2, ![1, 25]⟩
abbrev S1x7 : Shape := ⟨2, ![1, 7]⟩
abbrev S1x24 : Shape := ⟨2, ![1, 24]⟩
abbrev S1x8 : Shape := ⟨2, ![1, 8]⟩
abbrev S1x23 : Shape := ⟨2, ![1, 23]⟩
abbrev S1x9 : Shape := ⟨2, ![1, 9]⟩
abbrev S1x22 : Shape := ⟨2, ![1, 22]⟩
abbrev S1x10 : Shape := ⟨2, ![1, 10]⟩
abbrev S1x21 : Shape := ⟨2, ![1, 21]⟩
abbrev S1x11 : Shape := ⟨2, ![1, 11]⟩
abbrev S1x20 : Shape := ⟨2, ![1, 20]⟩
abbrev S1x12 : Shape := ⟨2, ![1, 12]⟩
abbrev S1x19 : Shape := ⟨2, ![1, 19]⟩
abbrev S1x13 : Shape := ⟨2, ![1, 13]⟩
abbrev S1x18 : Shape := ⟨2, ![1, 18]⟩
abbrev S1x14 : Shape := ⟨2, ![1, 14]⟩
abbrev S1x17 : Shape := ⟨2, ![1, 17]⟩
abbrev S1x15 : Shape := ⟨2, ![1, 15]⟩
abbrev S1x16 : Shape := ⟨2, ![1, 16]⟩
abbrev S32x32 : Shape := ⟨2, ![32, 32]⟩
abbrev S32 : Shape := ⟨1, ![32]⟩
abbrev S32x1 : Shape := ⟨2, ![32, 1]⟩
abbrev S32x128 : Shape := ⟨2, ![32, 128]⟩
abbrev S1x2496x256 : Shape := ⟨3, ![1, 2496, 256]⟩
abbrev S2496x256 : Shape := ⟨2, ![2496, 256]⟩
abbrev S776x256 : Shape := ⟨2, ![776, 256]⟩
abbrev S256x256 : Shape := ⟨2, ![256, 256]⟩
abbrev S768x256 : Shape := ⟨2, ![768, 256]⟩
abbrev S4096x256 : Shape := ⟨2, ![4096, 256]⟩
abbrev S128x8192 : Shape := ⟨2, ![128, 8192]⟩
abbrev S32x8192 : Shape := ⟨2, ![32, 8192]⟩

abbrev nBuf : Space → Nat
  | .hbm => 9
  | .vmem => 7
  | .smem => 0
  | _ => 0

abbrev bufTy : (tb : Table) → Fin (tcTables nBuf tb) → BufTy
  | .hbm, ⟨0, _⟩ => ⟨S776x2496, .f32⟩
  | .hbm, ⟨1, _⟩ => ⟨S2x31744, .i32⟩
  | .hbm, ⟨2, _⟩ => ⟨S992x1, .f32⟩
  | .hbm, ⟨3, _⟩ => ⟨S992x248, .f32⟩
  | .hbm, ⟨4, _⟩ => ⟨S248x992, .f32⟩
  | .hbm, ⟨5, _⟩ => ⟨S5x2496x256, .f32⟩
  | .hbm, ⟨6, _⟩ => ⟨S256, .f32⟩
  | .hbm, ⟨7, _⟩ => ⟨S1x256, .f32⟩
  | .hbm, ⟨8, _⟩ => ⟨S1024x256, .f32⟩
  | .local _ .vmem, ⟨0, _⟩ => ⟨S776x2496, .f32⟩
  | .local _ .vmem, ⟨1, _⟩ => ⟨S992x1, .f32⟩
  | .local _ .vmem, ⟨2, _⟩ => ⟨S1x256, .f32⟩
  | .local _ .vmem, ⟨3, _⟩ => ⟨S1024x256, .f32⟩
  | .local _ .vmem, ⟨4, _⟩ => ⟨S5x2496x256, .f32⟩
  | .local _ .vmem, ⟨5, _⟩ => ⟨S992x248, .f32⟩
  | .local _ .vmem, ⟨6, _⟩ => ⟨S248x992, .f32⟩
  | _, _ => ⟨S776x2496, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S776x2496 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S992x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== FirstReferenceIdeal.lean ====
abbrev S776x2496 : Shape := ⟨2, ![776, 2496]⟩
abbrev S2x31744 : Shape := ⟨2, ![2, 31744]⟩
abbrev S992x1 : Shape := ⟨2, ![992, 1]⟩
abbrev S992x248 : Shape := ⟨2, ![992, 248]⟩
abbrev S248x992 : Shape := ⟨2, ![248, 992]⟩
abbrev S5x2496x256 : Shape := ⟨3, ![5, 2496, 256]⟩
abbrev S256 : Shape := ⟨1, ![256]⟩
abbrev S1x992 : Shape := ⟨2, ![1, 992]⟩
abbrev S1x248 : Shape := ⟨2, ![1, 248]⟩
abbrev S_ : Shape := ⟨0, ![]⟩
abbrev S1x1x1x992 : Shape := ⟨4, ![1, 1, 1, 992]⟩
abbrev S32x1x1x992 : Shape := ⟨4, ![32, 1, 1, 992]⟩
abbrev S32x992 : Shape := ⟨2, ![32, 992]⟩
abbrev S31744 : Shape := ⟨1, ![31744]⟩
abbrev S31744x1024 : Shape := ⟨2, ![31744, 1024]⟩
abbrev S1x31744 : Shape := ⟨2, ![1, 31744]⟩
abbrev S31744x1 : Shape := ⟨2, ![31744, 1]⟩
abbrev S1024 : Shape := ⟨1, ![1024]⟩
abbrev S1024x31744 : Shape := ⟨2, ![1024, 31744]⟩
abbrev S1024x1024 : Shape := ⟨2, ![1024, 1024]⟩
abbrev S1x2496 : Shape := ⟨2, ![1, 2496]⟩
abbrev S256x2496 : Shape := ⟨2, ![256, 2496]⟩
abbrev S768x2496 : Shape := ⟨2, ![768, 2496]⟩
abbrev S1024x2496 : Shape := ⟨2, ![1024, 2496]⟩
abbrev S32x32x2496 : Shape := ⟨3, ![32, 32, 2496]⟩
abbrev S1x2496x256 : Shape := ⟨3, ![1, 2496, 256]⟩
abbrev S2496x256 : Shape := ⟨2, ![2496, 256]⟩
abbrev S1024x256 : Shape := ⟨2, ![1024, 256]⟩
abbrev S1x256 : Shape := ⟨2, ![1, 256]⟩
abbrev S32x32x256 : Shape := ⟨3, ![32, 32, 256]⟩

abbrev nBuf : Space → Nat
  | .hbm => 135
  | .vmem => 0
  | .smem => 0
  | _ => 0

abbrev hbmTy0_0 (i : Nat) : BufTy := match i % 128 with
  | 0 => ⟨S776x2496, .f32⟩
  | 1 => ⟨S2x31744, .i32⟩
  | 2 => ⟨S992x1, .f32⟩
  | 3 => ⟨S992x248, .f32⟩
  | 4 => ⟨S248x992, .f32⟩
  | 5 => ⟨S5x2496x256, .f32⟩
  | 6 => ⟨S256, .f32⟩
  | 7 => ⟨S1x992, .f32⟩
  | 8 => ⟨S1x248, .f32⟩
  | 9 => ⟨S_, .f32⟩
  | 10 => ⟨S1x248, .f32⟩
  | 11 => ⟨S1x248, .i1⟩
  | 12 => ⟨S_, .f32⟩
  | 13 => ⟨S1x248, .f32⟩
  | 14 => ⟨S1x248, .i1⟩
  | 15 => ⟨S_, .f32⟩
  | 16 => ⟨S_, .f32⟩
  | 17 => ⟨S1x248, .f32⟩
  | 18 => ⟨S1x248, .f32⟩
  | 19 => ⟨S1x248, .f32⟩
  | 20 => ⟨S_, .f32⟩
  | 21 => ⟨S1x248, .f32⟩
  | 22 => ⟨S1x248, .f32⟩
  | 23 => ⟨S1x248, .f32⟩
  | 24 => ⟨S1x992, .f32⟩
  | 25 => ⟨S1x992, .f32⟩
  | 26 => ⟨S_, .f32⟩
  | 27 => ⟨S1x992, .f32⟩
  | 28 => ⟨S1x992, .f32⟩
  | 29 => ⟨S1x1x1x992, .f32⟩
  | 30 => ⟨S32x1x1x992, .f32⟩
  | 31 => ⟨S32x992, .f32⟩
  | 32 => ⟨S31744, .f32⟩
  | 33 => ⟨S31744x1024, .i32⟩
  | 34 => ⟨S1x31744, .i32⟩
  | 35 => ⟨S31744, .i32⟩
  | 36 => ⟨S31744x1, .i32⟩
  | 37 => ⟨S31744x1024, .i32⟩
  | 38 => ⟨S31744x1024, .i1⟩
  | 39 => ⟨S_, .f32⟩
  | 40 => ⟨S_, .f32⟩
  | 41 => ⟨S31744x1024, .f32⟩
  | 42 => ⟨S31744x1024, .f32⟩
  | 43 => ⟨S31744x1024, .f32⟩
  | 44 => ⟨S1x31744, .i32⟩
  | 45 => ⟨S31744, .i32⟩
  | 46 => ⟨S31744x1, .i32⟩
  | 47 => ⟨S31744x1024, .i32⟩
  | 48 => ⟨S31744x1024, .i1⟩
  | 49 => ⟨S_, .f32⟩
  | 50 => ⟨S_, .f32⟩
  | 51 => ⟨S31744x1024, .f32⟩
  | 52 => ⟨S31744x1024, .f32⟩
  | 53 => ⟨S31744x1024, .f32⟩
  | 54 => ⟨S1024, .f32⟩
  | 55 => ⟨S_, .f32⟩
  | 56 => ⟨S1024, .f32⟩
  | 57 => ⟨S1024, .i1⟩
  | 58 => ⟨S_, .f32⟩
  | 59 => ⟨S1024, .f32⟩
  | 60 => ⟨S1024, .i1⟩
  | 61 => ⟨S_, .f32⟩
  | 62 => ⟨S_, .f32⟩
  | 63 => ⟨S1024, .f32⟩
  | 64 => ⟨S1024, .f32⟩
  | 65 => ⟨S1024, .f32⟩
  | 66 => ⟨S_, .f32⟩
  | 67 => ⟨S1024, .f32⟩
  | 68 => ⟨S1024, .f32⟩
  | 69 => ⟨S_, .f32⟩
  | 70 => ⟨S_, .f32⟩
  | 71 => ⟨S1024, .f32⟩
  | 72 => ⟨S1024, .f32⟩
  | 73 => ⟨S31744, .f32⟩
  | 74 => ⟨S31744, .f32⟩
  | 75 => ⟨S31744, .f32⟩
  | 76 => ⟨S31744, .f32⟩
  | 77 => ⟨S31744, .f32⟩
  | 78 => ⟨S31744x1, .f32⟩
  | 79 => ⟨S31744x1024, .f32⟩
  | 80 => ⟨S31744x1024, .f32⟩
  | 81 => ⟨S31744x1024, .f32⟩
  | 82 => ⟨S1024x31744, .f32⟩
  | 83 => ⟨S1024x1024, .f32⟩
  | 84 => ⟨S1x2496, .f32⟩
  | 85 => ⟨S256x2496, .f32⟩
  | 86 => ⟨S768x2496, .f32⟩
  | 87 => ⟨S1024x2496, .f32⟩
  | 88 => ⟨S32x32x2496, .f32⟩
  | 89 => ⟨S32x32x2496, .f32⟩
  | 90 => ⟨S1024x2496, .f32⟩
  | 91 => ⟨S1x2496x256, .f32⟩
  | 92 => ⟨S2496x256, .f32⟩
  | 93 => ⟨S1024x256, .f32⟩
  | 94 => ⟨S1024x2496, .f32⟩
  | 95 => ⟨S1x2496x256, .f32⟩
  | 96 => ⟨S2496x256, .f32⟩
  | 97 => ⟨S1024x256, .f32⟩
  | 98 => ⟨S1024x256, .f32⟩
  | 99 => ⟨S1024x2496, .f32⟩
  | 100 => ⟨S_, .f32⟩
  | 101 => ⟨S1024x2496, .f32⟩
  | 102 => ⟨S1024x2496, .f32⟩
  | 103 => ⟨S1024x2496, .f32⟩
  | 104 => ⟨S1x2496x256, .f32⟩
  | 105 => ⟨S2496x256, .f32⟩
  | 106 => ⟨S1024x256, .f32⟩
  | 107 => ⟨S1024x256, .f32⟩
  | 108 => ⟨S1024x2496, .f32⟩
  | 109 => ⟨S_, .f32⟩
  | 110 => ⟨S1024x2496, .f32⟩
  | 111 => ⟨S1024x2496, .f32⟩
  | 112 => ⟨S1024x2496, .f32⟩
  | 113 => ⟨S1x2496x256, .f32⟩
  | 114 => ⟨S2496x256, .f32⟩
  | 115 => ⟨S1024x256, .f32⟩
  | 116 => ⟨S1024x256, .f32⟩
  | 117 => ⟨S1024x2496, .f32⟩
  | 118 => ⟨S_, .f32⟩
  | 119 => ⟨S1024x2496, .f32⟩
  | 120 => ⟨S1024x2496, .f32⟩
  | 121 => ⟨S1024x2496, .f32⟩
  | 122 => ⟨S1x2496x256, .f32⟩
  | 123 => ⟨S2496x256, .f32⟩
  | 124 => ⟨S1024x256, .f32⟩
  | 125 => ⟨S1024x256, .f32⟩
  | 126 => ⟨S1x256, .f32⟩
  | 127 => ⟨S1024x256, .f32⟩
  | _ => ⟨S776x2496, .f32⟩

abbrev hbmTy0_1 (i : Nat) : BufTy := match i % 128 with
  | 0 => ⟨S1024x256, .f32⟩
  | 1 => ⟨S_, .f32⟩
  | 2 => ⟨S1024x256, .f32⟩
  | 3 => ⟨S1024x256, .f32⟩
  | 4 => ⟨S32x32x256, .f32⟩
  | 5 => ⟨S32x32x256, .f32⟩
  | 6 => ⟨S1024x256, .f32⟩
  | _ => ⟨S776x2496, .f32⟩

abbrev hbmTy (i : Nat) : BufTy := match i / 128 with
  | 0 => hbmTy0_0 i
  | 1 => hbmTy0_1 i
  | _ => ⟨S776x2496, .f32⟩

abbrev bufTy : (tb : Table) → Fin (tcTables nBuf tb) → BufTy
  | .hbm, ⟨i, _⟩ => hbmTy i
  | _, _ => ⟨S776x2496, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_cst_1 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_v4 : Ref sig .tc := ⟨.hbm, 18, rfl⟩
abbrev main_call0_v5 : Ref sig .tc := ⟨.hbm, 19, rfl⟩
abbrev main_call0_cst_2 : Ref sig .tc := ⟨.hbm, 20, rfl⟩
abbrev main_call0_v6 : Ref sig .tc := ⟨.hbm, 21, rfl⟩
abbrev main_call0_v7 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call1_cst : Ref sig .tc := ⟨.hbm, 26, rfl⟩
abbrev main_call1_v0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_cst_0 : Ref sig .tc := ⟨.hbm, 40, rfl⟩
abbrev main_call2_v0 : Ref sig .tc := ⟨.hbm, 41, rfl⟩
abbrev main_call2_v1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_1 : Ref sig .tc := ⟨.hbm, 49, rfl⟩
abbrev main_cst_2 : Ref sig .tc := ⟨.hbm, 50, rfl⟩
abbrev main_call3_v0 : Ref sig .tc := ⟨.hbm, 51, rfl⟩
abbrev main_call3_v1 : Ref sig .tc := ⟨.hbm, 52, rfl⟩
abbrev main_v22 : Ref sig .tc := ⟨.hbm, 53, rfl⟩
abbrev main_v23 : Ref sig .tc := ⟨.hbm, 54, rfl⟩
abbrev main_cst_3 : Ref sig .tc := ⟨.hbm, 55, rfl⟩
abbrev main_v24 : Ref sig .tc := ⟨.hbm, 56, rfl⟩
abbrev main_v25 : Ref sig .tc := ⟨.hbm, 57, rfl⟩
abbrev main_cst_4 : Ref sig .tc := ⟨.hbm, 58, rfl⟩
abbrev main_v26 : Ref sig .tc := ⟨.hbm, 59, rfl⟩
abbrev main_v27 : Ref sig .tc := ⟨.hbm, 60, rfl⟩
abbrev main_cst_5 : Ref sig .tc := ⟨.hbm, 61, rfl⟩
abbrev main_call4_v0 : Ref sig .tc := ⟨.hbm, 62, rfl⟩
abbrev main_call4_v1 : Ref sig .tc := ⟨.hbm, 63, rfl⟩
abbrev main_v28 : Ref sig .tc := ⟨.hbm, 64, rfl⟩
abbrev main_v29 : Ref sig .tc := ⟨.hbm, 65, rfl⟩
abbrev main_cst_6 : Ref sig .tc := ⟨.hbm, 66, rfl⟩
abbrev main_v30 : Ref sig .tc := ⟨.hbm, 67, rfl⟩
abbrev main_v31 : Ref sig .tc := ⟨.hbm, 68, rfl⟩
abbrev main_cst_7 : Ref sig .tc := ⟨.hbm, 69, rfl⟩
abbrev main_call5_v0 : Ref sig .tc := ⟨.hbm, 70, rfl⟩
abbrev main_call5_v1 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_8 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_9 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_10 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_call6_cst : Ref sig .tc := ⟨.hbm, 129, rfl⟩
abbrev main_call6_v0 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩

abbrev nD : Nat := 1
abbrev τ : Topo := Topo.v7x

variable {F : FTy → Type} [FloatOps F]
-- ==== Proof.KernelIdealTail.lean ====
module

public import proofs.«01_k».proof.Proof.Gen.KernelIdeal.Frame
public import proofs.«01_k».proof.Proof.Gen.KernelIdeal.Skeleton
public import Idealize.ShloMosaic.Lib.Pipeline.FrameValue
public import Idealize.ShloMosaic.Lib.Claim
public import Idealize.ShloMosaic.Lib.VecWindow
public import Idealize.ShloMosaic.Lib.Pipeline.Value

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The scratch operands: whole scoped buffers of the kernel's own, passed beside the windows. -/
abbrev scM0_0 : Memref sig .tc .vmem S5x2496x256 .f32 := Memref.whole cc0_scratch0
abbrev scM0_1 : Memref sig .tc .vmem S5x256x2496 .f32 := Memref.whole cc0_scratch1
abbrev scM0_2 : Memref sig .tc .vmem S256x2496 .f32 := Memref.whole cc0_scratch4
abbrev scM0_3 : Memref sig .tc .vmem S256x2496 .f32 := Memref.whole cc0_scratch5
abbrev scM0_4 : Memref sig .tc .vmem S992x248 .f32 := Memref.whole cc0_scratch8
abbrev scM0_5 : Memref sig .tc .vmem S248x992 .f32 := Memref.whole cc0_scratch9
abbrev scM0_6 : Memref sig .tc .vmem S5x256x64 .f32 := Memref.whole cc0_scratch10
abbrev scM0_7 : Memref sig .tc .vmem S5x64x256 .f32 := Memref.whole cc0_scratch11
/-- The operands left in HBM that the body copies into scratch itself, whole. -/
abbrev hbM0_0 : Memref sig .tc .hbm S992x248 .f32 := Memref.whole main_arg5
abbrev hbM0_1 : Memref sig .tc .hbm S248x992 .f32 := Memref.whole main_arg6
abbrev hbM0_2 : Memref sig .tc .hbm S5x2496x256 .f32 := Memref.whole main_arg19
abbrev hbM0_3 : Memref sig .tc .hbm S5x256x64 .f32 := Memref.whole main_arg21
abbrev hbM0_4 : Memref sig .tc .hbm S5x64x256 .f32 := Memref.whole main_arg24
abbrev hbM0_5 : Memref sig .tc .hbm S5x256x2496 .f32 := Memref.whole main_arg26
abbrev hbM0_6 : Memref sig .tc .hbm S1024x2496 .f32 := Memref.whole main_v0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 8 → SemLoc sig := fun j => (![SemLoc.dma 21, SemLoc.dma 22, SemLoc.dma 23, SemLoc.dma 24, SemLoc.dma 25, SemLoc.dma 26, SemLoc.dma 27, SemLoc.dma 28] : Fin 8 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0) := by
  rw [Pipeline.ownSems0_eq_of_list c osem0 [0, 1, 2, 3, 4, 5, 6, 7] (by decide) (by decide)]; rfl
/-- The HBM operands the body copies from and leaves unchanged, as references: unscoped, no window's array (`Pipeline.restRefs`). -/
def H0 : Finset (Ref sig .tc) := {main_arg5, main_arg6, main_arg19, main_arg21, main_arg24, main_arg26}
theorem H0_sub : H0 ⊆ Pipeline.restRefs sig spec0 := by decide
/-- The HBM operand the body writes: the result. -/
def R0 : Finset (Ref sig .tc) := {main_v0}
/-- It is unscoped, no window's array and none of the ones read. -/
theorem R0_sub : R0 ⊆ Pipeline.restRefs sig spec0 \ H0 := by decide
/-- The read operands' points-tos at the launch contents, listed. -/
theorem hbmPts0_eq (c : Dev nD) :
    (bigSep H0 (fun b => ((c : Thread nD τ).loc b) ↦{fullShare} V m c b) : sProp 𝕄) = iprop(hbPt0 c hbM0_0 (V m c main_arg5) ∗ hbPt0 c hbM0_1 (V m c main_arg6) ∗ hbPt0 c hbM0_2 (V m c main_arg19) ∗ hbPt0 c hbM0_3 (V m c main_arg21) ∗ hbPt0 c hbM0_4 (V m c main_arg24) ∗ hbPt0 c hbM0_5 (V m c main_arg26)) := by
  rw [BI.bigSep_eq_bigSepL_of_eq [main_arg5, main_arg6, main_arg19, main_arg21, main_arg24, main_arg26] (by decide) (by decide)]; rfl
/-! ## The body, cut before its output blocks -/

/-- The last part of the body: the four output blocks, each stored in a staging buffer and copied out. -/
def outBlocks (arg0 : Memref sig .tc .vmem S1024x60 .f32) (harg0 : arg0.IsWhole) (arg1 : Memref sig .tc .vmem S1x60 .f32) (harg1 : arg1.IsWhole) (arg2 : Memref sig .tc .vmem S32x4 .f32) (harg2 : arg2.IsWhole) (arg3 : Memref sig .tc .vmem S1x32 .f32) (harg3 : arg3.IsWhole) (arg4 : Memref sig .tc .vmem S64x32x4 .f32) (harg4 : arg4.IsWhole) (arg5 : Memref sig .tc .vmem S1x64 .f32) (harg5 : arg5.IsWhole) (arg6 : Memref sig .tc .vmem S32x8 .f32) (harg6 : arg6.IsWhole) (arg7 : Memref sig .tc .vmem S1x32 .f32) (harg7 : arg7.IsWhole) (arg8 : Memref sig .tc .vmem S64x32x8 .f32) (harg8 : arg8.IsWhole) (arg9 : Memref sig .tc .vmem S1x64 .f32) (harg9 : arg9.IsWhole) (arg10 : Memref sig .tc .vmem S32x8 .f32) (harg10 : arg10.IsWhole) (arg11 : Memref sig .tc .vmem S1x32 .f32) (harg11 : arg11.IsWhole) (arg12 : Memref sig .tc .vmem S64x32x8 .f32) (harg12 : arg12.IsWhole) (arg13 : Memref sig .tc .vmem S1x64 .f32) (harg13 : arg13.IsWhole) (arg14 : Memref sig .tc .vmem S992x1 .f32) (harg14 : arg14.IsWhole) (arg15 : Memref sig .tc .hbm S992x248 .f32) (harg15 : arg15.IsWhole) (arg16 : Memref sig .tc .hbm S248x992 .f32) (harg16 : arg16.IsWhole) (arg17 : Memref sig .tc .hbm S5x2496x256 .f32) (harg17 : arg17.IsWhole) (arg18 : Memref sig .tc .vmem S1x256 .f32) (harg18 : arg18.IsWhole) (arg19 : Memref sig .tc .hbm S5x256x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .hbm S5x64x256 .f32) (harg23 : arg23.IsWhole) (arg24 : Memref sig .tc .vmem S1x256 .f32) (harg24 : arg24.IsWhole) (arg25 : Memref sig .tc .hbm S5x256x2496 .f32) (harg25 : arg25.IsWhole) (arg26 : Memref sig .tc .vmem S1x2496 .f32) (harg26 : arg26.IsWhole) (arg27 : Memref sig .tc .hbm S1024x2496 .f32) (harg27 : arg27.IsWhole) (arg28 : Memref sig .tc .vmem S5x2496x256 .f32) (harg28 : arg28.IsWhole) (arg29 : Memref sig .tc .vmem S5x256x2496 .f32) (harg29 : arg29.IsWhole) (arg30 : DmaSems sig S_) (arg31 : DmaSems sig S_) (arg32 : Memref sig .tc .vmem S256x2496 .f32) (harg32 : arg32.IsWhole) (arg33 : Memref sig .tc .vmem S256x2496 .f32) (harg33 : arg33.IsWhole) (arg34 : DmaSems sig S_) (arg35 : DmaSems sig S_) (arg36 : Memref sig .tc .vmem S992x248 .f32) (harg36 : arg36.IsWhole) (arg37 : Memref sig .tc .vmem S248x992 .f32) (harg37 : arg37.IsWhole) (arg38 : Memref sig .tc .vmem S5x256x64 .f32) (harg38 : arg38.IsWhole) (arg39 : Memref sig .tc .vmem S5x64x256 .f32) (harg39 : arg39.IsWhole) (arg40 : DmaSems sig S_) (arg41 : DmaSems sig S_) (arg42 : DmaSems sig S_) (arg43 : DmaSems sig S_) (v774 v778 v782 v786 v790 : FVec F S1024x256 .f32) : Prog (TpuEff nD τ sig (Elt F) Λ₀ .tc) PUnit := do
  k0_part21_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v774 v778 v782 v786 v790
  k0_part22_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v774 v778 v782 v786 v790
  k0_part23_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v774 v778 v782 v786 v790
  let v915 : FVec F S256x2496 .f32 ← k0_part24_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v774 v778 v782 v786 v790
  Prog.lift (.store arg33 (Rect.unit (s := S256x2496) ![0, 0] S256x2496.size inb_S256x2496_S256x2496_0_0) (k0_pay1 v915) Finset.univ (View.stores_vmem_bits_univ h_S256x2496 rfl) (.inl rfl))
  let v920 : Memref sig .tc .hbm S256x2496 .f32 := arg27.slice (Rect.unit (s := S1024x2496) ![768, 0] S256x2496.size inb_S1024x2496_S256x2496_768_0) (fun _ => rfl)
  Prog.lift (.enqueueDma arg33 (.here v920) (.dma arg35.sem) harg33.wordExact (View.wordExact_bits rfl) ⟨Or.inl rfl, trivial⟩)
  let v921 : Memref sig .tc .hbm S256x2496 .f32 := arg27.slice (Rect.unit (s := S1024x2496) ![512, 0] S256x2496.size inb_S1024x2496_S256x2496_512_0) (fun _ => rfl)
  Prog.lift (.waitDma2 arg34.sem arg32 v921 harg32.wordExact (View.wordExact_bits rfl))
  let v922 : Memref sig .tc .hbm S256x2496 .f32 := arg27.slice (Rect.unit (s := S1024x2496) ![768, 0] S256x2496.size inb_S1024x2496_S256x2496_768_0) (fun _ => rfl)
  Prog.lift (.waitDma2 arg35.sem arg33 v922 harg33.wordExact (View.wordExact_bits rfl))
  pure ⟨⟩

/-- Everything before the output blocks, with what follows as `k`. -/
def upToBlocks (arg0 : Memref sig .tc .vmem S1024x60 .f32) (harg0 : arg0.IsWhole) (arg1 : Memref sig .tc .vmem S1x60 .f32) (harg1 : arg1.IsWhole) (arg2 : Memref sig .tc .vmem S32x4 .f32) (harg2 : arg2.IsWhole) (arg3 : Memref sig .tc .vmem S1x32 .f32) (harg3 : arg3.IsWhole) (arg4 : Memref sig .tc .vmem S64x32x4 .f32) (harg4 : arg4.IsWhole) (arg5 : Memref sig .tc .vmem S1x64 .f32) (harg5 : arg5.IsWhole) (arg6 : Memref sig .tc .vmem S32x8 .f32) (harg6 : arg6.IsWhole) (arg7 : Memref sig .tc .vmem S1x32 .f32) (harg7 : arg7.IsWhole) (arg8 : Memref sig .tc .vmem S64x32x8 .f32) (harg8 : arg8.IsWhole) (arg9 : Memref sig .tc .vmem S1x64 .f32) (harg9 : arg9.IsWhole) (arg10 : Memref sig .tc .vmem S32x8 .f32) (harg10 : arg10.IsWhole) (arg11 : Memref sig .tc .vmem S1x32 .f32) (harg11 : arg11.IsWhole) (arg12 : Memref sig .tc .vmem S64x32x8 .f32) (harg12 : arg12.IsWhole) (arg13 : Memref sig .tc .vmem S1x64 .f32) (harg13 : arg13.IsWhole) (arg14 : Memref sig .tc .vmem S992x1 .f32) (harg14 : arg14.IsWhole) (arg15 : Memref sig .tc .hbm S992x248 .f32) (harg15 : arg15.IsWhole) (arg16 : Memref sig .tc .hbm S248x992 .f32) (harg16 : arg16.IsWhole) (arg17 : Memref sig .tc .hbm S5x2496x256 .f32) (harg17 : arg17.IsWhole) (arg18 : Memref sig .tc .vmem S1x256 .f32) (harg18 : arg18.IsWhole) (arg19 : Memref sig .tc .hbm S5x256x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .hbm S5x64x256 .f32) (harg23 : arg23.IsWhole) (arg24 : Memref sig .tc .vmem S1x256 .f32) (harg24 : arg24.IsWhole) (arg25 : Memref sig .tc .hbm S5x256x2496 .f32) (harg25 : arg25.IsWhole) (arg26 : Memref sig .tc .vmem S1x2496 .f32) (harg26 : arg26.IsWhole) (arg27 : Memref sig .tc .hbm S1024x2496 .f32) (harg27 : arg27.IsWhole) (arg28 : Memref sig .tc .vmem S5x2496x256 .f32) (harg28 : arg28.IsWhole) (arg29 : Memref sig .tc .vmem S5x256x2496 .f32) (harg29 : arg29.IsWhole) (arg30 : DmaSems sig S_) (arg31 : DmaSems sig S_) (arg32 : Memref sig .tc .vmem S256x2496 .f32) (harg32 : arg32.IsWhole) (arg33 : Memref sig .tc .vmem S256x2496 .f32) (harg33 : arg33.IsWhole) (arg34 : DmaSems sig S_) (arg35 : DmaSems sig S_) (arg36 : Memref sig .tc .vmem S992x248 .f32) (harg36 : arg36.IsWhole) (arg37 : Memref sig .tc .vmem S248x992 .f32) (harg37 : arg37.IsWhole) (arg38 : Memref sig .tc .vmem S5x256x64 .f32) (harg38 : arg38.IsWhole) (arg39 : Memref sig .tc .vmem S5x64x256 .f32) (harg39 : arg39.IsWhole) (arg40 : DmaSems sig S_) (arg41 : DmaSems sig S_) (arg42 : DmaSems sig S_) (arg43 : DmaSems sig S_) (k : FVec F S1024x256 .f32 → FVec F S1024x256 .f32 → FVec F S1024x256 .f32 → FVec F S1024x256 .f32 → FVec F S1024x256 .f32 → Prog (TpuEff nD τ sig (Elt F) Λ₀ .tc) PUnit) : Prog (TpuEff nD τ sig (Elt F) Λ₀ .tc) PUnit := do
  let ⟨v6, v15, v18, v20, v23, v26, v29, v32, v33, cst_17⟩ : Σ' (v6 : IVec S1024x1 32) (v15 : FVec F S776x62 .f32) (v18 : FVec F S4x32 .f32) (v20 : FVec F S62x32 .f32) (v23 : FVec F S62x32 .f32) (v26 : FVec F S62x32 .f32) (v29 : FVec F S62x32 .f32) (v32 : FVec F S62x32 .f32) (v33 : FVec F S10x32 .f32), F .f32 ← k0_part1_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43
  let ⟨v35, v38, v41, v44, v47, v50, v53, v56, v59, v62, v65, v68, v69, cst_41⟩ : Σ' (v35 : FVec F S62x32 .f32) (v38 : FVec F S62x32 .f32) (v41 : FVec F S62x32 .f32) (v44 : FVec F S62x32 .f32) (v47 : FVec F S62x32 .f32) (v50 : FVec F S62x32 .f32) (v53 : FVec F S62x32 .f32) (v56 : FVec F S62x32 .f32) (v59 : FVec F S62x32 .f32) (v62 : FVec F S62x32 .f32) (v65 : FVec F S62x32 .f32) (v68 : FVec F S62x32 .f32) (v69 : FVec F S34x32 .f32), F .f32 ← k0_part2_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v18 v33 cst_17
  let ⟨v71, v74, v77, v80, v83, v86, v89, v92, v95, v98, v101, v104, v106⟩ : Σ' (v71 : FVec F S62x32 .f32) (v74 : FVec F S62x32 .f32) (v77 : FVec F S62x32 .f32) (v80 : FVec F S62x32 .f32) (v83 : FVec F S62x32 .f32) (v86 : FVec F S62x32 .f32) (v89 : FVec F S62x32 .f32) (v92 : FVec F S62x32 .f32) (v95 : FVec F S62x32 .f32) (v98 : FVec F S62x32 .f32) (v101 : FVec F S62x32 .f32) (v104 : FVec F S62x32 .f32), FVec F S62x32 .f32 ← k0_part3_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v18 v69 cst_41
  let ⟨v117, v121, v123, v126, v129, v132, v135, v138, v141, v142, v143⟩ : Σ' (v117 : FVec F S776x1024 .f32) (v121 : FVec F S128x64 .f32) (v123 : FVec F S1024x64 .f32) (v126 : FVec F S1024x64 .f32) (v129 : FVec F S1024x64 .f32) (v132 : FVec F S1024x64 .f32) (v135 : FVec F S1024x64 .f32) (v138 : FVec F S1024x64 .f32) (v141 : FVec F S1024x64 .f32) (v142 : FVec F S448x64 .f32), FVec F S448x64 .f32 ← k0_part4_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v15 v20 v23 v26 v29 v32 v35 v38 v41 v44 v47 v50 v53 v56 v59 v62 v65 v68 v71 v74 v77 v80 v83 v86 v89 v92 v95 v98 v101 v104 v106
  let ⟨v173, v176, v178, v181⟩ : Σ' (v173 : FVec F S776x960 .f32) (v176 : FVec F S8x32 .f32) (v178 : FVec F S62x32 .f32), FVec F S62x32 .f32 ← k0_part5_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v117 v121 v123 v126 v129 v132 v135 v138 v141 v142 v143
  let ⟨v184, v187, v190, v193, v196, v199, v202, v205, v208, v211, v214, v217⟩ : Σ' (v184 : FVec F S62x32 .f32) (v187 : FVec F S62x32 .f32) (v190 : FVec F S62x32 .f32) (v193 : FVec F S62x32 .f32) (v196 : FVec F S62x32 .f32) (v199 : FVec F S62x32 .f32) (v202 : FVec F S62x32 .f32) (v205 : FVec F S62x32 .f32) (v208 : FVec F S62x32 .f32) (v211 : FVec F S62x32 .f32) (v214 : FVec F S62x32 .f32), FVec F S62x32 .f32 ← k0_part6_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v176
  let ⟨v220, v223, v226, v229, v232, v235, v238, v241, v244, v247, v250, v253⟩ : Σ' (v220 : FVec F S62x32 .f32) (v223 : FVec F S62x32 .f32) (v226 : FVec F S62x32 .f32) (v229 : FVec F S62x32 .f32) (v232 : FVec F S62x32 .f32) (v235 : FVec F S62x32 .f32) (v238 : FVec F S62x32 .f32) (v241 : FVec F S62x32 .f32) (v244 : FVec F S62x32 .f32) (v247 : FVec F S62x32 .f32) (v250 : FVec F S62x32 .f32), FVec F S62x32 .f32 ← k0_part7_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v176
  let ⟨v269, v273, v275, v278, v281, v284, v287, v290, cst_180⟩ : Σ' (v269 : FVec F S776x960 .f32) (v273 : FVec F S256x64 .f32) (v275 : FVec F S960x64 .f32) (v278 : FVec F S960x64 .f32) (v281 : FVec F S960x64 .f32) (v284 : FVec F S960x64 .f32) (v287 : FVec F S960x64 .f32) (v290 : FVec F S960x64 .f32), F .f32 ← k0_part8_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v15 v176 v178 v181 v184 v187 v190 v193 v196 v199 v202 v205 v208 v211 v214 v217 v220 v223 v226 v229 v232 v235 v238 v241 v244 v247 v250 v253
  let ⟨v316, v319, v321, v324, v327, v328⟩ : Σ' (v316 : FVec F S776x768 .f32) (v319 : FVec F S8x32 .f32) (v321 : FVec F S62x32 .f32) (v324 : FVec F S62x32 .f32) (v327 : FVec F S62x32 .f32), FVec F S6x32 .f32 ← k0_part9_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v269 v273 v275 v278 v281 v284 v287 v290 cst_180
  let ⟨v330, v333, v336, v339, v342, v345, v348, v351, v354, v357, v360, v363, v364⟩ : Σ' (v330 : FVec F S62x32 .f32) (v333 : FVec F S62x32 .f32) (v336 : FVec F S62x32 .f32) (v339 : FVec F S62x32 .f32) (v342 : FVec F S62x32 .f32) (v345 : FVec F S62x32 .f32) (v348 : FVec F S62x32 .f32) (v351 : FVec F S62x32 .f32) (v354 : FVec F S62x32 .f32) (v357 : FVec F S62x32 .f32) (v360 : FVec F S62x32 .f32) (v363 : FVec F S62x32 .f32), FVec F S30x32 .f32 ← k0_part10_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v319 v328
  let ⟨v366, v369, v372, v375, v378, v381, v384, v387, v390, v393, v396, v399, v400⟩ : Σ' (v366 : FVec F S62x32 .f32) (v369 : FVec F S62x32 .f32) (v372 : FVec F S62x32 .f32) (v375 : FVec F S62x32 .f32) (v378 : FVec F S62x32 .f32) (v381 : FVec F S62x32 .f32) (v384 : FVec F S62x32 .f32) (v387 : FVec F S62x32 .f32) (v390 : FVec F S62x32 .f32) (v393 : FVec F S62x32 .f32) (v396 : FVec F S62x32 .f32) (v399 : FVec F S62x32 .f32), FVec F S54x32 .f32 ← k0_part11_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v319 v364
  let ⟨v412, v416, v418, v421, v424, v427, v430, v433, v436, v437, cst_273⟩ : Σ' (v412 : FVec F S776x960 .f32) (v416 : FVec F S256x64 .f32) (v418 : FVec F S960x64 .f32) (v421 : FVec F S960x64 .f32) (v424 : FVec F S960x64 .f32) (v427 : FVec F S960x64 .f32) (v430 : FVec F S960x64 .f32) (v433 : FVec F S960x64 .f32) (v436 : FVec F S960x64 .f32) (v437 : FVec F S448x64 .f32), F .f32 ← k0_part12_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v15 v319 v321 v324 v327 v330 v333 v336 v339 v342 v345 v348 v351 v354 v357 v360 v363 v366 v369 v372 v375 v378 v381 v384 v387 v390 v393 v396 v399 v400
  let ⟨v460, v472, v473, cst_295⟩ : Σ' (v460 : FVec F S776x2496 .f32) (v472 : FVec F S1x248 .f32) (v473 : Vec F S248x992 .f32), FVec F S1x992 .f32 ← k0_part13_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v173 v316 v412 v416 v418 v421 v424 v427 v430 v433 v436 v437 cst_273
  let ⟨v477, v478, v480, v484, v488, v492, v496, v500, v504, v508, v512, v516, v520, v524, v528, v530, v531⟩ : Σ' (v477 : FVec F S1x992 .f32) (v478 : FVec F S1x1 .f32) (v480 : FVec F S1x32 .f32) (v484 : FVec F S1x32 .f32) (v488 : FVec F S1x32 .f32) (v492 : FVec F S1x32 .f32) (v496 : FVec F S1x32 .f32) (v500 : FVec F S1x32 .f32) (v504 : FVec F S1x32 .f32) (v508 : FVec F S1x32 .f32) (v512 : FVec F S1x32 .f32) (v516 : FVec F S1x32 .f32) (v520 : FVec F S1x32 .f32) (v524 : FVec F S1x32 .f32) (v528 : FVec F S1x32 .f32) (v530 : FVec F S1x13 .f32), FVec F S1x18 .f32 ← k0_part14_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v472 v473 cst_295
  let ⟨v532, v536, v540, v544, v548, v552, v556, v560, v564, v568, v572, v576, v580, v584, v588, v590, v591⟩ : Σ' (v532 : FVec F S1x32 .f32) (v536 : FVec F S1x32 .f32) (v540 : FVec F S1x32 .f32) (v544 : FVec F S1x32 .f32) (v548 : FVec F S1x32 .f32) (v552 : FVec F S1x32 .f32) (v556 : FVec F S1x32 .f32) (v560 : FVec F S1x32 .f32) (v564 : FVec F S1x32 .f32) (v568 : FVec F S1x32 .f32) (v572 : FVec F S1x32 .f32) (v576 : FVec F S1x32 .f32) (v580 : FVec F S1x32 .f32) (v584 : FVec F S1x32 .f32) (v588 : FVec F S1x32 .f32) (v590 : FVec F S1x28 .f32), FVec F S1x3 .f32 ← k0_part15_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v477 v478 v530 v531
  let ⟨v622, v632, v636, v637, cst_311⟩ : Σ' (v622 : FVec F S32x32 .f32) (v632 : FVec F S32x32 .f32) (v636 : FVec F S32x32 .f32) (v637 : FVec F S32x32 .f32), F .f32 ← k0_part16_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v477 v478 v480 v484 v488 v492 v496 v500 v504 v508 v512 v516 v520 v524 v528 v532 v536 v540 v544 v548 v552 v556 v560 v564 v568 v572 v576 v580 v584 v588 v590 v591
  let ⟨v640, v641, v643, v655, v658, v663, v668, v673, v674⟩ : Σ' (v640 : FVec F S32x32 .f32) (v641 : FVec F S32x128 .f32) (v643 : FVec F S1x256 .f32) (v655 : FVec F S776x256 .f32) (v658 : FVec F S776x256 .f32) (v663 : FVec F S1024x256 .f32) (v668 : FVec F S1024x256 .f32) (v673 : FVec F S1024x256 .f32), FVec F S1x256 .f32 ← k0_part17_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v460 v622 v632 v636 v637 cst_311
  let ⟨v694, v697, v700, v703, v706, v709⟩ : Σ' (v694 : FVec F S1x64 .f32) (v697 : FVec F S1024x64 .f32) (v700 : FVec F S1024x64 .f32) (v703 : FVec F S1024x64 .f32) (v706 : FVec F S1024x64 .f32), FVec F S1024x64 .f32 ← k0_part18_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v641 v643 v655 v658 v663 v668 v673 v674
  let ⟨v742, v744, v747, v749⟩ : Σ' (v742 : FVec F S1024x64 .f32) (v744 : FVec F S1x256 .f32) (v747 : FVec F S1024x256 .f32), FVec F S64x256 .f32 ← k0_part19_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v6 v641 v694 v697 v700 v703 v706 v709
  let ⟨v774, v778, v782, v786, v790⟩ : Σ' (v774 : FVec F S1024x256 .f32) (v778 : FVec F S1024x256 .f32) (v782 : FVec F S1024x256 .f32) (v786 : FVec F S1024x256 .f32), FVec F S1024x256 .f32 ← k0_part20_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 v622 v632 v636 v640 v641 v742 v744 v747 v749
  k v774 v778 v782 v786 v790

set_option maxRecDepth 65536 in
/-- The printed body is the two, one after the other. -/
theorem body_eq (arg0 : Memref sig .tc .vmem S1024x60 .f32) (harg0 : arg0.IsWhole) (arg1 : Memref sig .tc .vmem S1x60 .f32) (harg1 : arg1.IsWhole) (arg2 : Memref sig .tc .vmem S32x4 .f32) (harg2 : arg2.IsWhole) (arg3 : Memref sig .tc .vmem S1x32 .f32) (harg3 : arg3.IsWhole) (arg4 : Memref sig .tc .vmem S64x32x4 .f32) (harg4 : arg4.IsWhole) (arg5 : Memref sig .tc .vmem S1x64 .f32) (harg5 : arg5.IsWhole) (arg6 : Memref sig .tc .vmem S32x8 .f32) (harg6 : arg6.IsWhole) (arg7 : Memref sig .tc .vmem S1x32 .f32) (harg7 : arg7.IsWhole) (arg8 : Memref sig .tc .vmem S64x32x8 .f32) (harg8 : arg8.IsWhole) (arg9 : Memref sig .tc .vmem S1x64 .f32) (harg9 : arg9.IsWhole) (arg10 : Memref sig .tc .vmem S32x8 .f32) (harg10 : arg10.IsWhole) (arg11 : Memref sig .tc .vmem S1x32 .f32) (harg11 : arg11.IsWhole) (arg12 : Memref sig .tc .vmem S64x32x8 .f32) (harg12 : arg12.IsWhole) (arg13 : Memref sig .tc .vmem S1x64 .f32) (harg13 : arg13.IsWhole) (arg14 : Memref sig .tc .vmem S992x1 .f32) (harg14 : arg14.IsWhole) (arg15 : Memref sig .tc .hbm S992x248 .f32) (harg15 : arg15.IsWhole) (arg16 : Memref sig .tc .hbm S248x992 .f32) (harg16 : arg16.IsWhole) (arg17 : Memref sig .tc .hbm S5x2496x256 .f32) (harg17 : arg17.IsWhole) (arg18 : Memref sig .tc .vmem S1x256 .f32) (harg18 : arg18.IsWhole) (arg19 : Memref sig .tc .hbm S5x256x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .hbm S5x64x256 .f32) (harg23 : arg23.IsWhole) (arg24 : Memref sig .tc .vmem S1x256 .f32) (harg24 : arg24.IsWhole) (arg25 : Memref sig .tc .hbm S5x256x2496 .f32) (harg25 : arg25.IsWhole) (arg26 : Memref sig .tc .vmem S1x2496 .f32) (harg26 : arg26.IsWhole) (arg27 : Memref sig .tc .hbm S1024x2496 .f32) (harg27 : arg27.IsWhole) (arg28 : Memref sig .tc .vmem S5x2496x256 .f32) (harg28 : arg28.IsWhole) (arg29 : Memref sig .tc .vmem S5x256x2496 .f32) (harg29 : arg29.IsWhole) (arg30 : DmaSems sig S_) (arg31 : DmaSems sig S_) (arg32 : Memref sig .tc .vmem S256x2496 .f32) (harg32 : arg32.IsWhole) (arg33 : Memref sig .tc .vmem S256x2496 .f32) (harg33 : arg33.IsWhole) (arg34 : DmaSems sig S_) (arg35 : DmaSems sig S_) (arg36 : Memref sig .tc .vmem S992x248 .f32) (harg36 : arg36.IsWhole) (arg37 : Memref sig .tc .vmem S248x992 .f32) (harg37 : arg37.IsWhole) (arg38 : Memref sig .tc .vmem S5x256x64 .f32) (harg38 : arg38.IsWhole) (arg39 : Memref sig .tc .vmem S5x64x256 .f32) (harg39 : arg39.IsWhole) (arg40 : DmaSems sig S_) (arg41 : DmaSems sig S_) (arg42 : DmaSems sig S_) (arg43 : DmaSems sig S_) : cc0__full_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 = upToBlocks (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43 (outBlocks arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 harg32 arg33 harg33 arg34 arg35 arg36 harg36 arg37 harg37 arg38 harg38 arg39 harg39 arg40 arg41 arg42 arg43) := rfl

/-- The four output blocks as vectors of the five propagated blocks, the bias and the last layer's weights. -/
def outBlock (v774 v778 v782 v786 v790 : FVec F S1024x256 .f32) (x20 : Vec F S1x2496 .f32) (w4 : Vec F S5x256x2496 .f32) : Fin 4 → FVec F S256x2496 .f32 :=
  ![k0_pay194 v774 v778 v782 v786 v790 x20 (View.ld w4 (Rect.unit (s := S5x256x2496) ![0, 0, 0] S1x256x2496.size inb_S5x256x2496_S1x256x2496_0_0_0)) (View.ld w4 (Rect.unit (s := S5x256x2496) ![1, 0, 0] S1x256x2496.size inb_S5x256x2496_S1x256x2496_1_0_0)) (View.ld w4 (Rect.unit (s := S5x256x2496) ![2, 0, 0] S1x256x2496.size inb_S5x256x2496_S1x256x2496_2_0_0)) (View.ld w4 (Rect.unit (s := S5x256x2496) ![3, 0, 0] S1x256x2496.size inb_S5x256x2496_S1x256x2496_3_0_0)) (View.ld w4 (Rect.unit (s := S5x256x2496) ![4, 0, 0] S1x256x2496.size inb_S5x256x2496_S1x256x2496_4_0_0)),
    k0_pay195 v774 v778 v782 v786 v790 x20 (View.ld w4 (Rect.unit (s := S5x256x2496) ![0, 0, 0] S1x256x2496.size inb_S5x256x2496_S1x256x2496_0_0_0)) (View.ld w4 (Rect.unit (s := S5x256x2496) ![1, 0, 0] S1x256x2496.size inb_S5x256x2496_S1x256x2496_1_0_0)) (View.ld w4 (Rect.unit (s := S5x256x2496) ![2, 0, 0] S1x256x2496.size inb_S5x256x2496_S1x256x2496_2_0_0)) (View.ld w4 (Rect.unit (s := S5x256x2496) ![3, 0, 0] S1x256x2496.size inb_S5x256x2496_S1x256x2496_3_0_0)) (View.ld w4 (Rect.unit (s := S5x256x2496) ![4, 0, 0] S1x256x2496.size inb_S5x256x2496_S1x256x2496_4_0_0)),
    k0_pay196 v774 v778 v782 v786 v790 x20 (View.ld w4 (Rect.unit (s := S5x256x2496) ![0, 0, 0] S1x256x2496.size inb_S5x256x2496_S1x256x2496_0_0_0)) (View.ld w4 (Rect.unit (s := S5x256x2496) ![1, 0, 0] S1x256x2496.size inb_S5x256x2496_S1x256x2496_1_0_0)) (View.ld w4 (Rect.unit (s := S5x256x2496) ![2, 0, 0] S1x256x2496.size inb_S5x256x2496_S1x256x2496_2_0_0)) (View.ld w4 (Rect.unit (s := S5x256x2496) ![3, 0, 0] S1x256x2496.size inb_S5x256x2496_S1x256x2496_3_0_0)) (View.ld w4 (Rect.unit (s := S5x256x2496) ![4, 0, 0] S1x256x2496.size inb_S5x256x2496_S1x256x2496_4_0_0)),
    k0_pay1 (k0_pay197 v774 v778 v782 v786 v790 x20 (View.ld w4 (Rect.unit (s := S5x256x2496) ![0, 0, 0] S1x256x2496.size inb_S5x256x2496_S1x256x2496_0_0_0)) (View.ld w4 (Rect.unit (s := S5x256x2496) ![1, 0, 0] S1x256x2496.size inb_S5x256x2496_S1x256x2496_1_0_0)) (View.ld w4 (Rect.unit (s := S5x256x2496) ![2, 0, 0] S1x256x2496.size inb_S5x256x2496_S1x256x2496_2_0_0)) (View.ld w4 (Rect.unit (s := S5x256x2496) ![3, 0, 0] S1x256x2496.size inb_S5x256x2496_S1x256x2496_3_0_0)) (View.ld w4 (Rect.unit (s := S5x256x2496) ![4, 0, 0] S1x256x2496.size inb_S5x256x2496_S1x256x2496_4_0_0)))]

/-- What the body writes into the result: block `b` over rows `256 b` and on (the last written first). -/
def outPieces (v774 v778 v782 v786 v790 : FVec F S1024x256 .f32) (x20 : Vec F S1x2496 .f32) (w4 : Vec F S5x256x2496 .f32) : List (View.Piece (Elt F) S1024x2496 .f32) :=
  [⟨Rect.unit (s := S1024x2496) ![768, 0] S256x2496.size inb_S1024x2496_S256x2496_768_0, outBlock v774 v778 v782 v786 v790 x20 w4 3⟩,
   ⟨Rect.unit (s := S1024x2496) ![512, 0] S256x2496.size inb_S1024x2496_S256x2496_512_0, outBlock v774 v778 v782 v786 v790 x20 w4 2⟩,
   ⟨Rect.unit (s := S1024x2496) ![256, 0] S256x2496.size inb_S1024x2496_S256x2496_256_0, outBlock v774 v778 v782 v786 v790 x20 w4 1⟩,
   ⟨Rect.unit (s := S1024x2496) ![0, 0] S256x2496.size inb_S1024x2496_S256x2496_0_0, outBlock v774 v778 v782 v786 v790 x20 w4 0⟩]

set_option maxHeartbeats 2000000 in
set_option sl_exec.dmaWindow true in
set_option sl_exec.dmaWindowLent true in
theorem outBlocks_run (c : Dev nD) (arg0 : Memref sig .tc .vmem S1024x60 .f32) (harg0 : arg0.IsWhole) (arg1 : Memref sig .tc .vmem S1x60 .f32) (harg1 : arg1.IsWhole) (arg2 : Memref sig .tc .vmem S32x4 .f32) (harg2 : arg2.IsWhole) (arg3 : Memref sig .tc .vmem S1x32 .f32) (harg3 : arg3.IsWhole) (arg4 : Memref sig .tc .vmem S64x32x4 .f32) (harg4 : arg4.IsWhole) (arg5 : Memref sig .tc .vmem S1x64 .f32) (harg5 : arg5.IsWhole) (arg6 : Memref sig .tc .vmem S32x8 .f32) (harg6 : arg6.IsWhole) (arg7 : Memref sig .tc .vmem S1x32 .f32) (harg7 : arg7.IsWhole) (arg8 : Memref sig .tc .vmem S64x32x8 .f32) (harg8 : arg8.IsWhole) (arg9 : Memref sig .tc .vmem S1x64 .f32) (harg9 : arg9.IsWhole) (arg10 : Memref sig .tc .vmem S32x8 .f32) (harg10 : arg10.IsWhole) (arg11 : Memref sig .tc .vmem S1x32 .f32) (harg11 : arg11.IsWhole) (arg12 : Memref sig .tc .vmem S64x32x8 .f32) (harg12 : arg12.IsWhole) (arg13 : Memref sig .tc .vmem S1x64 .f32) (harg13 : arg13.IsWhole) (arg14 : Memref sig .tc .vmem S992x1 .f32) (harg14 : arg14.IsWhole) (arg18 : Memref sig .tc .vmem S1x256 .f32) (harg18 : arg18.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg24 : Memref sig .tc .vmem S1x256 .f32) (harg24 : arg24.IsWhole) (arg26 : Memref sig .tc .vmem S1x2496 .f32) (harg26 : arg26.IsWhole) (arg28 : Memref sig .tc .vmem S5x2496x256 .f32) (harg28 : arg28.IsWhole) (arg29 : Memref sig .tc .vmem S5x256x2496 .f32) (harg29 : arg29.IsWhole) (arg32 : Memref sig .tc .vmem S256x2496 .f32) (harg32 : arg32.IsWhole) (arg33 : Memref sig .tc .vmem S256x2496 .f32) (harg33 : arg33.IsWhole) (arg36 : Memref sig .tc .vmem S992x248 .f32) (harg36 : arg36.IsWhole) (arg37 : Memref sig .tc .vmem S248x992 .f32) (harg37 : arg37.IsWhole) (arg38 : Memref sig .tc .vmem S5x256x64 .f32) (harg38 : arg38.IsWhole) (arg39 : Memref sig .tc .vmem S5x64x256 .f32) (harg39 : arg39.IsWhole)
    (v774 v778 v782 v786 v790 : FVec F S1024x256 .f32) (x20 : Vec F S1x2496 .f32) (w4 : Vec F S5x256x2496 .f32) (fh6 : HbBuf0 (F := F) c hbM0_6) (W : Waits sig Unit) (K : PUnit → sProp 𝕄) :
    iprop(owns (c : Thread nD τ) arg26 fullShare x20 ∗ owns (c : Thread nD τ) arg29 fullShare w4 ∗ (∃ d, owns (c : Thread nD τ) arg32 fullShare d) ∗ (∃ d, owns (c : Thread nD τ) arg33 fullShare d) ∗ semVal ((c : Thread nD τ), SemLoc.dma 23) 0 ∗ semVal ((c : Thread nD τ), SemLoc.dma 24) 0 ∗ hbPt0 c hbM0_6 fh6 ∗ owes (c : Thread nD τ) 0 W
      ∗ (iprop(owns (c : Thread nD τ) arg26 fullShare x20 ∗ owns (c : Thread nD τ) arg29 fullShare w4 ∗ (∃ d, owns (c : Thread nD τ) arg32 fullShare d) ∗ (∃ d, owns (c : Thread nD τ) arg33 fullShare d) ∗ semVal ((c : Thread nD τ), SemLoc.dma 23) 0 ∗ semVal ((c : Thread nD τ), SemLoc.dma 24) 0 ∗ hbPt0 c hbM0_6 (hbM0_6.view.writes (Elt F) fh6 (outPieces v774 v778 v782 v786 v790 x20 w4)) ∗ (∃ W', owes (c : Thread nD τ) 0 W')) -∗ K ⟨⟩))
    ⊢ wp frame (wpE (defs₀ (F := F)) Variants.none c none) Set.univ (outBlocks arg0 harg0 arg1 harg1 arg2 harg2 arg3 harg3 arg4 harg4 arg5 harg5 arg6 harg6 arg7 harg7 arg8 harg8 arg9 harg9 arg10 harg10 arg11 harg11 arg12 harg12 arg13 harg13 arg14 harg14 (Memref.whole main_arg5) (Memref.isWhole_whole _) (Memref.whole main_arg6) (Memref.isWhole_whole _) (Memref.whole main_arg19) (Memref.isWhole_whole _) arg18 harg18 (Memref.whole main_arg21) (Memref.isWhole_whole _) arg20 harg20 arg21 harg21 arg22 harg22 (Memref.whole main_arg24) (Memref.isWhole_whole _) arg24 harg24 (Memref.whole main_arg26) (Memref.isWhole_whole _) arg26 harg26 (Memref.whole main_v0) (Memref.isWhole_whole _) arg28 harg28 arg29 harg29 cc0_scratch2 cc0_scratch3 arg32 harg32 arg33 harg33 cc0_scratch6 cc0_scratch7 arg36 harg36 arg37 harg37 arg38 harg38 arg39 harg39 cc0_scratch12 cc0_scratch13 cc0_scratch14 cc0_scratch15 v774 v778 v782 v786 v790) K := by
  unfold outBlocks owns
  iintro ⟨⟨%f20, %hf20, H20⟩, ⟨%f29, %hf29, HS1⟩, ⟨%ds2, %fs2, -, HS2⟩, ⟨%ds3, %fs3, -, HS3⟩, Hq2, Hq3, Hh6, HW, Hk⟩
  obtain rfl := harg26.eq_unread hf20
  obtain rfl := harg29.eq_unread hf29
  sl_exec
  sl_step
  iapply Hk
  isplitl [H20]
  · iexists _; isplitr; · ipureintro; exact harg26.read_unread _
    iexact H20
  isplitl [HS1]
  · iexists _; isplitr; · ipureintro; exact harg29.read_unread _
    iexact HS1
  isplitl [HS2]
  · iexists _, _; isplitr; swap; · iexact HS2
    ipureintro; rfl
  isplitl [HS3]
  · iexists _, _; isplitr; swap; · iexact HS3
    ipureintro; rfl
  isplitl [Hq2]; · iexact Hq2
  isplitl [Hq3]; · iexact Hq3
  isplitl [Hh6]
  · have hld : View.ld x20 (Rect.unit (s := S1x2496) ![0, 0] S1x2496.size inb_S1x2496_S1x2496_0_0) = x20 := View.ld_unit_zero (by decide) _ x20
    have e0 : outBlocks_run.sl.dma8 c arg26 harg26 arg29 harg29 arg32 v774 v778 v782 v786 v790 x20 w4 fs2 = outBlock v774 v778 v782 v786 v790 x20 w4 0 := by
      refine (View.read_writes_full arg32.view fs2 inb_S256x2496_S256x2496_0_0 _ _).trans ?_
      simp only [View.readAt_eq_ld, harg26.read_unread, harg29.read_unread, hld]
      rfl
    have e1 : outBlocks_run.sl.dma16 c arg26 harg26 arg29 harg29 arg33 v774 v778 v782 v786 v790 x20 w4 fs3 = outBlock v774 v778 v782 v786 v790 x20 w4 1 := by
      refine (View.read_writes_full arg33.view fs3 inb_S256x2496_S256x2496_0_0 _ _).trans ?_
      simp only [View.readAt_eq_ld, harg26.read_unread, harg29.read_unread, hld]
      rfl
    have e2 : outBlocks_run.sl.dma24 c arg26 harg26 arg29 harg29 arg32 v774 v778 v782 v786 v790 x20 w4 fs2 = outBlock v774 v778 v782 v786 v790 x20 w4 2 := by
      refine (View.read_writes_full arg32.view fs2 inb_S256x2496_S256x2496_0_0 _ _).trans ?_
      simp only [View.readAt_eq_ld, harg26.read_unread, harg29.read_unread, hld]
      rfl
    have e3 : outBlocks_run.sl.dma32 c arg26 harg26 arg29 harg29 arg33 v774 v778 v782 v786 v790 x20 w4 fs3 = outBlock v774 v778 v782 v786 v790 x20 w4 3 := by
      refine (View.read_writes_full arg33.view fs3 inb_S256x2496_S256x2496_0_0 _ _).trans ?_
      show k0_pay1 (k0_pay197 v774 v778 v782 v786 v790 (View.readAt (Elt F) arg26.view (Rect.unit (s := S1x2496) ![0, 0] S1x2496.size inb_S1x2496_S1x2496_0_0).toLoadRect (harg26.unread x20)) (View.readAt (Elt F) arg29.view (Rect.unit (s := S5x256x2496) ![0, 0, 0] S1x256x2496.size inb_S5x256x2496_S1x256x2496_0_0_0).toLoadRect (harg29.unread w4)) (View.readAt (Elt F) arg29.view (Rect.unit (s := S5x256x2496) ![1, 0, 0] S1x256x2496.size inb_S5x256x2496_S1x256x2496_1_0_0).toLoadRect (harg29.unread w4)) (View.readAt (Elt F) arg29.view (Rect.unit (s := S5x256x2496) ![2, 0, 0] S1x256x2496.size inb_S5x256x2496_S1x256x2496_2_0_0).toLoadRect (harg29.unread w4)) (View.readAt (Elt F) arg29.view (Rect.unit (s := S5x256x2496) ![3, 0, 0] S1x256x2496.size inb_S5x256x2496_S1x256x2496_3_0_0).toLoadRect (harg29.unread w4)) (View.readAt (Elt F) arg29.view (Rect.unit (s := S5x256x2496) ![4, 0, 0] S1x256x2496.size inb_S5x256x2496_S1x256x2496_4_0_0).toLoadRect (harg29.unread w4))) = _
      simp only [View.readAt_eq_ld, harg26.read_unread, harg29.read_unread, hld]
      rfl
    have hL : outPieces v774 v778 v782 v786 v790 x20 w4 = [⟨Rect.unit (s := S1024x2496) ![768, 0] S256x2496.size inb_S1024x2496_S256x2496_768_0, outBlocks_run.sl.dma32 c arg26 harg26 arg29 harg29 arg33 v774 v778 v782 v786 v790 x20 w4 fs3⟩, ⟨Rect.unit (s := S1024x2496) ![512, 0] S256x2496.size inb_S1024x2496_S256x2496_512_0, outBlocks_run.sl.dma24 c arg26 harg26 arg29 harg29 arg32 v774 v778 v782 v786 v790 x20 w4 fs2⟩, ⟨Rect.unit (s := S1024x2496) ![256, 0] S256x2496.size inb_S1024x2496_S256x2496_256_0, outBlocks_run.sl.dma16 c arg26 harg26 arg29 harg29 arg33 v774 v778 v782 v786 v790 x20 w4 fs3⟩, ⟨Rect.unit (s := S1024x2496) ![0, 0] S256x2496.size inb_S1024x2496_S256x2496_0_0, outBlocks_run.sl.dma8 c arg26 harg26 arg29 harg29 arg32 v774 v778 v782 v786 v790 x20 w4 fs2⟩] := by
      rw [e0, e1, e2, e3]; rfl
    rw [hL]
    iexact Hh6
  iexists _; iexact HW

end Cert.KernelIdeal.Launch

end
-- ==== Proof.KernelIdealFront.lean ====
module

public import proofs.«01_k».proof.Proof.KernelIdealTail
public import proofs.«01_k».proof.Proof.Gen.KernelIdeal.Skeleton
public import Idealize.ShloMosaic.Lib.Pipeline.FrameValue
public import Idealize.ShloMosaic.Lib.Claim
public import Idealize.ShloMosaic.Lib.VecWindow
public import Idealize.ShloMosaic.Lib.Pipeline.Value

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
/-- The body up to its output blocks: run on whole staging memrefs it goes on to what follows at five values (the witness, as the
    run finds them), the windows' memrefs and the arrays copied from left as they were, the last layer's weights in their scratch. -/
def upToBlocks_run (c : Dev nD) (arg0 : Memref sig .tc .vmem S1024x60 .f32) (harg0 : arg0.IsWhole) (arg1 : Memref sig .tc .vmem S1x60 .f32) (harg1 : arg1.IsWhole) (arg2 : Memref sig .tc .vmem S32x4 .f32) (harg2 : arg2.IsWhole) (arg3 : Memref sig .tc .vmem S1x32 .f32) (harg3 : arg3.IsWhole) (arg4 : Memref sig .tc .vmem S64x32x4 .f32) (harg4 : arg4.IsWhole) (arg5 : Memref sig .tc .vmem S1x64 .f32) (harg5 : arg5.IsWhole) (arg6 : Memref sig .tc .vmem S32x8 .f32) (harg6 : arg6.IsWhole) (arg7 : Memref sig .tc .vmem S1x32 .f32) (harg7 : arg7.IsWhole) (arg8 : Memref sig .tc .vmem S64x32x8 .f32) (harg8 : arg8.IsWhole) (arg9 : Memref sig .tc .vmem S1x64 .f32) (harg9 : arg9.IsWhole) (arg10 : Memref sig .tc .vmem S32x8 .f32) (harg10 : arg10.IsWhole) (arg11 : Memref sig .tc .vmem S1x32 .f32) (harg11 : arg11.IsWhole) (arg12 : Memref sig .tc .vmem S64x32x8 .f32) (harg12 : arg12.IsWhole) (arg13 : Memref sig .tc .vmem S1x64 .f32) (harg13 : arg13.IsWhole) (arg14 : Memref sig .tc .vmem S992x1 .f32) (harg14 : arg14.IsWhole) (arg18 : Memref sig .tc .vmem S1x256 .f32) (harg18 : arg18.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg24 : Memref sig .tc .vmem S1x256 .f32) (harg24 : arg24.IsWhole) (arg26 : Memref sig .tc .vmem S1x2496 .f32) (harg26 : arg26.IsWhole) (arg28 : Memref sig .tc .vmem S5x2496x256 .f32) (harg28 : arg28.IsWhole) (arg29 : Memref sig .tc .vmem S5x256x2496 .f32) (harg29 : arg29.IsWhole) (arg32 : Memref sig .tc .vmem S256x2496 .f32) (harg32 : arg32.IsWhole) (arg33 : Memref sig .tc .vmem S256x2496 .f32) (harg33 : arg33.IsWhole) (arg36 : Memref sig .tc .vmem S992x248 .f32) (harg36 : arg36.IsWhole) (arg37 : Memref sig .tc .vmem S248x992 .f32) (harg37 : arg37.IsWhole) (arg38 : Memref sig .tc .vmem S5x256x64 .f32) (harg38 : arg38.IsWhole) (arg39 : Memref sig .tc .vmem S5x64x256 .f32) (harg39 : arg39.IsWhole)
    (x0 : Vec F S1024x60 .f32) (x1 : Vec F S1x60 .f32) (x2 : Vec F S32x4 .f32) (x3 : Vec F S1x32 .f32) (x4 : Vec F S64x32x4 .f32) (x5 : Vec F S1x64 .f32) (x6 : Vec F S32x8 .f32) (x7 : Vec F S1x32 .f32) (x8 : Vec F S64x32x8 .f32) (x9 : Vec F S1x64 .f32) (x10 : Vec F S32x8 .f32) (x11 : Vec F S1x32 .f32) (x12 : Vec F S64x32x8 .f32) (x13 : Vec F S1x64 .f32) (x14 : Vec F S992x1 .f32) (x15 : Vec F S1x256 .f32) (x16 : Vec F S1x64 .f32) (x17 : Vec F S64x64 .f32) (x18 : Vec F S1x64 .f32) (x19 : Vec F S1x256 .f32) (x20 : Vec F S1x2496 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
   Σ' (r0 : FVec F S1024x256 .f32) (r1 : FVec F S1024x256 .f32) (r2 : FVec F S1024x256 .f32) (r3 : FVec F S1024x256 .f32) (r4 : FVec F S1024x256 .f32), ∀ (k : FVec F S1024x256 .f32 → FVec F S1024x256 .f32 → FVec F S1024x256 .f32 → FVec F S1024x256 .f32 → FVec F S1024x256 .f32 → Prog (TpuEff nD τ sig (Elt F) Λ₀ .tc) PUnit) (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg18 fullShare x15 ∗ owns (c : Thread nD τ) arg20 fullShare x16 ∗ owns (c : Thread nD τ) arg21 fullShare x17 ∗ owns (c : Thread nD τ) arg22 fullShare x18 ∗ owns (c : Thread nD τ) arg24 fullShare x19 ∗ (∃ d, owns (c : Thread nD τ) arg28 fullShare d) ∗ (∃ d, owns (c : Thread nD τ) arg29 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ semVal ((c : Thread nD τ), SemLoc.dma 21) 0 ∗ semVal ((c : Thread nD τ), SemLoc.dma 22) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg18 fullShare x15 ∗ owns (c : Thread nD τ) arg20 fullShare x16 ∗ owns (c : Thread nD τ) arg21 fullShare x17 ∗ owns (c : Thread nD τ) arg22 fullShare x18 ∗ owns (c : Thread nD τ) arg24 fullShare x19 ∗ (∃ d, owns (c : Thread nD τ) arg28 fullShare d) ∗ owns (c : Thread nD τ) arg29 fullShare (fh5 : Vec F S5x256x2496 .f32) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ semVal ((c : Thread nD τ), SemLoc.dma 21) 0 ∗ semVal ((c : Thread nD τ), SemLoc.dma 22) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W') -∗ wp frame (wpE (defs₀ (F := F)) Variants.none c none) Set.univ (k r0 r1 r2 r3 r4) K)))
      ⊢ wp frame (wpE (defs₀ (F := F)) Variants.none c none) Set.univ (upToBlocks arg0 harg0 arg1 harg1 arg2 harg2 arg3 harg3 arg4 harg4 arg5 harg5 arg6 harg6 arg7 harg7 arg8 harg8 arg9 harg9 arg10 harg10 arg11 harg11 arg12 harg12 arg13 harg13 arg14 harg14 (Memref.whole main_arg5) (Memref.isWhole_whole _) (Memref.whole main_arg6) (Memref.isWhole_whole _) (Memref.whole main_arg19) (Memref.isWhole_whole _) arg18 harg18 (Memref.whole main_arg21) (Memref.isWhole_whole _) arg20 harg20 arg21 harg21 arg22 harg22 (Memref.whole main_arg24) (Memref.isWhole_whole _) arg24 harg24 (Memref.whole main_arg26) (Memref.isWhole_whole _) arg26 harg26 (Memref.whole main_v0) (Memref.isWhole_whole _) arg28 harg28 arg29 harg29 cc0_scratch2 cc0_scratch3 arg32 harg32 arg33 harg33 cc0_scratch6 cc0_scratch7 arg36 harg36 arg37 harg37 arg38 harg38 arg39 harg39 cc0_scratch12 cc0_scratch13 cc0_scratch14 cc0_scratch15 k) K := by
    refine ⟨?_, ?_, ?_, ?_, ?_, fun k W K => ?run⟩
    case run =>
    unfold upToBlocks owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%ds0, %fs0, -, HS0⟩, ⟨%ds1, %fs1, -, HS1⟩, ⟨%ds4, %fs4, -, HS4⟩, ⟨%ds5, %fs5, -, HS5⟩, ⟨%ds6, %fs6, -, HS6⟩, ⟨%ds7, %fs7, -, HS7⟩, Hq0, Hq1, Hq4, Hq5, Hq6, Hq7, Hh0, Hh1, Hh2, Hh3, Hh4, Hh5, HW, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg18.eq_unread hf15; obtain rfl := harg20.eq_unread hf16; obtain rfl := harg21.eq_unread hf17; obtain rfl := harg22.eq_unread hf18; obtain rfl := harg24.eq_unread hf19
    sl_exec
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg18.read_unread _
      iexact H15
    isplitl [H16]
    · iexists _; isplitr; · ipureintro; exact harg20.read_unread _
      iexact H16
    isplitl [H17]
    · iexists _; isplitr; · ipureintro; exact harg21.read_unread _
      iexact H17
    isplitl [H18]
    · iexists _; isplitr; · ipureintro; exact harg22.read_unread _
      iexact H18
    isplitl [H19]
    · iexists _; isplitr; · ipureintro; exact harg24.read_unread _
      iexact H19
    isplitl [HS0]
    · iexists _, _; isplitr; swap; · iexact HS0
      ipureintro; rfl
    isplitl [HS1]
    · iexists _; isplitr; swap; · iexact HS1
      ipureintro; exact View.read_writes_whole _ _ _
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [Hq0]; · iexact Hq0
    isplitl [Hq1]; · iexact Hq1
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.KernelIdeal.Launch

end
-- ==== Proof.KernelIdealBody.lean ====
module

public import proofs.«01_k».proof.Proof.KernelIdealFront
public import proofs.«01_k».proof.Proof.Gen.KernelIdeal.Skeleton
public import Idealize.ShloMosaic.Lib.Pipeline.FrameValue
public import Idealize.ShloMosaic.Lib.Claim
public import Idealize.ShloMosaic.Lib.VecWindow
public import Idealize.ShloMosaic.Lib.Pipeline.Value

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What a run of the body writes into the result, as a list of blocks over the operands' contents. -/
def bodyPieces (c : Dev nD) (arg0 : Memref sig .tc .vmem S1024x60 .f32) (harg0 : arg0.IsWhole) (arg1 : Memref sig .tc .vmem S1x60 .f32) (harg1 : arg1.IsWhole) (arg2 : Memref sig .tc .vmem S32x4 .f32) (harg2 : arg2.IsWhole) (arg3 : Memref sig .tc .vmem S1x32 .f32) (harg3 : arg3.IsWhole) (arg4 : Memref sig .tc .vmem S64x32x4 .f32) (harg4 : arg4.IsWhole) (arg5 : Memref sig .tc .vmem S1x64 .f32) (harg5 : arg5.IsWhole) (arg6 : Memref sig .tc .vmem S32x8 .f32) (harg6 : arg6.IsWhole) (arg7 : Memref sig .tc .vmem S1x32 .f32) (harg7 : arg7.IsWhole) (arg8 : Memref sig .tc .vmem S64x32x8 .f32) (harg8 : arg8.IsWhole) (arg9 : Memref sig .tc .vmem S1x64 .f32) (harg9 : arg9.IsWhole) (arg10 : Memref sig .tc .vmem S32x8 .f32) (harg10 : arg10.IsWhole) (arg11 : Memref sig .tc .vmem S1x32 .f32) (harg11 : arg11.IsWhole) (arg12 : Memref sig .tc .vmem S64x32x8 .f32) (harg12 : arg12.IsWhole) (arg13 : Memref sig .tc .vmem S1x64 .f32) (harg13 : arg13.IsWhole) (arg14 : Memref sig .tc .vmem S992x1 .f32) (harg14 : arg14.IsWhole) (arg18 : Memref sig .tc .vmem S1x256 .f32) (harg18 : arg18.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg24 : Memref sig .tc .vmem S1x256 .f32) (harg24 : arg24.IsWhole) (arg26 : Memref sig .tc .vmem S1x2496 .f32) (harg26 : arg26.IsWhole) (arg28 : Memref sig .tc .vmem S5x2496x256 .f32) (harg28 : arg28.IsWhole) (arg29 : Memref sig .tc .vmem S5x256x2496 .f32) (harg29 : arg29.IsWhole) (arg32 : Memref sig .tc .vmem S256x2496 .f32) (harg32 : arg32.IsWhole) (arg33 : Memref sig .tc .vmem S256x2496 .f32) (harg33 : arg33.IsWhole) (arg36 : Memref sig .tc .vmem S992x248 .f32) (harg36 : arg36.IsWhole) (arg37 : Memref sig .tc .vmem S248x992 .f32) (harg37 : arg37.IsWhole) (arg38 : Memref sig .tc .vmem S5x256x64 .f32) (harg38 : arg38.IsWhole) (arg39 : Memref sig .tc .vmem S5x64x256 .f32) (harg39 : arg39.IsWhole)
    (x0 : Vec F S1024x60 .f32) (x1 : Vec F S1x60 .f32) (x2 : Vec F S32x4 .f32) (x3 : Vec F S1x32 .f32) (x4 : Vec F S64x32x4 .f32) (x5 : Vec F S1x64 .f32) (x6 : Vec F S32x8 .f32) (x7 : Vec F S1x32 .f32) (x8 : Vec F S64x32x8 .f32) (x9 : Vec F S1x64 .f32) (x10 : Vec F S32x8 .f32) (x11 : Vec F S1x32 .f32) (x12 : Vec F S64x32x8 .f32) (x13 : Vec F S1x64 .f32) (x14 : Vec F S992x1 .f32) (x15 : Vec F S1x256 .f32) (x16 : Vec F S1x64 .f32) (x17 : Vec F S64x64 .f32) (x18 : Vec F S1x64 .f32) (x19 : Vec F S1x256 .f32) (x20 : Vec F S1x2496 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) : List (View.Piece (Elt F) S1024x2496 .f32) :=
  outPieces (upToBlocks_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg18 harg18 arg20 harg20 arg21 harg21 arg22 harg22 arg24 harg24 arg26 harg26 arg28 harg28 arg29 harg29 arg32 harg32 arg33 harg33 arg36 harg36 arg37 harg37 arg38 harg38 arg39 harg39 x0 x1 x2 x3 x4 x5 x6 x7 x8 x9 x10 x11 x12 x13 x14 x15 x16 x17 x18 x19 x20 fh0 fh1 fh2 fh3 fh4 fh5).1 (upToBlocks_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg18 harg18 arg20 harg20 arg21 harg21 arg22 harg22 arg24 harg24 arg26 harg26 arg28 harg28 arg29 harg29 arg32 harg32 arg33 harg33 arg36 harg36 arg37 harg37 arg38 harg38 arg39 harg39 x0 x1 x2 x3 x4 x5 x6 x7 x8 x9 x10 x11 x12 x13 x14 x15 x16 x17 x18 x19 x20 fh0 fh1 fh2 fh3 fh4 fh5).2.1 (upToBlocks_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg18 harg18 arg20 harg20 arg21 harg21 arg22 harg22 arg24 harg24 arg26 harg26 arg28 harg28 arg29 harg29 arg32 harg32 arg33 harg33 arg36 harg36 arg37 harg37 arg38 harg38 arg39 harg39 x0 x1 x2 x3 x4 x5 x6 x7 x8 x9 x10 x11 x12 x13 x14 x15 x16 x17 x18 x19 x20 fh0 fh1 fh2 fh3 fh4 fh5).2.2.1 (upToBlocks_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg18 harg18 arg20 harg20 arg21 harg21 arg22 harg22 arg24 harg24 arg26 harg26 arg28 harg28 arg29 harg29 arg32 harg32 arg33 harg33 arg36 harg36 arg37 harg37 arg38 harg38 arg39 harg39 x0 x1 x2 x3 x4 x5 x6 x7 x8 x9 x10 x11 x12 x13 x14 x15 x16 x17 x18 x19 x20 fh0 fh1 fh2 fh3 fh4 fh5).2.2.2.1 (upToBlocks_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg18 harg18 arg20 harg20 arg21 harg21 arg22 harg22 arg24 harg24 arg26 harg26 arg28 harg28 arg29 harg29 arg32 harg32 arg33 harg33 arg36 harg36 arg37 harg37 arg38 harg38 arg39 harg39 x0 x1 x2 x3 x4 x5 x6 x7 x8 x9 x10 x11 x12 x13 x14 x15 x16 x17 x18 x19 x20 fh0 fh1 fh2 fh3 fh4 fh5).2.2.2.2.1 x20 (fh5 : Vec F S5x256x2496 .f32)

set_option maxHeartbeats 2000000 in
/-- The body on whole staging memrefs: everything it is given comes back as it was, the scratch at some contents, the result at
    its contents before with the four blocks written. -/
theorem body_run (c : Dev nD) (arg0 : Memref sig .tc .vmem S1024x60 .f32) (harg0 : arg0.IsWhole) (arg1 : Memref sig .tc .vmem S1x60 .f32) (harg1 : arg1.IsWhole) (arg2 : Memref sig .tc .vmem S32x4 .f32) (harg2 : arg2.IsWhole) (arg3 : Memref sig .tc .vmem S1x32 .f32) (harg3 : arg3.IsWhole) (arg4 : Memref sig .tc .vmem S64x32x4 .f32) (harg4 : arg4.IsWhole) (arg5 : Memref sig .tc .vmem S1x64 .f32) (harg5 : arg5.IsWhole) (arg6 : Memref sig .tc .vmem S32x8 .f32) (harg6 : arg6.IsWhole) (arg7 : Memref sig .tc .vmem S1x32 .f32) (harg7 : arg7.IsWhole) (arg8 : Memref sig .tc .vmem S64x32x8 .f32) (harg8 : arg8.IsWhole) (arg9 : Memref sig .tc .vmem S1x64 .f32) (harg9 : arg9.IsWhole) (arg10 : Memref sig .tc .vmem S32x8 .f32) (harg10 : arg10.IsWhole) (arg11 : Memref sig .tc .vmem S1x32 .f32) (harg11 : arg11.IsWhole) (arg12 : Memref sig .tc .vmem S64x32x8 .f32) (harg12 : arg12.IsWhole) (arg13 : Memref sig .tc .vmem S1x64 .f32) (harg13 : arg13.IsWhole) (arg14 : Memref sig .tc .vmem S992x1 .f32) (harg14 : arg14.IsWhole) (arg18 : Memref sig .tc .vmem S1x256 .f32) (harg18 : arg18.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg24 : Memref sig .tc .vmem S1x256 .f32) (harg24 : arg24.IsWhole) (arg26 : Memref sig .tc .vmem S1x2496 .f32) (harg26 : arg26.IsWhole) (arg28 : Memref sig .tc .vmem S5x2496x256 .f32) (harg28 : arg28.IsWhole) (arg29 : Memref sig .tc .vmem S5x256x2496 .f32) (harg29 : arg29.IsWhole) (arg32 : Memref sig .tc .vmem S256x2496 .f32) (harg32 : arg32.IsWhole) (arg33 : Memref sig .tc .vmem S256x2496 .f32) (harg33 : arg33.IsWhole) (arg36 : Memref sig .tc .vmem S992x248 .f32) (harg36 : arg36.IsWhole) (arg37 : Memref sig .tc .vmem S248x992 .f32) (harg37 : arg37.IsWhole) (arg38 : Memref sig .tc .vmem S5x256x64 .f32) (harg38 : arg38.IsWhole) (arg39 : Memref sig .tc .vmem S5x64x256 .f32) (harg39 : arg39.IsWhole)
    (x0 : Vec F S1024x60 .f32) (x1 : Vec F S1x60 .f32) (x2 : Vec F S32x4 .f32) (x3 : Vec F S1x32 .f32) (x4 : Vec F S64x32x4 .f32) (x5 : Vec F S1x64 .f32) (x6 : Vec F S32x8 .f32) (x7 : Vec F S1x32 .f32) (x8 : Vec F S64x32x8 .f32) (x9 : Vec F S1x64 .f32) (x10 : Vec F S32x8 .f32) (x11 : Vec F S1x32 .f32) (x12 : Vec F S64x32x8 .f32) (x13 : Vec F S1x64 .f32) (x14 : Vec F S992x1 .f32) (x15 : Vec F S1x256 .f32) (x16 : Vec F S1x64 .f32) (x17 : Vec F S64x64 .f32) (x18 : Vec F S1x64 .f32) (x19 : Vec F S1x256 .f32) (x20 : Vec F S1x2496 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (W : Waits sig Unit) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg18 fullShare x15 ∗ owns (c : Thread nD τ) arg20 fullShare x16 ∗ owns (c : Thread nD τ) arg21 fullShare x17 ∗ owns (c : Thread nD τ) arg22 fullShare x18 ∗ owns (c : Thread nD τ) arg24 fullShare x19 ∗ owns (c : Thread nD τ) arg26 fullShare x20 ∗ (∃ d, owns (c : Thread nD τ) arg28 fullShare d) ∗ (∃ d, owns (c : Thread nD τ) arg29 fullShare d) ∗ (∃ d, owns (c : Thread nD τ) arg32 fullShare d) ∗ (∃ d, owns (c : Thread nD τ) arg33 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 fh6 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg18 fullShare x15 ∗ owns (c : Thread nD τ) arg20 fullShare x16 ∗ owns (c : Thread nD τ) arg21 fullShare x17 ∗ owns (c : Thread nD τ) arg22 fullShare x18 ∗ owns (c : Thread nD τ) arg24 fullShare x19 ∗ owns (c : Thread nD τ) arg26 fullShare x20 ∗ (∃ d, owns (c : Thread nD τ) arg28 fullShare d) ∗ (∃ d, owns (c : Thread nD τ) arg29 fullShare d) ∗ (∃ d, owns (c : Thread nD τ) arg32 fullShare d) ∗ (∃ d, owns (c : Thread nD τ) arg33 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 (hbM0_6.view.writes (Elt F) fh6 (bodyPieces c arg0 harg0 arg1 harg1 arg2 harg2 arg3 harg3 arg4 harg4 arg5 harg5 arg6 harg6 arg7 harg7 arg8 harg8 arg9 harg9 arg10 harg10 arg11 harg11 arg12 harg12 arg13 harg13 arg14 harg14 arg18 harg18 arg20 harg20 arg21 harg21 arg22 harg22 arg24 harg24 arg26 harg26 arg28 harg28 arg29 harg29 arg32 harg32 arg33 harg33 arg36 harg36 arg37 harg37 arg38 harg38 arg39 harg39 x0 x1 x2 x3 x4 x5 x6 x7 x8 x9 x10 x11 x12 x13 x14 x15 x16 x17 x18 x19 x20 fh0 fh1 fh2 fh3 fh4 fh5)) ∗ (∃ W', owes (c : Thread nD τ) 0 W')) -∗ K ⟨⟩))
    ⊢ wp frame (wpE (defs₀ (F := F)) Variants.none c none) Set.univ (cc0__full_body arg0 harg0 arg1 harg1 arg2 harg2 arg3 harg3 arg4 harg4 arg5 harg5 arg6 harg6 arg7 harg7 arg8 harg8 arg9 harg9 arg10 harg10 arg11 harg11 arg12 harg12 arg13 harg13 arg14 harg14 (Memref.whole main_arg5) (Memref.isWhole_whole _) (Memref.whole main_arg6) (Memref.isWhole_whole _) (Memref.whole main_arg19) (Memref.isWhole_whole _) arg18 harg18 (Memref.whole main_arg21) (Memref.isWhole_whole _) arg20 harg20 arg21 harg21 arg22 harg22 (Memref.whole main_arg24) (Memref.isWhole_whole _) arg24 harg24 (Memref.whole main_arg26) (Memref.isWhole_whole _) arg26 harg26 (Memref.whole main_v0) (Memref.isWhole_whole _) arg28 harg28 arg29 harg29 cc0_scratch2 cc0_scratch3 arg32 harg32 arg33 harg33 cc0_scratch6 cc0_scratch7 arg36 harg36 arg37 harg37 arg38 harg38 arg39 harg39 cc0_scratch12 cc0_scratch13 cc0_scratch14 cc0_scratch15) K := by
  rw [body_eq]
  iintro ⟨H0, H1, H2, H3, H4, H5, H6, H7, H8, H9, H10, H11, H12, H13, H14, H15, H16, H17, H18, H19, H20, HS0, HS1, HS2, HS3, HS4, HS5, HS6, HS7, Hq0, Hq1, Hq2, Hq3, Hq4, Hq5, Hq6, Hq7, Hh0, Hh1, Hh2, Hh3, Hh4, Hh5, Hh6, HW, Hk⟩
  iapply ((upToBlocks_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg18 harg18 arg20 harg20 arg21 harg21 arg22 harg22 arg24 harg24 arg26 harg26 arg28 harg28 arg29 harg29 arg32 harg32 arg33 harg33 arg36 harg36 arg37 harg37 arg38 harg38 arg39 harg39 x0 x1 x2 x3 x4 x5 x6 x7 x8 x9 x10 x11 x12 x13 x14 x15 x16 x17 x18 x19 x20 fh0 fh1 fh2 fh3 fh4 fh5).2.2.2.2.2 (outBlocks arg0 harg0 arg1 harg1 arg2 harg2 arg3 harg3 arg4 harg4 arg5 harg5 arg6 harg6 arg7 harg7 arg8 harg8 arg9 harg9 arg10 harg10 arg11 harg11 arg12 harg12 arg13 harg13 arg14 harg14 (Memref.whole main_arg5) (Memref.isWhole_whole _) (Memref.whole main_arg6) (Memref.isWhole_whole _) (Memref.whole main_arg19) (Memref.isWhole_whole _) arg18 harg18 (Memref.whole main_arg21) (Memref.isWhole_whole _) arg20 harg20 arg21 harg21 arg22 harg22 (Memref.whole main_arg24) (Memref.isWhole_whole _) arg24 harg24 (Memref.whole main_arg26) (Memref.isWhole_whole _) arg26 harg26 (Memref.whole main_v0) (Memref.isWhole_whole _) arg28 harg28 arg29 harg29 cc0_scratch2 cc0_scratch3 arg32 harg32 arg33 harg33 cc0_scratch6 cc0_scratch7 arg36 harg36 arg37 harg37 arg38 harg38 arg39 harg39 cc0_scratch12 cc0_scratch13 cc0_scratch14 cc0_scratch15) W K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS0]; · iexact HS0
  isplitl [HS1]; · iexact HS1
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [HW]; · iexact HW
  iintro ⟨H0, H1, H2, H3, H4, H5, H6, H7, H8, H9, H10, H11, H12, H13, H14, H15, H16, H17, H18, H19, HS0, HS1, HS4, HS5, HS6, HS7, Hq0, Hq1, Hq4, Hq5, Hq6, Hq7, Hh0, Hh1, Hh2, Hh3, Hh4, Hh5, ⟨%W', HW⟩⟩
  iapply (outBlocks_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg18 harg18 arg20 harg20 arg21 harg21 arg22 harg22 arg24 harg24 arg26 harg26 arg28 harg28 arg29 harg29 arg32 harg32 arg33 harg33 arg36 harg36 arg37 harg37 arg38 harg38 arg39 harg39 (upToBlocks_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg18 harg18 arg20 harg20 arg21 harg21 arg22 harg22 arg24 harg24 arg26 harg26 arg28 harg28 arg29 harg29 arg32 harg32 arg33 harg33 arg36 harg36 arg37 harg37 arg38 harg38 arg39 harg39 x0 x1 x2 x3 x4 x5 x6 x7 x8 x9 x10 x11 x12 x13 x14 x15 x16 x17 x18 x19 x20 fh0 fh1 fh2 fh3 fh4 fh5).1 (upToBlocks_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg18 harg18 arg20 harg20 arg21 harg21 arg22 harg22 arg24 harg24 arg26 harg26 arg28 harg28 arg29 harg29 arg32 harg32 arg33 harg33 arg36 harg36 arg37 harg37 arg38 harg38 arg39 harg39 x0 x1 x2 x3 x4 x5 x6 x7 x8 x9 x10 x11 x12 x13 x14 x15 x16 x17 x18 x19 x20 fh0 fh1 fh2 fh3 fh4 fh5).2.1 (upToBlocks_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg18 harg18 arg20 harg20 arg21 harg21 arg22 harg22 arg24 harg24 arg26 harg26 arg28 harg28 arg29 harg29 arg32 harg32 arg33 harg33 arg36 harg36 arg37 harg37 arg38 harg38 arg39 harg39 x0 x1 x2 x3 x4 x5 x6 x7 x8 x9 x10 x11 x12 x13 x14 x15 x16 x17 x18 x19 x20 fh0 fh1 fh2 fh3 fh4 fh5).2.2.1 (upToBlocks_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg18 harg18 arg20 harg20 arg21 harg21 arg22 harg22 arg24 harg24 arg26 harg26 arg28 harg28 arg29 harg29 arg32 harg32 arg33 harg33 arg36 harg36 arg37 harg37 arg38 harg38 arg39 harg39 x0 x1 x2 x3 x4 x5 x6 x7 x8 x9 x10 x11 x12 x13 x14 x15 x16 x17 x18 x19 x20 fh0 fh1 fh2 fh3 fh4 fh5).2.2.2.1 (upToBlocks_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg18 harg18 arg20 harg20 arg21 harg21 arg22 harg22 arg24 harg24 arg26 harg26 arg28 harg28 arg29 harg29 arg32 harg32 arg33 harg33 arg36 harg36 arg37 harg37 arg38 harg38 arg39 harg39 x0 x1 x2 x3 x4 x5 x6 x7 x8 x9 x10 x11 x12 x13 x14 x15 x16 x17 x18 x19 x20 fh0 fh1 fh2 fh3 fh4 fh5).2.2.2.2.1 x20 fh5 fh6 W' K)
  isplitl [H20]; · iexact H20
  isplitl [HS1]; · iexact HS1
  isplitl [HS2]; · iexact HS2
  isplitl [HS3]; · iexact HS3
  isplitl [Hq2]; · iexact Hq2
  isplitl [Hq3]; · iexact Hq3
  isplitl [Hh6]; · iexact Hh6
  isplitl [HW]; · iexact HW
  iintro ⟨H20, HS1, HS2, HS3, Hq2, Hq3, Hh6, HW⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [HS0]; · iexact HS0
  isplitl [HS1]; · iexists _; iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  iexact HW

end Cert.KernelIdeal.Launch

end
-- ==== Proof.KernelIdealFrame.lean ====
module

public import proofs.«01_k».proof.Proof.KernelIdealBody
public import proofs.«01_k».proof.Proof.Gen.KernelIdeal.Skeleton
public import Idealize.ShloMosaic.Lib.Pipeline.FrameValue
public import Idealize.ShloMosaic.Lib.Claim
public import Idealize.ShloMosaic.Lib.VecWindow
public import Idealize.ShloMosaic.Lib.Pipeline.Value

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1024x60 .f32 := win0_0.stage (cfg0.slots t 0)
abbrev hs0_0 (t : Fin cfg0.N) : (ms0_0 t).IsWhole := hstage0_0 0
abbrev ms0_1 (t : Fin cfg0.N) : Memref sig .tc .vmem S1x60 .f32 := win0_1.stage (cfg0.slots t 1)
abbrev hs0_1 (t : Fin cfg0.N) : (ms0_1 t).IsWhole := hstage0_1 0
abbrev ms0_2 (t : Fin cfg0.N) : Memref sig .tc .vmem S32x4 .f32 := win0_2.stage (cfg0.slots t 2)
abbrev hs0_2 (t : Fin cfg0.N) : (ms0_2 t).IsWhole := hstage0_2 0
abbrev ms0_3 (t : Fin cfg0.N) : Memref sig .tc .vmem S1x32 .f32 := win0_3.stage (cfg0.slots t 3)
abbrev hs0_3 (t : Fin cfg0.N) : (ms0_3 t).IsWhole := hstage0_3 0
abbrev ms0_4 (t : Fin cfg0.N) : Memref sig .tc .vmem S64x32x4 .f32 := win0_4.stage (cfg0.slots t 4)
abbrev hs0_4 (t : Fin cfg0.N) : (ms0_4 t).IsWhole := hstage0_4 0
abbrev ms0_5 (t : Fin cfg0.N) : Memref sig .tc .vmem S1x64 .f32 := win0_5.stage (cfg0.slots t 5)
abbrev hs0_5 (t : Fin cfg0.N) : (ms0_5 t).IsWhole := hstage0_5 0
abbrev ms0_6 (t : Fin cfg0.N) : Memref sig .tc .vmem S32x8 .f32 := win0_6.stage (cfg0.slots t 6)
abbrev hs0_6 (t : Fin cfg0.N) : (ms0_6 t).IsWhole := hstage0_6 0
abbrev ms0_7 (t : Fin cfg0.N) : Memref sig .tc .vmem S1x32 .f32 := win0_7.stage (cfg0.slots t 7)
abbrev hs0_7 (t : Fin cfg0.N) : (ms0_7 t).IsWhole := hstage0_7 0
abbrev ms0_8 (t : Fin cfg0.N) : Memref sig .tc .vmem S64x32x8 .f32 := win0_8.stage (cfg0.slots t 8)
abbrev hs0_8 (t : Fin cfg0.N) : (ms0_8 t).IsWhole := hstage0_8 0
abbrev ms0_9 (t : Fin cfg0.N) : Memref sig .tc .vmem S1x64 .f32 := win0_9.stage (cfg0.slots t 9)
abbrev hs0_9 (t : Fin cfg0.N) : (ms0_9 t).IsWhole := hstage0_9 0
abbrev ms0_10 (t : Fin cfg0.N) : Memref sig .tc .vmem S32x8 .f32 := win0_10.stage (cfg0.slots t 10)
abbrev hs0_10 (t : Fin cfg0.N) : (ms0_10 t).IsWhole := hstage0_10 0
abbrev ms0_11 (t : Fin cfg0.N) : Memref sig .tc .vmem S1x32 .f32 := win0_11.stage (cfg0.slots t 11)
abbrev hs0_11 (t : Fin cfg0.N) : (ms0_11 t).IsWhole := hstage0_11 0
abbrev ms0_12 (t : Fin cfg0.N) : Memref sig .tc .vmem S64x32x8 .f32 := win0_12.stage (cfg0.slots t 12)
abbrev hs0_12 (t : Fin cfg0.N) : (ms0_12 t).IsWhole := hstage0_12 0
abbrev ms0_13 (t : Fin cfg0.N) : Memref sig .tc .vmem S1x64 .f32 := win0_13.stage (cfg0.slots t 13)
abbrev hs0_13 (t : Fin cfg0.N) : (ms0_13 t).IsWhole := hstage0_13 0
abbrev ms0_14 (t : Fin cfg0.N) : Memref sig .tc .vmem S992x1 .f32 := win0_14.stage (cfg0.slots t 14)
abbrev hs0_14 (t : Fin cfg0.N) : (ms0_14 t).IsWhole := hstage0_14 0
abbrev ms0_15 (t : Fin cfg0.N) : Memref sig .tc .vmem S1x256 .f32 := win0_15.stage (cfg0.slots t 15)
abbrev hs0_15 (t : Fin cfg0.N) : (ms0_15 t).IsWhole := hstage0_15 0
abbrev ms0_16 (t : Fin cfg0.N) : Memref sig .tc .vmem S1x64 .f32 := win0_16.stage (cfg0.slots t 16)
abbrev hs0_16 (t : Fin cfg0.N) : (ms0_16 t).IsWhole := hstage0_16 0
abbrev ms0_17 (t : Fin cfg0.N) : Memref sig .tc .vmem S64x64 .f32 := win0_17.stage (cfg0.slots t 17)
abbrev hs0_17 (t : Fin cfg0.N) : (ms0_17 t).IsWhole := hstage0_17 0
abbrev ms0_18 (t : Fin cfg0.N) : Memref sig .tc .vmem S1x64 .f32 := win0_18.stage (cfg0.slots t 18)
abbrev hs0_18 (t : Fin cfg0.N) : (ms0_18 t).IsWhole := hstage0_18 0
abbrev ms0_19 (t : Fin cfg0.N) : Memref sig .tc .vmem S1x256 .f32 := win0_19.stage (cfg0.slots t 19)
abbrev hs0_19 (t : Fin cfg0.N) : (ms0_19 t).IsWhole := hstage0_19 0
abbrev ms0_20 (t : Fin cfg0.N) : Memref sig .tc .vmem S1x2496 .f32 := win0_20.stage (cfg0.slots t 20)
abbrev hs0_20 (t : Fin cfg0.N) : (ms0_20 t).IsWhole := hstage0_20 0

/-! ## The pipeline's proof data -/

/-- What the result holds when the body is done: its contents before, the four blocks written. -/
def resultOf (c : Dev nD) (t : Fin cfg0.N) : HbBuf0 (F := F) c hbM0_6 :=
  hbM0_6.view.writes (Elt F) (V m c main_v0) (bodyPieces c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (V m c main_arg5) (V m c main_arg6) (V m c main_arg19) (V m c main_arg21) (V m c main_arg24) (V m c main_arg26))

/-- The only grid point. -/
abbrev pt0 : Fin cfg0.N := ⟨0, by decide⟩

/-- The region's buffers after the body. -/
def G (c : Dev nD) (b : Ref sig .tc) : Buf (Elt F) ((c : Thread nD τ).loc b) :=
  Function.update (V m c) main_v0 (resultOf m c pt0) b

/-- The proof data of the one pipeline on core `c`: the arrays as the region finds them, every window's block left in place; the
    invariant holds the result at its contents before the body, then at `G`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨n + 21, h⟩ => absurd h (Nat.not_lt.mpr (Nat.le_add_left _ _))
  Φ t := Pipeline.ΦDRG osem0 spec0 H0 R0 (V m) (if t = 0 then V m else G m) c
  q _ := fullShare
  owed _ := 0

theorem A_eq (c : Dev nD) (w : Fin cfg0.W) : (dats m 0 c).A w = V m c (Pipeline.arrRef spec0 w) := by
  dsimp only [dats]

/-- No window is an output, none is ever idle or cut. -/
theorem win_in (w : Fin cfg0.W) : (cfg0.win w).isOut = false := by revert w; decide

set_option maxHeartbeats 2000000 in
/-- The body leaves every window's block as it was fetched. -/
theorem cut_after (c : Dev nD) (w : Fin cfg0.W) (t : Fin cfg0.N) :
    (cfg0.win w).cut (cfg0.grid.coords t) ((dats m 0 c).after w t) = (dats m 0 c).blockOf w t := by
  unfold Dat.blockOf; rw [A_eq]; fin_cases w <;> (dsimp only [dats]; unfold iblk; try rfl)

/-- Every window's staging buffer holds its block when the body is called. -/
theorem before_eq (c : Dev nD) (w : Fin cfg0.W) (t : Fin cfg0.N) (d) (hlive : ∀ i, cfg0.idle w i = false)
    (hclip : ∀ t t' : Fin cfg0.N, (cfg0.win w).index t = (cfg0.win w).index t' →
      (cfg0.win w).clip (cfg0.grid.coords t) = (cfg0.win w).clip (cfg0.grid.coords t')) :
    (dats m 0 c).before w t d = (dats m 0 c).fetched w t d :=
  (dats m 0 c).before_in_eq_fetched w (win_in w) hlive hclip (cut_after m c w) t d

/-- The written operand's points-to, listed. -/
theorem routed0_eq (c : Dev nD) (X : (b : Ref sig .tc) → Buf (Elt F) ((c.tc : Thread nD τ).loc b)) :
    (Pipeline.routed R0 c X : sProp 𝕄) = hbPt0 c hbM0_6 (X main_v0) := by
  unfold Pipeline.routed; rw [BI.bigSep_eq_bigSepL_of_eq [main_v0] (by decide) (by decide)]; rfl

/-- The invariant, conjunct by conjunct. -/
theorem Phi_eq (c : Dev nD) (X : (c : Dev nD) → (b : Ref sig .tc) → Buf (Elt F) ((c.tc : Thread nD τ).loc b)) :
    (Pipeline.ΦDRG osem0 spec0 H0 R0 (V m) X c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0) ∗ iprop(hbPt0 c hbM0_0 (V m c main_arg5) ∗ hbPt0 c hbM0_1 (V m c main_arg6) ∗ hbPt0 c hbM0_2 (V m c main_arg19) ∗ hbPt0 c hbM0_3 (V m c main_arg21) ∗ hbPt0 c hbM0_4 (V m c main_arg24) ∗ hbPt0 c hbM0_5 (V m c main_arg26)) ∗ hbPt0 c hbM0_6 (X c main_v0)) := by
  rw [Pipeline.ΦDRG_eq, scopedRest0_eq, ownSems00_eq, hbmPts0_eq, routed0_eq]; simp only [scM0_0, scM0_1, scM0_2, scM0_3, scM0_4, scM0_5, scM0_6, scM0_7, owns_whole]; try rfl

/-! ## The body obligation -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)) ∗ (∃ d, owns (c : Thread nD τ) (ms0_19 t) fullShare ((dats m 0 c).before 19 t d)) ∗ (∃ d, owns (c : Thread nD τ) (ms0_20 t) fullShare ((dats m 0 c).before 20 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t) ∗ owns (c : Thread nD τ) (ms0_16 t) fullShare ((dats m 0 c).after 16 t) ∗ owns (c : Thread nD τ) (ms0_17 t) fullShare ((dats m 0 c).after 17 t) ∗ owns (c : Thread nD τ) (ms0_18 t) fullShare ((dats m 0 c).after 18 t) ∗ owns (c : Thread nD τ) (ms0_19 t) fullShare ((dats m 0 c).after 19 t) ∗ owns (c : Thread nD τ) (ms0_20 t) fullShare ((dats m 0 c).after 20 t))

set_option maxHeartbeats 2000000 in
/-- The body at its point: the windows hold their blocks, so the run applies. -/
theorem sound_body (c : Dev nD) (t : Fin cfg0.N) :
    bodyPre m c t ⊢ wp frame (wpE (defs₀ (F := F)) Variants.none c none) Set.univ (bodyAt0 t) (fun _ => bodyPost m c t) := by
  obtain rfl : t = pt0 := by revert t; decide
  generalize hQ : (fun _ : PUnit => bodyPost m c pt0) = Q
  have hG : G m c main_v0 = resultOf m c pt0 := by simp only [G, Function.update_self]
  unfold bodyPre bodyAt0
  simp only [show ∀ d, (dats m 0 c).before 0 pt0 d = iblk m c 0 pt0 from fun d => (before_eq m c 0 pt0 d (fun _ => rfl) (fun _ _ _ => rfl)).trans (by unfold Dat.fetched Dat.blockOf iblk; rw [A_eq]; try rfl), show ∀ d, (dats m 0 c).before 1 pt0 d = iblk m c 1 pt0 from fun d => (before_eq m c 1 pt0 d (fun _ => rfl) (fun _ _ _ => rfl)).trans (by unfold Dat.fetched Dat.blockOf iblk; rw [A_eq]; try rfl), show ∀ d, (dats m 0 c).before 2 pt0 d = iblk m c 2 pt0 from fun d => (before_eq m c 2 pt0 d (fun _ => rfl) (fun _ _ _ => rfl)).trans (by unfold Dat.fetched Dat.blockOf iblk; rw [A_eq]; try rfl), show ∀ d, (dats m 0 c).before 3 pt0 d = iblk m c 3 pt0 from fun d => (before_eq m c 3 pt0 d (fun _ => rfl) (fun _ _ _ => rfl)).trans (by unfold Dat.fetched Dat.blockOf iblk; rw [A_eq]; try rfl), show ∀ d, (dats m 0 c).before 4 pt0 d = iblk m c 4 pt0 from fun d => (before_eq m c 4 pt0 d (fun _ => rfl) (fun _ _ _ => rfl)).trans (by unfold Dat.fetched Dat.blockOf iblk; rw [A_eq]; try rfl), show ∀ d, (dats m 0 c).before 5 pt0 d = iblk m c 5 pt0 from fun d => (before_eq m c 5 pt0 d (fun _ => rfl) (fun _ _ _ => rfl)).trans (by unfold Dat.fetched Dat.blockOf iblk; rw [A_eq]; try rfl), show ∀ d, (dats m 0 c).before 6 pt0 d = iblk m c 6 pt0 from fun d => (before_eq m c 6 pt0 d (fun _ => rfl) (fun _ _ _ => rfl)).trans (by unfold Dat.fetched Dat.blockOf iblk; rw [A_eq]; try rfl), show ∀ d, (dats m 0 c).before 7 pt0 d = iblk m c 7 pt0 from fun d => (before_eq m c 7 pt0 d (fun _ => rfl) (fun _ _ _ => rfl)).trans (by unfold Dat.fetched Dat.blockOf iblk; rw [A_eq]; try rfl), show ∀ d, (dats m 0 c).before 8 pt0 d = iblk m c 8 pt0 from fun d => (before_eq m c 8 pt0 d (fun _ => rfl) (fun _ _ _ => rfl)).trans (by unfold Dat.fetched Dat.blockOf iblk; rw [A_eq]; try rfl), show ∀ d, (dats m 0 c).before 9 pt0 d = iblk m c 9 pt0 from fun d => (before_eq m c 9 pt0 d (fun _ => rfl) (fun _ _ _ => rfl)).trans (by unfold Dat.fetched Dat.blockOf iblk; rw [A_eq]; try rfl), show ∀ d, (dats m 0 c).before 10 pt0 d = iblk m c 10 pt0 from fun d => (before_eq m c 10 pt0 d (fun _ => rfl) (fun _ _ _ => rfl)).trans (by unfold Dat.fetched Dat.blockOf iblk; rw [A_eq]; try rfl), show ∀ d, (dats m 0 c).before 11 pt0 d = iblk m c 11 pt0 from fun d => (before_eq m c 11 pt0 d (fun _ => rfl) (fun _ _ _ => rfl)).trans (by unfold Dat.fetched Dat.blockOf iblk; rw [A_eq]; try rfl), show ∀ d, (dats m 0 c).before 12 pt0 d = iblk m c 12 pt0 from fun d => (before_eq m c 12 pt0 d (fun _ => rfl) (fun _ _ _ => rfl)).trans (by unfold Dat.fetched Dat.blockOf iblk; rw [A_eq]; try rfl), show ∀ d, (dats m 0 c).before 13 pt0 d = iblk m c 13 pt0 from fun d => (before_eq m c 13 pt0 d (fun _ => rfl) (fun _ _ _ => rfl)).trans (by unfold Dat.fetched Dat.blockOf iblk; rw [A_eq]; try rfl), show ∀ d, (dats m 0 c).before 14 pt0 d = iblk m c 14 pt0 from fun d => (before_eq m c 14 pt0 d (fun _ => rfl) (fun _ _ _ => rfl)).trans (by unfold Dat.fetched Dat.blockOf iblk; rw [A_eq]; try rfl), show ∀ d, (dats m 0 c).before 15 pt0 d = iblk m c 15 pt0 from fun d => (before_eq m c 15 pt0 d (fun _ => rfl) (fun _ _ _ => rfl)).trans (by unfold Dat.fetched Dat.blockOf iblk; rw [A_eq]; try rfl), show ∀ d, (dats m 0 c).before 16 pt0 d = iblk m c 16 pt0 from fun d => (before_eq m c 16 pt0 d (fun _ => rfl) (fun _ _ _ => rfl)).trans (by unfold Dat.fetched Dat.blockOf iblk; rw [A_eq]; try rfl), show ∀ d, (dats m 0 c).before 17 pt0 d = iblk m c 17 pt0 from fun d => (before_eq m c 17 pt0 d (fun _ => rfl) (fun _ _ _ => rfl)).trans (by unfold Dat.fetched Dat.blockOf iblk; rw [A_eq]; try rfl), show ∀ d, (dats m 0 c).before 18 pt0 d = iblk m c 18 pt0 from fun d => (before_eq m c 18 pt0 d (fun _ => rfl) (fun _ _ _ => rfl)).trans (by unfold Dat.fetched Dat.blockOf iblk; rw [A_eq]; try rfl), show ∀ d, (dats m 0 c).before 19 pt0 d = iblk m c 19 pt0 from fun d => (before_eq m c 19 pt0 d (fun _ => rfl) (fun _ _ _ => rfl)).trans (by unfold Dat.fetched Dat.blockOf iblk; rw [A_eq]; try rfl), show ∀ d, (dats m 0 c).before 20 pt0 d = iblk m c 20 pt0 from fun d => (before_eq m c 20 pt0 d (fun _ => rfl) (fun _ _ _ => rfl)).trans (by unfold Dat.fetched Dat.blockOf iblk; rw [A_eq]; try rfl)]
  rw [show (dats m 0 c).Φ (pt0.castSucc) = Pipeline.ΦDRG osem0 spec0 H0 R0 (V m) (V m) c from by dsimp only [dats]; rw [if_pos (by decide)], Phi_eq]
  unfold Dat.owesAt Pipeline.owesWithin
  rw [show (dats m 0 c).owed pt0.castSucc = 0 from rfl]
  iintro ⟨⟨⟨HS0, HS1, HS2, HS3, HS4, HS5, HS6, HS7⟩, Hg, ⟨Hq0, Hq1, Hq2, Hq3, Hq4, Hq5, Hq6, Hq7⟩, ⟨Hh0, Hh1, Hh2, Hh3, Hh4, Hh5⟩, Hh6⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (body_run c (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) (ms0_7 pt0) (hs0_7 pt0) (ms0_8 pt0) (hs0_8 pt0) (ms0_9 pt0) (hs0_9 pt0) (ms0_10 pt0) (hs0_10 pt0) (ms0_11 pt0) (hs0_11 pt0) (ms0_12 pt0) (hs0_12 pt0) (ms0_13 pt0) (hs0_13 pt0) (ms0_14 pt0) (hs0_14 pt0) (ms0_15 pt0) (hs0_15 pt0) (ms0_16 pt0) (hs0_16 pt0) (ms0_17 pt0) (hs0_17 pt0) (ms0_18 pt0) (hs0_18 pt0) (ms0_19 pt0) (hs0_19 pt0) (ms0_20 pt0) (hs0_20 pt0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 pt0) (iblk m c 1 pt0) (iblk m c 2 pt0) (iblk m c 3 pt0) (iblk m c 4 pt0) (iblk m c 5 pt0) (iblk m c 6 pt0) (iblk m c 7 pt0) (iblk m c 8 pt0) (iblk m c 9 pt0) (iblk m c 10 pt0) (iblk m c 11 pt0) (iblk m c 12 pt0) (iblk m c 13 pt0) (iblk m c 14 pt0) (iblk m c 15 pt0) (iblk m c 16 pt0) (iblk m c 17 pt0) (iblk m c 18 pt0) (iblk m c 19 pt0) (iblk m c 20 pt0) (V m c main_arg5) (V m c main_arg6) (V m c main_arg19) (V m c main_arg21) (V m c main_arg24) (V m c main_arg26) (V m c main_v0) W Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [HW]; · iexact HW
  iintro ⟨H0, H1, H2, H3, H4, H5, H6, H7, H8, H9, H10, H11, H12, H13, H14, H15, H16, H17, H18, H19, H20, HS0, HS1, HS2, HS3, HS4, HS5, HS6, HS7, Hq0, Hq1, Hq2, Hq3, Hq4, Hq5, Hq6, Hq7, Hh0, Hh1, Hh2, Hh3, Hh4, Hh5, Hh6, ⟨%W', HW'⟩⟩
  subst hQ
  unfold bodyPost
  rw [show (dats m 0 c).after 0 pt0 = iblk m c 0 pt0 from by dsimp only [dats], show (dats m 0 c).after 1 pt0 = iblk m c 1 pt0 from by dsimp only [dats], show (dats m 0 c).after 2 pt0 = iblk m c 2 pt0 from by dsimp only [dats], show (dats m 0 c).after 3 pt0 = iblk m c 3 pt0 from by dsimp only [dats], show (dats m 0 c).after 4 pt0 = iblk m c 4 pt0 from by dsimp only [dats], show (dats m 0 c).after 5 pt0 = iblk m c 5 pt0 from by dsimp only [dats], show (dats m 0 c).after 6 pt0 = iblk m c 6 pt0 from by dsimp only [dats], show (dats m 0 c).after 7 pt0 = iblk m c 7 pt0 from by dsimp only [dats], show (dats m 0 c).after 8 pt0 = iblk m c 8 pt0 from by dsimp only [dats], show (dats m 0 c).after 9 pt0 = iblk m c 9 pt0 from by dsimp only [dats], show (dats m 0 c).after 10 pt0 = iblk m c 10 pt0 from by dsimp only [dats], show (dats m 0 c).after 11 pt0 = iblk m c 11 pt0 from by dsimp only [dats], show (dats m 0 c).after 12 pt0 = iblk m c 12 pt0 from by dsimp only [dats], show (dats m 0 c).after 13 pt0 = iblk m c 13 pt0 from by dsimp only [dats], show (dats m 0 c).after 14 pt0 = iblk m c 14 pt0 from by dsimp only [dats], show (dats m 0 c).after 15 pt0 = iblk m c 15 pt0 from by dsimp only [dats], show (dats m 0 c).after 16 pt0 = iblk m c 16 pt0 from by dsimp only [dats], show (dats m 0 c).after 17 pt0 = iblk m c 17 pt0 from by dsimp only [dats], show (dats m 0 c).after 18 pt0 = iblk m c 18 pt0 from by dsimp only [dats], show (dats m 0 c).after 19 pt0 = iblk m c 19 pt0 from by dsimp only [dats], show (dats m 0 c).after 20 pt0 = iblk m c 20 pt0 from by dsimp only [dats]]
  rw [show (dats m 0 c).Φ (pt0.succ) = Pipeline.ΦDRG osem0 spec0 H0 R0 (V m) (G m) c from by dsimp only [dats]; rw [if_neg (by decide)], Phi_eq, hG]
  unfold Dat.owesAt Pipeline.owesWithin
  rw [show (dats m 0 c).owed pt0.succ = 0 from rfl]
  isplitl [HS0 HS1 HS2 HS3 HS4 HS5 HS6 HS7 Hg Hq0 Hq1 Hq2 Hq3 Hq4 Hq5 Hq6 Hq7 Hh0 Hh1 Hh2 Hh3 Hh4 Hh5 Hh6]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    isplitl [Hg]
    · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0 Hh1 Hh2 Hh3 Hh4 Hh5]
    · isplitl [Hh0]; · iexact Hh0
      isplitl [Hh1]; · iexact Hh1
      isplitl [Hh2]; · iexact Hh2
      isplitl [Hh3]; · iexact Hh3
      isplitl [Hh4]; · iexact Hh4
      iexact Hh5
    unfold resultOf
    iexact Hh6
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 800000 in
/-- The host prefix, at the algebra of a body with transfers of its own. -/
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 1600000 in
set_option backward.isDefEq.respectTransparency.types false in
/-- The launch: every run ends with the arrays as the pipeline leaves them, the result at `G`, every semaphore counter at zero. -/
theorem run_quiescent : θ_run defs (onTc (τ := τ) (main (F := F))) (s₀ m ρ)
    (fun r => (Pipeline.FramePostRG cfgs (dats m) 0 R0 (V m) (G m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain' m Variants.none) (hA := A_eq m) (G := G m)
    (hin := fun c => by dsimp only [dats]; rw [if_pos rfl])
    (hout := fun c => by dsimp only [dats]; rw [if_neg (by decide)])

set_option maxHeartbeats 1680000 in
/-- The argument arrays end unchanged, and every semaphore counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧r.2.mem ((c.tc : Thread nD τ).loc main_arg1) = m ((c.tc : Thread nD τ).loc main_arg1)
      ∧r.2.mem ((c.tc : Thread nD τ).loc main_arg2) = m ((c.tc : Thread nD τ).loc main_arg2)
      ∧r.2.mem ((c.tc : Thread nD τ).loc main_arg3) = m ((c.tc : Thread nD τ).loc main_arg3)
      ∧r.2.mem ((c.tc : Thread nD τ).loc main_arg4) = m ((c.tc : Thread nD τ).loc main_arg4)
      ∧r.2.mem ((c.tc : Thread nD τ).loc main_arg5) = m ((c.tc : Thread nD τ).loc main_arg5)
      ∧r.2.mem ((c.tc : Thread nD τ).loc main_arg6) = m ((c.tc : Thread nD τ).loc main_arg6)
      ∧r.2.mem ((c.tc : Thread nD τ).loc main_arg7) = m ((c.tc : Thread nD τ).loc main_arg7)
      ∧r.2.mem ((c.tc : Thread nD τ).loc main_arg8) = m ((c.tc : Thread nD τ).loc main_arg8)
      ∧r.2.mem ((c.tc : Thread nD τ).loc main_arg9) = m ((c.tc : Thread nD τ).loc main_arg9)
      ∧r.2.mem ((c.tc : Thread nD τ).loc main_arg10) = m ((c.tc : Thread nD τ).loc main_arg10)
      ∧r.2.mem ((c.tc : Thread nD τ).loc main_arg11) = m ((c.tc : Thread nD τ).loc main_arg11)
      ∧r.2.mem ((c.tc : Thread nD τ).loc main_arg12) = m ((c.tc : Thread nD τ).loc main_arg12)
      ∧r.2.mem ((c.tc : Thread nD τ).loc main_arg13) = m ((c.tc : Thread nD τ).loc main_arg13)
      ∧r.2.mem ((c.tc : Thread nD τ).loc main_arg14) = m ((c.tc : Thread nD τ).loc main_arg14)
      ∧r.2.mem ((c.tc : Thread nD τ).loc main_arg15) = m ((c.tc : Thread nD τ).loc main_arg15)
      ∧r.2.mem ((c.tc : Thread nD τ).loc main_arg16) = m ((c.tc : Thread nD τ).loc main_arg16)
      ∧r.2.mem ((c.tc : Thread nD τ).loc main_arg17) = m ((c.tc : Thread nD τ).loc main_arg17)
      ∧r.2.mem ((c.tc : Thread nD τ).loc main_arg18) = m ((c.tc : Thread nD τ).loc main_arg18)
      ∧r.2.mem ((c.tc : Thread nD τ).loc main_arg19) = m ((c.tc : Thread nD τ).loc main_arg19)
      ∧r.2.mem ((c.tc : Thread nD τ).loc main_arg20) = m ((c.tc : Thread nD τ).loc main_arg20)
      ∧r.2.mem ((c.tc : Thread nD τ).loc main_arg21) = m ((c.tc : Thread nD τ).loc main_arg21)
      ∧r.2.mem ((c.tc : Thread nD τ).loc main_arg22) = m ((c.tc : Thread nD τ).loc main_arg22)
      ∧r.2.mem ((c.tc : Thread nD τ).loc main_arg23) = m ((c.tc : Thread nD τ).loc main_arg23)
      ∧r.2.mem ((c.tc : Thread nD τ).loc main_arg24) = m ((c.tc : Thread nD τ).loc main_arg24)
      ∧r.2.mem ((c.tc : Thread nD τ).loc main_arg25) = m ((c.tc : Thread nD τ).loc main_arg25)
      ∧r.2.mem ((c.tc : Thread nD τ).loc main_arg26) = m ((c.tc : Thread nD τ).loc main_arg26)
      ∧r.2.mem ((c.tc : Thread nD τ).loc main_arg27) = m ((c.tc : Thread nD τ).loc main_arg27))
      ∧ r.2.sem = fun _ => 0) :=
  (θ_run defs _ _).mono (fun r h => ⟨fun c =>
    have hR : Pipeline.FramePostR cfgs (dats m) 0 R0 (V m) r := h.1.toR
    have rest (b : Ref sig .tc) (h1) (h2 : b ∉ R0) {x} (hv : V m c b = x) : r.2.mem ((c.tc : Thread nD τ).loc b) = x :=
      ((hR c).2 b (Finset.mem_sdiff.mpr ⟨h1, h2⟩)).trans hv
    ⟨((hR c).1 0).trans (((dats m 0 c).arrAt_in 0 rfl _).trans (V_main_arg0 m c)),
      rest main_arg1 (Pipeline.mem_restRefs_of main_arg1 (by decide) (by decide)) (by decide) (V_main_arg1 m c),
      rest main_arg2 (Pipeline.mem_restRefs_of main_arg2 (by decide) (by decide)) (by decide) (V_main_arg2 m c),
      rest main_arg3 (Pipeline.mem_restRefs_of main_arg3 (by decide) (by decide)) (by decide) (V_main_arg3 m c),
      ((hR c).1 14).trans (((dats m 0 c).arrAt_in 14 rfl _).trans (V_main_arg4 m c)),
      rest main_arg5 (Pipeline.mem_restRefs_of main_arg5 (by decide) (by decide)) (by decide) (V_main_arg5 m c),
      rest main_arg6 (Pipeline.mem_restRefs_of main_arg6 (by decide) (by decide)) (by decide) (V_main_arg6 m c),
      rest main_arg7 (Pipeline.mem_restRefs_of main_arg7 (by decide) (by decide)) (by decide) (V_main_arg7 m c),
      rest main_arg8 (Pipeline.mem_restRefs_of main_arg8 (by decide) (by decide)) (by decide) (V_main_arg8 m c),
      rest main_arg9 (Pipeline.mem_restRefs_of main_arg9 (by decide) (by decide)) (by decide) (V_main_arg9 m c),
      rest main_arg10 (Pipeline.mem_restRefs_of main_arg10 (by decide) (by decide)) (by decide) (V_main_arg10 m c),
      rest main_arg11 (Pipeline.mem_restRefs_of main_arg11 (by decide) (by decide)) (by decide) (V_main_arg11 m c),
      rest main_arg12 (Pipeline.mem_restRefs_of main_arg12 (by decide) (by decide)) (by decide) (V_main_arg12 m c),
      rest main_arg13 (Pipeline.mem_restRefs_of main_arg13 (by decide) (by decide)) (by decide) (V_main_arg13 m c),
      rest main_arg14 (Pipeline.mem_restRefs_of main_arg14 (by decide) (by decide)) (by decide) (V_main_arg14 m c),
      rest main_arg15 (Pipeline.mem_restRefs_of main_arg15 (by decide) (by decide)) (by decide) (V_main_arg15 m c),
      rest main_arg16 (Pipeline.mem_restRefs_of main_arg16 (by decide) (by decide)) (by decide) (V_main_arg16 m c),
      rest main_arg17 (Pipeline.mem_restRefs_of main_arg17 (by decide) (by decide)) (by decide) (V_main_arg17 m c),
      rest main_arg18 (Pipeline.mem_restRefs_of main_arg18 (by decide) (by decide)) (by decide) (V_main_arg18 m c),
      rest main_arg19 (Pipeline.mem_restRefs_of main_arg19 (by decide) (by decide)) (by decide) (V_main_arg19 m c),
      rest main_arg20 (Pipeline.mem_restRefs_of main_arg20 (by decide) (by decide)) (by decide) (V_main_arg20 m c),
      rest main_arg21 (Pipeline.mem_restRefs_of main_arg21 (by decide) (by decide)) (by decide) (V_main_arg21 m c),
      rest main_arg22 (Pipeline.mem_restRefs_of main_arg22 (by decide) (by decide)) (by decide) (V_main_arg22 m c),
      ((hR c).1 17).trans (((dats m 0 c).arrAt_in 17 rfl _).trans (V_main_arg23 m c)),
      rest main_arg24 (Pipeline.mem_restRefs_of main_arg24 (by decide) (by decide)) (by decide) (V_main_arg24 m c),
      rest main_arg25 (Pipeline.mem_restRefs_of main_arg25 (by decide) (by decide)) (by decide) (V_main_arg25 m c),
      rest main_arg26 (Pipeline.mem_restRefs_of main_arg26 (by decide) (by decide)) (by decide) (V_main_arg26 m c),
      rest main_arg27 (Pipeline.mem_restRefs_of main_arg27 (by decide) (by decide)) (by decide) (V_main_arg27 m c)⟩, h.2⟩) (run_quiescent m ρ)

/-- What the result holds at the end. -/
theorem value_run : θ_run defs (onTc (τ := τ) (main (F := F))) ⟨m, fun _ => 0, ρ⟩
    (fun r => ∀ c : Dev nD, r.2.mem ((c.tc : Thread nD τ).loc main_v0) = resultOf m c pt0) :=
  (θ_run defs _ _).mono (fun r h c => (h.1.written c (Finset.mem_singleton_self _)).trans
    (by simp only [G, Function.update_self])) (run_quiescent m ρ)

end Cert.KernelIdeal.Launch

end
-- ==== Proof.ReferenceFrame.lean ====
module

public import proofs.«01_k».proof.Proof.Gen.ReferenceIdeal.Run
public import Idealize.ShloMosaic.Lib.Claim

@[expose] public section

set_option maxRecDepth 16384

noncomputable section

namespace Cert.ReferenceIdeal.Launch

open Idealize.ShloMosaic Idealize.ShloMosaic.TcCoe Idealize.SL.Sem

variable {F : FTy → Type} [FloatOps F]
variable (m : (ℓ : Loc nD τ sig) → Buf (Elt F) ℓ) (ρ : Dev nD → PrngReg)

/-- Every run of the reference leaves its arguments unchanged, and every semaphore counter (it has none) at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27))
      ∧ r.2.sem = fun _ => 0) :=
  (θ_run defs _ _).mono (fun r h => ⟨fun c => (h c).2, sem_eq_zero_of_no_sems (by decide) r.2⟩) (Value.run m ρ)

end Cert.ReferenceIdeal.Launch

end
-- ==== Proof.LastIdealBody.lean ====
module

public import proofs.«01_k».proof.Proof.Gen.LastIdeal.Frame
public import proofs.«01_k».proof.Proof.Gen.LastIdeal.Skeleton
public import Idealize.ShloMosaic.Lib.Pipeline.FrameValue
public import Idealize.ShloMosaic.Lib.Claim
public import Idealize.ShloMosaic.Lib.VecWindow
public import Idealize.ShloMosaic.Lib.Pipeline.Value

@[expose] public section

set_option maxRecDepth 16384

noncomputable section

namespace Cert.LastIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The scratch operands: whole scoped buffers of the kernel's own, passed beside the windows. -/
abbrev scM0_0 : Memref sig .tc .vmem S5x256x2496 .f32 := Memref.whole cc0_scratch0
abbrev scM0_1 : Memref sig .tc .vmem S256x2496 .f32 := Memref.whole cc0_scratch2
abbrev scM0_2 : Memref sig .tc .vmem S256x2496 .f32 := Memref.whole cc0_scratch3
abbrev scM0_3 : Memref sig .tc .vmem S992x248 .f32 := Memref.whole cc0_scratch6
abbrev scM0_4 : Memref sig .tc .vmem S248x992 .f32 := Memref.whole cc0_scratch7
/-- The operands left in HBM that the body copies into scratch itself, whole. -/
abbrev hbM0_0 : Memref sig .tc .hbm S992x248 .f32 := Memref.whole main_arg3
abbrev hbM0_1 : Memref sig .tc .hbm S248x992 .f32 := Memref.whole main_arg4
abbrev hbM0_2 : Memref sig .tc .hbm S5x256x2496 .f32 := Memref.whole main_arg5
abbrev hbM0_3 : Memref sig .tc .hbm S1024x2496 .f32 := Memref.whole main_v1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 5 → SemLoc sig := fun j => (![SemLoc.dma 3, SemLoc.dma 4, SemLoc.dma 5, SemLoc.dma 6, SemLoc.dma 7] : Fin 5 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
  rw [Pipeline.ownSems0_eq_of_list c osem0 [0, 1, 2, 3, 4] (by decide) (by decide)]; rfl
/-- The HBM operands the body copies from and leaves unchanged, as references: unscoped, no window's array (`Pipeline.restRefs`). -/
def H0 : Finset (Ref sig .tc) := {main_arg3, main_arg4, main_arg5}
theorem H0_sub : H0 ⊆ Pipeline.restRefs sig spec0 := by decide
/-- The HBM operand the body writes: the result. -/
def R0 : Finset (Ref sig .tc) := {main_v1}
/-- It is unscoped, no window's array and none of the ones read. -/
theorem R0_sub : R0 ⊆ Pipeline.restRefs sig spec0 \ H0 := by decide
/-- The read operands' points-tos at the launch contents, listed. -/
theorem hbmPts0_eq (c : Dev nD) :
    (bigSep H0 (fun b => ((c : Thread nD τ).loc b) ↦{fullShare} V m c b) : sProp 𝕄) = iprop(hbPt0 c hbM0_0 (V m c main_arg3) ∗ hbPt0 c hbM0_1 (V m c main_arg4) ∗ hbPt0 c hbM0_2 (V m c main_arg5)) := by
  rw [BI.bigSep_eq_bigSepL_of_eq [main_arg3, main_arg4, main_arg5] (by decide) (by decide)]; rfl

/-! ## What the body writes -/

/-- The scaled adjacency of one graph, from the edge weights' three operands. -/
def adjOf (w : Vec F S992x1 .f32) (x : Vec F S992x248 .f32) (y : Vec F S248x992 .f32) : FVec F S32x32 .f32 :=
  k0_pay30 (k0_pay2 w x y) k0_pay3 (k0_pay4 w x y) (k0_pay5 w x y) (k0_pay6 w x y) (k0_pay7 w x y) (k0_pay8 w x y) (k0_pay12 k0_pay3 (k0_pay10 w x y) (k0_pay11 w x y)) (k0_pay13 (k0_pay2 w x y) k0_pay3) (k0_pay14 (k0_pay2 w x y) k0_pay3) (k0_pay15 (k0_pay2 w x y) k0_pay3) (k0_pay16 (k0_pay2 w x y) k0_pay3) (k0_pay17 (k0_pay2 w x y) k0_pay3) (k0_pay18 (k0_pay2 w x y) k0_pay3) (k0_pay19 (k0_pay2 w x y) k0_pay3) (k0_pay20 (k0_pay2 w x y) k0_pay3) (k0_pay21 (k0_pay2 w x y) k0_pay3) (k0_pay22 (k0_pay2 w x y) k0_pay3) (k0_pay23 (k0_pay2 w x y) k0_pay3) (k0_pay24 (k0_pay2 w x y) k0_pay3) (k0_pay25 (k0_pay2 w x y) k0_pay3) (k0_pay26 (k0_pay2 w x y) k0_pay3) (k0_pay28 (k0_pay2 w x y)) (k0_pay29 (k0_pay2 w x y))

/-- The inverse square roots of the degrees, as a column. -/
def dinvOf (w : Vec F S992x1 .f32) (x : Vec F S992x248 .f32) (y : Vec F S248x992 .f32) : FVec F S32x1 .f32 :=
  k0_pay31 (k0_pay2 w x y) k0_pay3 (k0_pay4 w x y) (k0_pay5 w x y) (k0_pay6 w x y) (k0_pay7 w x y) (k0_pay8 w x y) (k0_pay12 k0_pay3 (k0_pay10 w x y) (k0_pay11 w x y)) (k0_pay13 (k0_pay2 w x y) k0_pay3) (k0_pay14 (k0_pay2 w x y) k0_pay3) (k0_pay15 (k0_pay2 w x y) k0_pay3) (k0_pay16 (k0_pay2 w x y) k0_pay3) (k0_pay17 (k0_pay2 w x y) k0_pay3) (k0_pay18 (k0_pay2 w x y) k0_pay3) (k0_pay19 (k0_pay2 w x y) k0_pay3) (k0_pay20 (k0_pay2 w x y) k0_pay3) (k0_pay21 (k0_pay2 w x y) k0_pay3) (k0_pay22 (k0_pay2 w x y) k0_pay3) (k0_pay23 (k0_pay2 w x y) k0_pay3) (k0_pay24 (k0_pay2 w x y) k0_pay3) (k0_pay25 (k0_pay2 w x y) k0_pay3) (k0_pay26 (k0_pay2 w x y) k0_pay3) (k0_pay28 (k0_pay2 w x y)) (k0_pay29 (k0_pay2 w x y))

/-- The four output blocks, from the rows, the scaled adjacency, the degrees' column, the bias and the weights. -/
def outBlock (v0 : Vec F S1024x256 .f32) (v143 : FVec F S32x32 .f32) (v154 : FVec F S32x1 .f32) (b4 : Vec F S1x2496 .f32) (w4 : Vec F S5x256x2496 .f32) : Fin 4 → FVec F S256x2496 .f32 :=
  ![k0_pay38 (k0_pay33 v0) (k0_pay34 v0 v143 v154) (k0_pay35 v0 v143 v154) (k0_pay36 v0 v143 v154) (k0_pay37 v0 v143 v154) b4 (View.ld w4 (Rect.unit (s := S5x256x2496) ![0, 0, 0] S1x256x2496.size inb_S5x256x2496_S1x256x2496_0_0_0)) (View.ld w4 (Rect.unit (s := S5x256x2496) ![1, 0, 0] S1x256x2496.size inb_S5x256x2496_S1x256x2496_1_0_0)) (View.ld w4 (Rect.unit (s := S5x256x2496) ![2, 0, 0] S1x256x2496.size inb_S5x256x2496_S1x256x2496_2_0_0)) (View.ld w4 (Rect.unit (s := S5x256x2496) ![3, 0, 0] S1x256x2496.size inb_S5x256x2496_S1x256x2496_3_0_0)) (View.ld w4 (Rect.unit (s := S5x256x2496) ![4, 0, 0] S1x256x2496.size inb_S5x256x2496_S1x256x2496_4_0_0)),
    k0_pay39 (k0_pay33 v0) (k0_pay34 v0 v143 v154) (k0_pay35 v0 v143 v154) (k0_pay36 v0 v143 v154) (k0_pay37 v0 v143 v154) b4 (View.ld w4 (Rect.unit (s := S5x256x2496) ![0, 0, 0] S1x256x2496.size inb_S5x256x2496_S1x256x2496_0_0_0)) (View.ld w4 (Rect.unit (s := S5x256x2496) ![1, 0, 0] S1x256x2496.size inb_S5x256x2496_S1x256x2496_1_0_0)) (View.ld w4 (Rect.unit (s := S5x256x2496) ![2, 0, 0] S1x256x2496.size inb_S5x256x2496_S1x256x2496_2_0_0)) (View.ld w4 (Rect.unit (s := S5x256x2496) ![3, 0, 0] S1x256x2496.size inb_S5x256x2496_S1x256x2496_3_0_0)) (View.ld w4 (Rect.unit (s := S5x256x2496) ![4, 0, 0] S1x256x2496.size inb_S5x256x2496_S1x256x2496_4_0_0)),
    k0_pay40 (k0_pay33 v0) (k0_pay34 v0 v143 v154) (k0_pay35 v0 v143 v154) (k0_pay36 v0 v143 v154) (k0_pay37 v0 v143 v154) b4 (View.ld w4 (Rect.unit (s := S5x256x2496) ![0, 0, 0] S1x256x2496.size inb_S5x256x2496_S1x256x2496_0_0_0)) (View.ld w4 (Rect.unit (s := S5x256x2496) ![1, 0, 0] S1x256x2496.size inb_S5x256x2496_S1x256x2496_1_0_0)) (View.ld w4 (Rect.unit (s := S5x256x2496) ![2, 0, 0] S1x256x2496.size inb_S5x256x2496_S1x256x2496_2_0_0)) (View.ld w4 (Rect.unit (s := S5x256x2496) ![3, 0, 0] S1x256x2496.size inb_S5x256x2496_S1x256x2496_3_0_0)) (View.ld w4 (Rect.unit (s := S5x256x2496) ![4, 0, 0] S1x256x2496.size inb_S5x256x2496_S1x256x2496_4_0_0)),
    k0_pay1 (k0_pay41 (k0_pay33 v0) (k0_pay34 v0 v143 v154) (k0_pay35 v0 v143 v154) (k0_pay36 v0 v143 v154) (k0_pay37 v0 v143 v154) b4 (View.ld w4 (Rect.unit (s := S5x256x2496) ![0, 0, 0] S1x256x2496.size inb_S5x256x2496_S1x256x2496_0_0_0)) (View.ld w4 (Rect.unit (s := S5x256x2496) ![1, 0, 0] S1x256x2496.size inb_S5x256x2496_S1x256x2496_1_0_0)) (View.ld w4 (Rect.unit (s := S5x256x2496) ![2, 0, 0] S1x256x2496.size inb_S5x256x2496_S1x256x2496_2_0_0)) (View.ld w4 (Rect.unit (s := S5x256x2496) ![3, 0, 0] S1x256x2496.size inb_S5x256x2496_S1x256x2496_3_0_0)) (View.ld w4 (Rect.unit (s := S5x256x2496) ![4, 0, 0] S1x256x2496.size inb_S5x256x2496_S1x256x2496_4_0_0)))]

/-- What the body writes into the result: block `b` over rows `256 b` and on (the last written first). -/
def outPieces (v0 : Vec F S1024x256 .f32) (v143 : FVec F S32x32 .f32) (v154 : FVec F S32x1 .f32) (b4 : Vec F S1x2496 .f32) (w4 : Vec F S5x256x2496 .f32) : List (View.Piece (Elt F) S1024x2496 .f32) :=
  [⟨Rect.unit (s := S1024x2496) ![768, 0] S256x2496.size inb_S1024x2496_S256x2496_768_0, outBlock v0 v143 v154 b4 w4 3⟩,
   ⟨Rect.unit (s := S1024x2496) ![512, 0] S256x2496.size inb_S1024x2496_S256x2496_512_0, outBlock v0 v143 v154 b4 w4 2⟩,
   ⟨Rect.unit (s := S1024x2496) ![256, 0] S256x2496.size inb_S1024x2496_S256x2496_256_0, outBlock v0 v143 v154 b4 w4 1⟩,
   ⟨Rect.unit (s := S1024x2496) ![0, 0] S256x2496.size inb_S1024x2496_S256x2496_0_0, outBlock v0 v143 v154 b4 w4 0⟩]

/-- The pieces over the operands' contents. -/
def bodyPieces (x0 : Vec F S1024x256 .f32) (x1 : Vec F S992x1 .f32) (x2 : Vec F S1x2496 .f32) (a3 : Vec F S992x248 .f32) (a4 : Vec F S248x992 .f32) (a5 : Vec F S5x256x2496 .f32) : List (View.Piece (Elt F) S1024x2496 .f32) :=
  outPieces x0 (adjOf x1 a3 a4) (dinvOf x1 a3 a4) x2 a5

set_option maxHeartbeats 4000000 in
set_option sl_exec.dmaWindow true in
set_option sl_exec.dmaWindowLent true in
/-- The body on whole staging memrefs: everything it is given comes back as it was, the scratch at some contents, the result at
    its contents before with the four blocks written. -/
theorem body_run (c : Dev nD) (arg0 : Memref sig .tc .vmem S1024x256 .f32) (harg0 : arg0.IsWhole) (arg1 : Memref sig .tc .vmem S992x1 .f32) (harg1 : arg1.IsWhole) (arg5 : Memref sig .tc .vmem S1x2496 .f32) (harg5 : arg5.IsWhole) (arg7 : Memref sig .tc .vmem S5x256x2496 .f32) (harg7 : arg7.IsWhole) (arg9 : Memref sig .tc .vmem S256x2496 .f32) (harg9 : arg9.IsWhole) (arg10 : Memref sig .tc .vmem S256x2496 .f32) (harg10 : arg10.IsWhole) (arg13 : Memref sig .tc .vmem S992x248 .f32) (harg13 : arg13.IsWhole) (arg14 : Memref sig .tc .vmem S248x992 .f32) (harg14 : arg14.IsWhole)
    (x0 : Vec F S1024x256 .f32) (x1 : Vec F S992x1 .f32) (x2 : Vec F S1x2496 .f32) (fh0 : HbBuf0 (F := F) c hbM0_0) (fh1 : HbBuf0 (F := F) c hbM0_1) (fh2 : HbBuf0 (F := F) c hbM0_2) (fh3 : HbBuf0 (F := F) c hbM0_3) (W : Waits sig Unit) (K : PUnit → sProp 𝕄) :
        iprop(owns (c : Thread nD τ) arg0 fullShare x0 ∗ owns (c : Thread nD τ) arg1 fullShare x1 ∗ owns (c : Thread nD τ) arg5 fullShare x2 ∗ (∃ d, owns (c : Thread nD τ) arg7 fullShare d) ∗ (∃ d, owns (c : Thread nD τ) arg9 fullShare d) ∗ (∃ d, owns (c : Thread nD τ) arg10 fullShare d) ∗ (∃ d, owns (c : Thread nD τ) arg13 fullShare d) ∗ (∃ d, owns (c : Thread nD τ) arg14 fullShare d) ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg0 fullShare x0 ∗ owns (c : Thread nD τ) arg1 fullShare x1 ∗ owns (c : Thread nD τ) arg5 fullShare x2 ∗ (∃ d, owns (c : Thread nD τ) arg7 fullShare d) ∗ (∃ d, owns (c : Thread nD τ) arg9 fullShare d) ∗ (∃ d, owns (c : Thread nD τ) arg10 fullShare d) ∗ (∃ d, owns (c : Thread nD τ) arg13 fullShare d) ∗ (∃ d, owns (c : Thread nD τ) arg14 fullShare d) ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ hbPt0 c hbM0_0 fh0 ∗ hbPt0 c hbM0_1 fh1 ∗ hbPt0 c hbM0_2 fh2 ∗ hbPt0 c hbM0_3 (hbM0_3.view.writes (Elt F) fh3 (bodyPieces x0 x1 x2 fh0 fh1 fh2)) ∗ (∃ W', owes (c : Thread nD τ) 0 W')) -∗ K ⟨⟩))
          ⊢ wp frame (wpE (defs₀ (F := F)) Variants.none c none) Set.univ (cc0__last_layer_body arg0 harg0 arg1 harg1 (Memref.whole main_arg3) (Memref.isWhole_whole _) (Memref.whole main_arg4) (Memref.isWhole_whole _) (Memref.whole main_arg5) (Memref.isWhole_whole _) arg5 harg5 (Memref.whole main_v1) (Memref.isWhole_whole _) arg7 harg7 cc0_scratch1 arg9 harg9 arg10 harg10 cc0_scratch4 cc0_scratch5 arg13 harg13 arg14 harg14 cc0_scratch8 cc0_scratch9) K := by
    simp only [cc0__last_layer_body_eq_skeleton]; unfold cc0__last_layer_body_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hh0, Hh1, Hh2, Hh3, HW, Hk⟩
    obtain rfl := harg0.eq_unread hf0; obtain rfl := harg1.eq_unread hf1; obtain rfl := harg5.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg5.read_unread _
      iexact H2
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hh0]; · iexact Hh0
    isplitl [Hh1]; · iexact Hh1
    isplitl [Hh2]; · iexact Hh2
    isplitl [Hh3]
    · have hld : View.ld x2 (Rect.unit (s := S1x2496) ![0, 0] S1x2496.size inb_S1x2496_S1x2496_0_0) = x2 := View.ld_unit_zero (by decide) _ x2
      have hx0 : body_run.sl.r c arg0 harg0 x0 = x0 := by
        delta body_run.sl.r
        rw [View.readAt_eq_ld, harg0.read_unread]
        exact View.ld_unit_zero (by decide) _ x0
      have hx1 : View.readAt (Elt F) arg1.view (Rect.unit (s := S992x1) ![0, 0] S992x1.size inb_S992x1_S992x1_0_0).toLoadRect (harg1.unread x1) = x1 := by
        rw [View.readAt_eq_ld, harg1.read_unread]
        exact View.ld_unit_zero (by decide) _ x1
      have hx5 : View.readAt (Elt F) arg5.view (Rect.unit (s := S1x2496) ![0, 0] S1x2496.size inb_S1x2496_S1x2496_0_0).toLoadRect (harg5.unread x2) = x2 := by
        rw [View.readAt_eq_ld, harg5.read_unread]
        exact hld
      have h3 : body_run.sl.v3 c arg13 fh0 = fh0 := by
        delta body_run.sl.v3
        refine (congrArg (fun q => View.ld q _) (View.read_writes_whole _ _ _)).trans ?_
        exact View.ld_unit_zero (by decide) _ _
      have h13 : body_run.sl.v13 c arg14 fh1 = fh1 := by
        delta body_run.sl.v13
        refine (congrArg (fun q => View.ld q _) (View.read_writes_whole _ _ _)).trans ?_
        exact View.ld_unit_zero (by decide) _ _
      have hw0 : body_run.sl.v206 c arg7 fh2 = View.ld fh2 (Rect.unit (s := S5x256x2496) ![0, 0, 0] S1x256x2496.size inb_S5x256x2496_S1x256x2496_0_0_0) := by
        delta body_run.sl.v206
        exact congrArg (fun q => View.ld q _) (View.read_writes_whole _ _ _)
      have hw1 : body_run.sl.v212 c arg7 fh2 = View.ld fh2 (Rect.unit (s := S5x256x2496) ![1, 0, 0] S1x256x2496.size inb_S5x256x2496_S1x256x2496_1_0_0) := by
        delta body_run.sl.v212
        exact congrArg (fun q => View.ld q _) (View.read_writes_whole _ _ _)
      have hw2 : body_run.sl.v217 c arg7 fh2 = View.ld fh2 (Rect.unit (s := S5x256x2496) ![2, 0, 0] S1x256x2496.size inb_S5x256x2496_S1x256x2496_2_0_0) := by
        delta body_run.sl.v217
        exact congrArg (fun q => View.ld q _) (View.read_writes_whole _ _ _)
      have hw3 : body_run.sl.v222 c arg7 fh2 = View.ld fh2 (Rect.unit (s := S5x256x2496) ![3, 0, 0] S1x256x2496.size inb_S5x256x2496_S1x256x2496_3_0_0) := by
        delta body_run.sl.v222
        exact congrArg (fun q => View.ld q _) (View.read_writes_whole _ _ _)
      have hw4 : body_run.sl.v227 c arg7 fh2 = View.ld fh2 (Rect.unit (s := S5x256x2496) ![4, 0, 0] S1x256x2496.size inb_S5x256x2496_S1x256x2496_4_0_0) := by
        delta body_run.sl.v227
        exact congrArg (fun q => View.ld q _) (View.read_writes_whole _ _ _)
      have h26 : body_run.sl.r_26 c arg1 harg1 arg13 arg14 x1 fh0 fh1 = adjOf x1 fh0 fh1 := by
        delta body_run.sl.r_26
        delta body_run.sl.r_25 body_run.sl.r_24 body_run.sl.r_23 body_run.sl.r_22 body_run.sl.r_21 body_run.sl.r_20 body_run.sl.r_19 body_run.sl.r_18 body_run.sl.r_17 body_run.sl.r_16 body_run.sl.r_15 body_run.sl.r_14 body_run.sl.r_13 body_run.sl.r_12 body_run.sl.r_11 body_run.sl.r_10 body_run.sl.r_9 body_run.sl.r_8 body_run.sl.r_7 body_run.sl.r_6 body_run.sl.r_5 body_run.sl.r_4 body_run.sl.r_3 body_run.sl.r_2 body_run.sl.r_1
        simp only [hx1, h3, h13]
        rfl
      have h27 : body_run.sl.r_27 c arg1 harg1 arg13 arg14 x1 fh0 fh1 = dinvOf x1 fh0 fh1 := by
        delta body_run.sl.r_27
        delta body_run.sl.r_25 body_run.sl.r_24 body_run.sl.r_23 body_run.sl.r_22 body_run.sl.r_21 body_run.sl.r_20 body_run.sl.r_19 body_run.sl.r_18 body_run.sl.r_17 body_run.sl.r_16 body_run.sl.r_15 body_run.sl.r_14 body_run.sl.r_13 body_run.sl.r_12 body_run.sl.r_11 body_run.sl.r_10 body_run.sl.r_9 body_run.sl.r_8 body_run.sl.r_7 body_run.sl.r_6 body_run.sl.r_5 body_run.sl.r_4 body_run.sl.r_3 body_run.sl.r_2 body_run.sl.r_1
        simp only [hx1, h3, h13]
        rfl
      have e0 : body_run.sl.dma12 c arg0 harg0 arg1 harg1 arg5 harg5 arg7 arg9 arg13 arg14 x0 x1 x2 fh0 fh1 fh2 fs1 = outBlock x0 (adjOf x1 fh0 fh1) (dinvOf x1 fh0 fh1) x2 fh2 0 := by
        refine (View.read_writes_full arg9.view fs1 inb_S256x2496_S256x2496_0_0 _ _).trans ?_
        skip
        delta body_run.sl.r_28 body_run.sl.r_29 body_run.sl.r_30 body_run.sl.r_31 body_run.sl.r_32
        simp only [hx0, hx5, h26, h27, hw0, hw1, hw2, hw3, hw4]
        rfl
      have e1 : body_run.sl.dma20 c arg0 harg0 arg1 harg1 arg5 harg5 arg7 arg10 arg13 arg14 x0 x1 x2 fh0 fh1 fh2 fs2 = outBlock x0 (adjOf x1 fh0 fh1) (dinvOf x1 fh0 fh1) x2 fh2 1 := by
        refine (View.read_writes_full arg10.view fs2 inb_S256x2496_S256x2496_0_0 _ _).trans ?_
        skip
        delta body_run.sl.r_28 body_run.sl.r_29 body_run.sl.r_30 body_run.sl.r_31 body_run.sl.r_32
        simp only [hx0, hx5, h26, h27, hw0, hw1, hw2, hw3, hw4]
        rfl
      have e2 : body_run.sl.dma28 c arg0 harg0 arg1 harg1 arg5 harg5 arg7 arg9 arg13 arg14 x0 x1 x2 fh0 fh1 fh2 fs1 = outBlock x0 (adjOf x1 fh0 fh1) (dinvOf x1 fh0 fh1) x2 fh2 2 := by
        refine (View.read_writes_full arg9.view fs1 inb_S256x2496_S256x2496_0_0 _ _).trans ?_
        skip
        delta body_run.sl.r_28 body_run.sl.r_29 body_run.sl.r_30 body_run.sl.r_31 body_run.sl.r_32
        simp only [hx0, hx5, h26, h27, hw0, hw1, hw2, hw3, hw4]
        rfl
      have e3 : body_run.sl.dma36 c arg0 harg0 arg1 harg1 arg5 harg5 arg7 arg10 arg13 arg14 x0 x1 x2 fh0 fh1 fh2 fs2 = outBlock x0 (adjOf x1 fh0 fh1) (dinvOf x1 fh0 fh1) x2 fh2 3 := by
        refine (View.read_writes_full arg10.view fs2 inb_S256x2496_S256x2496_0_0 _ _).trans ?_
        delta body_run.sl.r_33
        delta body_run.sl.r_28 body_run.sl.r_29 body_run.sl.r_30 body_run.sl.r_31 body_run.sl.r_32
        simp only [hx0, hx5, h26, h27, hw0, hw1, hw2, hw3, hw4]
        rfl
      have hL : bodyPieces x0 x1 x2 fh0 fh1 fh2 = [⟨Rect.unit (s := S1024x2496) ![768, 0] S256x2496.size inb_S1024x2496_S256x2496_768_0, body_run.sl.dma36 c arg0 harg0 arg1 harg1 arg5 harg5 arg7 arg10 arg13 arg14 x0 x1 x2 fh0 fh1 fh2 fs2⟩, ⟨Rect.unit (s := S1024x2496) ![512, 0] S256x2496.size inb_S1024x2496_S256x2496_512_0, body_run.sl.dma28 c arg0 harg0 arg1 harg1 arg5 harg5 arg7 arg9 arg13 arg14 x0 x1 x2 fh0 fh1 fh2 fs1⟩, ⟨Rect.unit (s := S1024x2496) ![256, 0] S256x2496.size inb_S1024x2496_S256x2496_256_0, body_run.sl.dma20 c arg0 harg0 arg1 harg1 arg5 harg5 arg7 arg10 arg13 arg14 x0 x1 x2 fh0 fh1 fh2 fs2⟩, ⟨Rect.unit (s := S1024x2496) ![0, 0] S256x2496.size inb_S1024x2496_S256x2496_0_0, body_run.sl.dma12 c arg0 harg0 arg1 harg1 arg5 harg5 arg7 arg9 arg13 arg14 x0 x1 x2 fh0 fh1 fh2 fs1⟩] := by
        rw [e0, e1, e2, e3]; rfl
      rw [hL]
      iexact Hh3
    iexists _; iexact HW

end Cert.LastIdeal.Launch

end
-- ==== Proof.LastIdealFrame.lean ====
module

public import proofs.«01_k».proof.Proof.LastIdealBody
public import Idealize.ShloMosaic.Lib.Pipeline.FrameValue
public import Idealize.ShloMosaic.Lib.Claim
public import Idealize.ShloMosaic.Lib.VecWindow
public import Idealize.ShloMosaic.Lib.Pipeline.Value

@[expose] public section

set_option maxRecDepth 16384

noncomputable section

namespace Cert.LastIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1024x256 .f32 := win0_0.stage (cfg0.slots t 0)
abbrev hs0_0 (t : Fin cfg0.N) : (ms0_0 t).IsWhole := hstage0_0 0
abbrev ms0_1 (t : Fin cfg0.N) : Memref sig .tc .vmem S992x1 .f32 := win0_1.stage (cfg0.slots t 1)
abbrev hs0_1 (t : Fin cfg0.N) : (ms0_1 t).IsWhole := hstage0_1 0
abbrev ms0_2 (t : Fin cfg0.N) : Memref sig .tc .vmem S1x2496 .f32 := win0_2.stage (cfg0.slots t 2)
abbrev hs0_2 (t : Fin cfg0.N) : (ms0_2 t).IsWhole := hstage0_2 0

/-! ## The pipeline's proof data -/

/-- What the result holds when the body is done: its contents before, the four blocks written. -/
def resultOf (c : Dev nD) (t : Fin cfg0.N) : HbBuf0 (F := F) c hbM0_3 :=
  hbM0_3.view.writes (Elt F) (V m c main_v1) (bodyPieces (iblk m c 0 t) (iblk m c 1 t) (iblk m c 2 t) (V m c main_arg3) (V m c main_arg4) (V m c main_arg5))

/-- The only grid point. -/
abbrev pt0 : Fin cfg0.N := ⟨0, by decide⟩

/-- The region's buffers after the body. -/
def G (c : Dev nD) (b : Ref sig .tc) : Buf (Elt F) ((c : Thread nD τ).loc b) :=
  Function.update (V m c) main_v1 (resultOf m c pt0) b

/-- The proof data of the one pipeline on core `c`: the arrays as the region finds them, every window's block left in place; the
    invariant holds the result at its contents before the body, then at `G`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Pipeline.ΦDRG osem0 spec0 H0 R0 (V m) (if t = 0 then V m else G m) c
  q _ := fullShare
  owed _ := 0

theorem A_eq (c : Dev nD) (w : Fin cfg0.W) : (dats m 0 c).A w = V m c (Pipeline.arrRef spec0 w) := by
  dsimp only [dats]

/-- No window is an output, none is ever idle or cut. -/
theorem win_in (w : Fin cfg0.W) : (cfg0.win w).isOut = false := by revert w; decide

set_option maxHeartbeats 2000000 in
/-- The body leaves every window's block as it was fetched. -/
theorem cut_after (c : Dev nD) (w : Fin cfg0.W) (t : Fin cfg0.N) :
    (cfg0.win w).cut (cfg0.grid.coords t) ((dats m 0 c).after w t) = (dats m 0 c).blockOf w t := by
  unfold Dat.blockOf; rw [A_eq]; fin_cases w <;> (dsimp only [dats]; unfold iblk; try rfl)

/-- Every window's staging buffer holds its block when the body is called. -/
theorem before_eq (c : Dev nD) (w : Fin cfg0.W) (t : Fin cfg0.N) (d) (hlive : ∀ i, cfg0.idle w i = false)
    (hclip : ∀ t t' : Fin cfg0.N, (cfg0.win w).index t = (cfg0.win w).index t' →
      (cfg0.win w).clip (cfg0.grid.coords t) = (cfg0.win w).clip (cfg0.grid.coords t')) :
    (dats m 0 c).before w t d = (dats m 0 c).fetched w t d :=
  (dats m 0 c).before_in_eq_fetched w (win_in w) hlive hclip (cut_after m c w) t d

/-- The written operand's points-to, listed. -/
theorem routed0_eq (c : Dev nD) (X : (b : Ref sig .tc) → Buf (Elt F) ((c.tc : Thread nD τ).loc b)) :
    (Pipeline.routed R0 c X : sProp 𝕄) = hbPt0 c hbM0_3 (X main_v1) := by
  unfold Pipeline.routed; rw [BI.bigSep_eq_bigSepL_of_eq [main_v1] (by decide) (by decide)]; rfl

/-- The invariant, conjunct by conjunct. -/
theorem Phi_eq (c : Dev nD) (X : (c : Dev nD) → (b : Ref sig .tc) → Buf (Elt F) ((c.tc : Thread nD τ).loc b)) :
    (Pipeline.ΦDRG osem0 spec0 H0 R0 (V m) X c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) ∗ iprop(hbPt0 c hbM0_0 (V m c main_arg3) ∗ hbPt0 c hbM0_1 (V m c main_arg4) ∗ hbPt0 c hbM0_2 (V m c main_arg5)) ∗ hbPt0 c hbM0_3 (X c main_v1)) := by
  rw [Pipeline.ΦDRG_eq, scopedRest0_eq, ownSems00_eq, hbmPts0_eq, routed0_eq]; simp only [scM0_0, scM0_1, scM0_2, scM0_3, scM0_4, owns_whole]; try rfl

/-! ## The body obligation -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t))

set_option maxHeartbeats 2000000 in
/-- The body at its point: the windows hold their blocks, so the run applies. -/
theorem sound_body (c : Dev nD) (t : Fin cfg0.N) :
    bodyPre m c t ⊢ wp frame (wpE (defs₀ (F := F)) Variants.none c none) Set.univ (bodyAt0 t) (fun _ => bodyPost m c t) := by
  obtain rfl : t = pt0 := by revert t; decide
  generalize hQ : (fun _ : PUnit => bodyPost m c pt0) = Q
  have hG : G m c main_v1 = resultOf m c pt0 := by simp only [G, Function.update_self]
  unfold bodyPre bodyAt0
  simp only [show ∀ d, (dats m 0 c).before 0 pt0 d = iblk m c 0 pt0 from fun d => (before_eq m c 0 pt0 d (fun _ => rfl) (fun _ _ _ => rfl)).trans (by unfold Dat.fetched Dat.blockOf iblk; rw [A_eq]; try rfl), show ∀ d, (dats m 0 c).before 1 pt0 d = iblk m c 1 pt0 from fun d => (before_eq m c 1 pt0 d (fun _ => rfl) (fun _ _ _ => rfl)).trans (by unfold Dat.fetched Dat.blockOf iblk; rw [A_eq]; try rfl), show ∀ d, (dats m 0 c).before 2 pt0 d = iblk m c 2 pt0 from fun d => (before_eq m c 2 pt0 d (fun _ => rfl) (fun _ _ _ => rfl)).trans (by unfold Dat.fetched Dat.blockOf iblk; rw [A_eq]; try rfl)]
  rw [show (dats m 0 c).Φ (pt0.castSucc) = Pipeline.ΦDRG osem0 spec0 H0 R0 (V m) (V m) c from by dsimp only [dats]; rw [if_pos (by decide)], Phi_eq]
  unfold Dat.owesAt Pipeline.owesWithin
  rw [show (dats m 0 c).owed pt0.castSucc = 0 from rfl]
  iintro ⟨⟨⟨HS0, HS1, HS2, HS3, HS4⟩, Hg, ⟨Hq0, Hq1, Hq2, Hq3, Hq4⟩, ⟨Hh0, Hh1, Hh2⟩, Hh3⟩, ⟨%W, -, HW⟩, ⟨%d0, H0⟩, ⟨%d1, H1⟩, ⟨%d2, H2⟩⟩
  iapply (body_run c (ms0_0 pt0) (hs0_0 pt0) (ms0_1 pt0) (hs0_1 pt0) (ms0_2 pt0) (hs0_2 pt0) scM0_0 (Memref.isWhole_whole _) scM0_1 (Memref.isWhole_whole _) scM0_2 (Memref.isWhole_whole _) scM0_3 (Memref.isWhole_whole _) scM0_4 (Memref.isWhole_whole _) (iblk m c 0 pt0) (iblk m c 1 pt0) (iblk m c 2 pt0) (V m c main_arg3) (V m c main_arg4) (V m c main_arg5) (V m c main_v1) W Q)
  isplitl [H0]; · iexact H0
  isplitl [H1]; · iexact H1
  isplitl [H2]; · iexact H2
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [Hh2]; · iexact Hh2
  isplitl [Hh3]; · iexact Hh3
  isplitl [HW]; · iexact HW
  iintro ⟨H0, H1, H2, HS0, HS1, HS2, HS3, HS4, Hq0, Hq1, Hq2, Hq3, Hq4, Hh0, Hh1, Hh2, Hh3, ⟨%W', HW'⟩⟩
  subst hQ
  unfold bodyPost
  rw [show (dats m 0 c).after 0 pt0 = iblk m c 0 pt0 from by dsimp only [dats], show (dats m 0 c).after 1 pt0 = iblk m c 1 pt0 from by dsimp only [dats], show (dats m 0 c).after 2 pt0 = iblk m c 2 pt0 from by dsimp only [dats]]
  rw [show (dats m 0 c).Φ (pt0.succ) = Pipeline.ΦDRG osem0 spec0 H0 R0 (V m) (G m) c from by dsimp only [dats]; rw [if_neg (by decide)], Phi_eq, hG]
  unfold Dat.owesAt Pipeline.owesWithin
  rw [show (dats m 0 c).owed pt0.succ = 0 from rfl]
  isplitl [HS0 HS1 HS2 HS3 HS4 Hg Hq0 Hq1 Hq2 Hq3 Hq4 Hh0 Hh1 Hh2 Hh3]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]
    · iexact Hg
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    isplitl [Hh0 Hh1 Hh2]
    · isplitl [Hh0]; · iexact Hh0
      isplitl [Hh1]; · iexact Hh1
      iexact Hh2
    unfold resultOf
    iexact Hh3
  isplitl [HW']
  · iexists W'; isplitr; · ipureintro; exact fun _ _ => Or.inl trivial
    iexact HW'
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 800000 in
/-- The host prefix, at the algebra of a body with transfers of its own. -/
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 1600000 in
set_option backward.isDefEq.respectTransparency.types false in
/-- The launch: every run ends with the arrays as the pipeline leaves them, the result at `G`, every semaphore counter at zero. -/
theorem run_quiescent : θ_run defs (onTc (τ := τ) (main (F := F))) (s₀ m ρ)
    (fun r => (Pipeline.FramePostRG cfgs (dats m) 0 R0 (V m) (G m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain' m Variants.none) (hA := A_eq m) (G := G m)
    (hin := fun c => by dsimp only [dats]; rw [if_pos rfl])
    (hout := fun c => by dsimp only [dats]; rw [if_neg (by decide)])

set_option maxHeartbeats 1680000 in
/-- The argument arrays end unchanged, and every semaphore counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    have hR : Pipeline.FramePostR cfgs (dats m) 0 R0 (V m) r := h.1.toR
    have rest (b : Ref sig .tc) (h1) (h2 : b ∉ R0) {x} (hv : V m c b = x) : r.2.mem ((c.tc : Thread nD τ).loc b) = x :=
      ((hR c).2 b (Finset.mem_sdiff.mpr ⟨h1, h2⟩)).trans hv
    ⟨((hR c).1 0).trans (((dats m 0 c).arrAt_in 0 rfl _).trans (V_main_arg0 m c)),
      rest main_arg1 (Pipeline.mem_restRefs_of main_arg1 (by decide) (by decide)) (by decide) (V_main_arg1 m c),
      ((hR c).1 1).trans (((dats m 0 c).arrAt_in 1 rfl _).trans (V_main_arg2 m c)),
      rest main_arg3 (Pipeline.mem_restRefs_of main_arg3 (by decide) (by decide)) (by decide) (V_main_arg3 m c),
      rest main_arg4 (Pipeline.mem_restRefs_of main_arg4 (by decide) (by decide)) (by decide) (V_main_arg4 m c),
      rest main_arg5 (Pipeline.mem_restRefs_of main_arg5 (by decide) (by decide)) (by decide) (V_main_arg5 m c),
      rest main_arg6 (Pipeline.mem_restRefs_of main_arg6 (by decide) (by decide)) (by decide) (V_main_arg6 m c)⟩, h.2⟩) (run_quiescent m ρ)

/-- What the result holds at the end. -/
theorem value_run : θ_run defs (onTc (τ := τ) (main (F := F))) ⟨m, fun _ => 0, ρ⟩
    (fun r => ∀ c : Dev nD, r.2.mem ((c.tc : Thread nD τ).loc main_v1) = resultOf m c pt0) :=
  (θ_run defs _ _).mono (fun r h c => (h.1.written c (Finset.mem_singleton_self _)).trans
    (by simp only [G, Function.update_self])) (run_quiescent m ρ)

end Cert.LastIdeal.Launch

end
-- ==== Proof.LastReferenceFrame.lean ====
module

public import proofs.«01_k».proof.Proof.Gen.LastReferenceIdeal.Run
public import Idealize.ShloMosaic.Lib.Claim

@[expose] public section

set_option maxRecDepth 16384

noncomputable section

namespace Cert.LastReferenceIdeal.Launch

open Idealize.ShloMosaic Idealize.ShloMosaic.TcCoe Idealize.SL.Sem

variable {F : FTy → Type} [FloatOps F]
variable (m : (ℓ : Loc nD τ sig) → Buf (Elt F) ℓ) (ρ : Dev nD → PrngReg)

/-- Every run of the reference leaves its arguments unchanged, and every semaphore counter (it has none) at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, sem_eq_zero_of_no_sems (by decide) r.2⟩) (Value.run m ρ)

end Cert.LastReferenceIdeal.Launch

end
-- ==== Proof.Chebyshev.lean ====
/- The mathematics the two programs share: a graph of 32 components with 32 nodes each, every ordered pair of different nodes of a
   component an edge, the same weights in every component. The edge-by-edge Laplacian acts on each component as one 32 x 32 matrix,
   and the Chebyshev recursion on vectors is the recursion on that matrix. -/
module

public import Mathlib.Data.EReal.Operations
public import Mathlib.Algebra.BigOperators.Fin
public import Mathlib.Data.Matrix.Mul
public import Mathlib.Analysis.SpecialFunctions.Pow.Real

@[expose] public section

noncomputable section

namespace Cert.Cheb

open Matrix

/-! ## Real numbers among the extended ones -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_coe_mul {ι : Type} [Fintype ι] (f g : ι → ℝ) : ∑ i, (f i : EReal) * (g i : EReal) = ((∑ i, f i * g i : ℝ) : EReal) := by
  rw [coe_sum]; exact Finset.sum_congr rfl fun i _ => (EReal.coe_mul _ _).symm

theorem sum_coe {ι : Type} [Fintype ι] (f : ι → ℝ) : ∑ i, (f i : EReal) = ((∑ i, f i : ℝ) : EReal) := (coe_sum _ _).symm

/-! ## Indices split -/

/-- A sum over `m * n` indices, by rows of `n`. -/
theorem sum_split {M : Type} [AddCommMonoid M] {N : ℕ} (m n : ℕ) (h : m * n = N) (f : Fin N → M) :
    ∑ e : Fin N, f e = ∑ a : Fin m, ∑ b : Fin n, f ⟨n * a.val + b.val, by
      have := a.isLt; have := b.isLt; have : n * a.val + n ≤ n * m := by rw [← Nat.mul_succ]; exact Nat.mul_le_mul_left _ a.isLt
      rw [← h, Nat.mul_comm m n]; omega⟩ := by
  subst h
  rw [← Fintype.sum_prod_type', ← finProdFinEquiv.sum_comp f]
  refine Finset.sum_congr rfl fun x _ => congrArg f (Fin.ext ?_)
  simp [finProdFinEquiv, Nat.add_comm]

/-- Node `s` of component `g`. -/
def node (g s : Fin 32) : Fin 1024 := ⟨32 * g.val + s.val, by omega⟩

/-- The edge leaving node `i` of component `g` for its `r`-th other node. -/
def edge (g i : Fin 32) (r : Fin 31) : Fin 31744 := ⟨992 * g.val + (31 * i.val + r.val), by omega⟩

/-- The node an edge leaves, and the one it enters. -/
def src (e : Fin 31744) : ℕ := 32 * (e.val / 992) + e.val % 992 / 31
def dst (e : Fin 31744) : ℕ := 32 * (e.val / 992) + e.val % 31 + if e.val % 992 / 31 ≤ e.val % 31 then 1 else 0

theorem edge_div (g i : Fin 32) (r : Fin 31) : (edge g i r).val / 992 = g.val := by simp only [edge]; omega
theorem edge_mod (g i : Fin 32) (r : Fin 31) : (edge g i r).val % 992 = 31 * i.val + r.val := by simp only [edge]; omega
theorem edge_mod31 (g i : Fin 32) (r : Fin 31) : (edge g i r).val % 31 = r.val := by simp only [edge]; omega

theorem src_edge (g i : Fin 32) (r : Fin 31) : src (edge g i r) = 32 * g.val + i.val := by
  rw [src, edge_div, edge_mod]; omega

theorem succAbove_val (i : Fin 32) (r : Fin 31) : (i.succAbove r).val = r.val + if i.val ≤ r.val then 1 else 0 := by
  by_cases h : r.val < i.val
  · rw [Fin.succAbove_of_castSucc_lt _ _ (by simpa [Fin.lt_def] using h), if_neg (by omega)]; simp
  · rw [Fin.succAbove_of_le_castSucc _ _ (by simpa [Fin.le_def] using h), if_pos (by omega)]; simp

theorem dst_edge (g i : Fin 32) (r : Fin 31) : dst (edge g i r) = 32 * g.val + (i.succAbove r).val := by
  rw [dst, edge_div, edge_mod, edge_mod31, succAbove_val, show (31 * i.val + r.val) / 31 = i.val by omega]; omega

theorem sum_edges {M : Type} [AddCommMonoid M] (f : Fin 31744 → M) : ∑ e, f e = ∑ g, ∑ i, ∑ r, f (edge g i r) := by
  rw [sum_split 32 992 (by norm_num) f]
  refine Finset.sum_congr rfl fun g _ => ?_
  rw [sum_split 32 31 (by norm_num)]
  rfl

theorem sum_nodes {M : Type} [AddCommMonoid M] (f : Fin 1024 → M) : ∑ n, f n = ∑ g, ∑ s, f (node g s) :=
  sum_split 32 32 (by norm_num) f

theorem node_eq (g s g' i : Fin 32) : (node g s).val = 32 * g'.val + i.val ↔ g = g' ∧ s = i := by
  simp only [node, Fin.ext_iff]; omega

theorem exists_node (n : Fin 1024) : ∃ g s, n = node g s :=
  ⟨⟨n.val / 32, by omega⟩, ⟨n.val % 32, by omega⟩, Fin.ext (by simp only [node]; omega)⟩

/-! ## The weights as a matrix -/

/-- Entry (i, j) of the weights laid out by rows of 31, with a zero put in on the diagonal. -/
def weightAt {α : Type} [Zero α] (w : Fin 992 → α) (i j : Fin 32) : α :=
  if h : j.val < i.val then w ⟨31 * i.val + j.val, by omega⟩
  else if h' : j.val = i.val then 0 else w ⟨31 * i.val + (j.val - 1), by omega⟩

theorem weightAt_coe (w : Fin 992 → ℝ) (i j : Fin 32) : weightAt (fun q => (w q : EReal)) i j = ((weightAt w i j : ℝ) : EReal) := by
  unfold weightAt; split_ifs <;> simp

theorem weightAt_self (w : Fin 992 → ℝ) (i : Fin 32) : weightAt w i i = 0 := by
  rw [weightAt, dif_neg (by omega), dif_pos rfl]

theorem weightAt_succAbove (w : Fin 992 → ℝ) (i : Fin 32) (r : Fin 31) :
    weightAt w i (i.succAbove r) = w ⟨31 * i.val + r.val, by omega⟩ := by
  have hv := succAbove_val i r
  by_cases h : i.val ≤ r.val
  · rw [if_pos h] at hv
    rw [weightAt, dif_neg (by omega), dif_neg (by omega)]
    exact congrArg w (Fin.ext (by simp only [hv]; omega))
  · rw [if_neg h] at hv
    rw [weightAt, dif_pos (by omega)]
    exact congrArg w (Fin.ext (by simp only [hv]; omega))

/-- A sum over a node's edges, as one over the nodes. -/
theorem sum_row (w : Fin 992 → ℝ) (i : Fin 32) (f : Fin 32 → ℝ) :
    ∑ r : Fin 31, f (i.succAbove r) * w ⟨31 * i.val + r.val, by omega⟩ = ∑ j, f j * weightAt w i j := by
  rw [Fin.sum_univ_succAbove _ i, weightAt_self, mul_zero, zero_add]
  exact Finset.sum_congr rfl fun r _ => by rw [weightAt_succAbove]

/-- A node's degree, and its inverse square root (zero for a node without weight). -/
def deg (w : Fin 992 → ℝ) (i : Fin 32) : ℝ := ∑ j, weightAt w i j
def dinv (w : Fin 992 → ℝ) (i : Fin 32) : ℝ := if 0 < deg w i then (Real.sqrt (deg w i))⁻¹ else 0

/-- The scaled Laplacian's off-diagonal part within one component. -/
def adj (w : Fin 992 → ℝ) : Matrix (Fin 32) (Fin 32) ℝ := fun d s => -(dinv w d * weightAt w s d * dinv w s)

/-! ## The Laplacian summed over the edges -/

def fromN (e : Fin 31744) (n : Fin 1024) : ℝ := if n.val = src e then 1 else 0
def toN (e : Fin 31744) (n : Fin 1024) : ℝ := if n.val = dst e then 1 else 0
/-- An edge's weight. -/
def wE (w : Fin 992 → ℝ) (e : Fin 31744) : ℝ := w ⟨e.val % 992, by omega⟩

theorem fromN_edge (g i : Fin 32) (r : Fin 31) (g' s : Fin 32) : fromN (edge g i r) (node g' s) = if g' = g ∧ s = i then 1 else 0 := by
  rw [fromN, src_edge]; simp only [node_eq]
theorem toN_edge (g i : Fin 32) (r : Fin 31) (g' s : Fin 32) : toN (edge g i r) (node g' s) = if g' = g ∧ s = i.succAbove r then 1 else 0 := by
  rw [toN, dst_edge]; simp only [node_eq]
theorem wE_edge (w : Fin 992 → ℝ) (g i : Fin 32) (r : Fin 31) : wE w (edge g i r) = w ⟨31 * i.val + r.val, by omega⟩ :=
  congrArg w (Fin.ext (edge_mod g i r))

/-- Only a node's own edges leave it. -/
theorem sum_from (f : Fin 31744 → ℝ) (g s : Fin 32) : ∑ e, f e * fromN e (node g s) = ∑ r, f (edge g s r) := by
  rw [sum_edges, Finset.sum_eq_single g, Finset.sum_eq_single s]
  · exact Finset.sum_congr rfl fun r _ => by rw [fromN_edge, if_pos ⟨rfl, rfl⟩, mul_one]
  · intro i _ hi; exact Finset.sum_eq_zero fun r _ => by rw [fromN_edge, if_neg fun h => hi h.2.symm, mul_zero]
  · intro h; exact absurd (Finset.mem_univ _) h
  · intro g' _ hg; exact Finset.sum_eq_zero fun i _ => Finset.sum_eq_zero fun r _ => by rw [fromN_edge, if_neg fun h => hg h.1.symm, mul_zero]
  · intro h; exact absurd (Finset.mem_univ _) h

theorem sum_ind_node (f : Fin 1024 → ℝ) (g s : Fin 32) (c : Fin 1024 → ℝ) (hc : ∀ g' s', c (node g' s') = if g' = g ∧ s' = s then 1 else 0) :
    ∑ n, c n * f n = f (node g s) := by
  rw [sum_nodes, Finset.sum_eq_single g, Finset.sum_eq_single s]
  · rw [hc, if_pos ⟨rfl, rfl⟩, one_mul]
  · intro i _ hi; rw [hc, if_neg fun h => hi h.2, zero_mul]
  · intro h; exact absurd (Finset.mem_univ _) h
  · intro g' _ hg; exact Finset.sum_eq_zero fun i _ => by rw [hc, if_neg fun h => hg h.1, zero_mul]
  · intro h; exact absurd (Finset.mem_univ _) h

def degN (w : Fin 992 → ℝ) (n : Fin 1024) : ℝ := ∑ e, wE w e * fromN e n
def dinvN (w : Fin 992 → ℝ) (n : Fin 1024) : ℝ := if 0 < degN w n then (Real.sqrt (degN w n))⁻¹ else 0
def normE (w : Fin 992 → ℝ) (e : Fin 31744) : ℝ := -((∑ n, fromN e n * dinvN w n) * wE w e * ∑ n, toN e n * dinvN w n)
def lap (w : Fin 992 → ℝ) (n n' : Fin 1024) : ℝ := ∑ e, (toN e n * normE w e) * fromN e n'

theorem degN_node (w : Fin 992 → ℝ) (g s : Fin 32) : degN w (node g s) = deg w s := by
  rw [degN, sum_from]
  have h := sum_row w s fun _ => 1
  simp only [one_mul] at h
  rw [deg, ← h]
  exact Finset.sum_congr rfl fun r _ => wE_edge w g s r

theorem dinvN_node (w : Fin 992 → ℝ) (g s : Fin 32) : dinvN w (node g s) = dinv w s := by
  rw [dinvN, dinv, degN_node]

theorem normE_edge (w : Fin 992 → ℝ) (g i : Fin 32) (r : Fin 31) :
    normE w (edge g i r) = -(dinv w i * w ⟨31 * i.val + r.val, by omega⟩ * dinv w (i.succAbove r)) := by
  rw [normE, sum_ind_node _ g i _ (fromN_edge g i r), sum_ind_node _ g (i.succAbove r) _ (toN_edge g i r), wE_edge, dinvN_node, dinvN_node]

theorem lap_node (w : Fin 992 → ℝ) (g d g' s : Fin 32) : lap w (node g d) (node g' s) = if g = g' then adj w d s else 0 := by
  rw [lap, sum_from]
  by_cases hg : g = g'
  · subst hg
    rw [if_pos rfl]
    have h := sum_row w s fun j => (if d = j then (1 : ℝ) else 0) * -(dinv w s * dinv w j)
    have h' : ∑ j, (if d = j then (1 : ℝ) else 0) * -(dinv w s * dinv w j) * weightAt w s j = adj w d s := by
      rw [Finset.sum_eq_single d]
      · rw [if_pos rfl, adj]; ring
      · intro j _ hj; rw [if_neg fun e => hj e.symm, zero_mul, zero_mul]
      · intro h; exact absurd (Finset.mem_univ _) h
    rw [← h', ← h]
    refine Finset.sum_congr rfl fun r _ => ?_
    rw [toN_edge, normE_edge]
    by_cases hd : d = s.succAbove r
    · rw [if_pos ⟨rfl, hd⟩, if_pos hd]; ring
    · rw [if_neg fun h => hd h.2, if_neg hd]; ring
  · rw [if_neg hg]
    exact Finset.sum_eq_zero fun r _ => by rw [toN_edge, if_neg fun h => hg h.1, zero_mul]

/-- The Laplacian acts within each component. -/
theorem lap_mul (w : Fin 992 → ℝ) (x : Fin 1024 → ℝ) (g d : Fin 32) :
    ∑ n, lap w (node g d) n * x n = (adj w *ᵥ fun s => x (node g s)) d := by
  simp only [mulVec, dotProduct]
  rw [sum_nodes, Finset.sum_eq_single g]
  · exact Finset.sum_congr rfl fun s _ => by rw [lap_node, if_pos rfl]
  · intro g' _ hg; exact Finset.sum_eq_zero fun s _ => by rw [lap_node, if_neg fun h => hg h.symm, zero_mul]
  · intro h; exact absurd (Finset.mem_univ _) h

/-! ## The recursion -/

/-- The Chebyshev matrices. -/
def cheb (A : Matrix (Fin 32) (Fin 32) ℝ) : Fin 5 → Matrix (Fin 32) (Fin 32) ℝ :=
  ![1, A, 2 • (A * A) - 1, 2 • (A * (2 • (A * A) - 1)) - A, 2 • (A * (2 • (A * (2 • (A * A) - 1)) - A)) - (2 • (A * A) - 1)]

theorem cheb_step (A T S : Matrix (Fin 32) (Fin 32) ℝ) (v : Fin 32 → ℝ) (d : Fin 32) :
    ((2 • (A * T) - S) *ᵥ v) d = 2 * (A *ᵥ (T *ᵥ v)) d - (S *ᵥ v) d := by
  rw [sub_mulVec, smul_mulVec, ← mulVec_mulVec]; simp

/-- The propagated rows: the recursion on vectors over all the nodes. -/
def prop1 (w : Fin 992 → ℝ) (x : Fin 1024 → ℝ) (n : Fin 1024) : ℝ := ∑ n', lap w n n' * x n'
def prop2 (w : Fin 992 → ℝ) (x : Fin 1024 → ℝ) (n : Fin 1024) : ℝ := 2 * ∑ n', lap w n n' * prop1 w x n' - x n
def prop3 (w : Fin 992 → ℝ) (x : Fin 1024 → ℝ) (n : Fin 1024) : ℝ := 2 * ∑ n', lap w n n' * prop2 w x n' - prop1 w x n
def prop4 (w : Fin 992 → ℝ) (x : Fin 1024 → ℝ) (n : Fin 1024) : ℝ := 2 * ∑ n', lap w n n' * prop3 w x n' - prop2 w x n

variable (w : Fin 992 → ℝ) (x : Fin 1024 → ℝ) (g d : Fin 32)

theorem prop1_node : prop1 w x (node g d) = (cheb (adj w) 1 *ᵥ fun s => x (node g s)) d := lap_mul w x g d
theorem prop2_node : prop2 w x (node g d) = (cheb (adj w) 2 *ᵥ fun s => x (node g s)) d := by
  rw [prop2, lap_mul, funext fun s => prop1_node w x g s]
  exact ((cheb_step (adj w) (adj w) 1 _ d).trans (by rw [one_mulVec]; rfl)).symm
theorem prop3_node : prop3 w x (node g d) = (cheb (adj w) 3 *ᵥ fun s => x (node g s)) d := by
  rw [prop3, lap_mul, funext fun s => prop2_node w x g s, prop1_node]
  exact (cheb_step (adj w) _ (adj w) _ d).symm
theorem prop4_node : prop4 w x (node g d) = (cheb (adj w) 4 *ᵥ fun s => x (node g s)) d := by
  rw [prop4, lap_mul, funext fun s => prop3_node w x g s, prop2_node]
  exact (cheb_step (adj w) _ _ _ d).symm

end Cert.Cheb

end
-- ==== Proof.LastAdjacency.lean ====
/- The slice's kernel: the weights laid out as a matrix row by row, the degrees' inverse square roots, read at an index. -/
module

public import proofs.«01_k».proof.Proof.LastIdealBody
public import proofs.«01_k».proof.Proof.Chebyshev
public import Idealize.ShloMosaic.Lib.Pipeline.ValueKit
public import Idealize.ShloMosaic.Lib.Pipeline.Value
public import Idealize.ShloMosaic.Lib.MatmulPlain
public import Idealize.ShloMosaic.Lib.StackMember
public import Idealize.ShloMosaic.Lib.Pointwise

@[expose] public section

set_option maxRecDepth 16384

noncomputable section

namespace Cert.LastIdeal.Value

open Idealize.ShloMosaic Cert.LastIdeal Cert.LastIdeal.Gen Cert.LastIdeal.Launch Cert.Cheb

/-! ## One row of the weights' matrix -/

variable (v : S1x992.Idx → EReal) (z : S1x1.Idx → EReal)

/-- A row with the zero inside: the pieces before and after it. -/
theorem row_mid {a b o : ℕ} (i : Fin 32) (ha : a = i.val) (ho : o = 31 * a) (hz : ∀ j, z j = 0)
    (hs : S1x992.Slices ![0, o] S1x31) (h1 : S1x31.Slices ![0, 0] ⟨2, ![1, a]⟩) (h2 : S1x31.Slices ![0, a] ⟨2, ![1, b]⟩)
    (h : Shape.Concatenates [(⟨2, ![1, a]⟩ : Shape), S1x1, ⟨2, ![1, b]⟩] S1x32 1) (j : Fin 32) :
    concatenate S1x32 1 [⟨⟨2, ![1, a]⟩, extractStridedSlice ⟨2, ![1, a]⟩ ![0, 0] (extractStridedSlice S1x31 ![0, o] v hs) h1⟩, ⟨S1x1, z⟩,
        ⟨⟨2, ![1, b]⟩, extractStridedSlice ⟨2, ![1, b]⟩ ![0, a] (extractStridedSlice S1x31 ![0, o] v hs) h2⟩] h (ix2 0 j)
      = weightAt (fun q => v (ix2 0 q)) i j := by
  have hN : a + (1 + b) = 32 := by have := h.2.2; simpa using this
  subst ho
  by_cases hlo : j.val < i.val
  · rw [weightAt, dif_pos hlo]
    refine (concatenate_apply_piece (t := S1x32) 1 [⟨⟨2, ![1, a]⟩, _⟩, ⟨S1x1, z⟩, ⟨⟨2, ![1, b]⟩, _⟩] h (ix2 0 j) 0 (by simp) ⟨2, ![1, a]⟩ _ rfl rfl 0 (by simp) (ix2 0 ⟨j.val, by omega⟩) ?_ (by show 0 + j.val = j.val; omega)).trans ?_
    · intro c hc; fin_cases c
      · rfl
      · exact absurd rfl hc
    · refine (extractStridedSlice_apply _ _ h1 _ (ix2 0 ⟨j.val, by omega⟩) fun c => ?_).trans ((extractStridedSlice_apply _ _ hs _ (ix2 0 ⟨31 * i.val + j.val, by omega⟩) fun c => ?_))
      · fin_cases c <;> simp
      · fin_cases c <;> simp [ha]
  by_cases hd : j.val = i.val
  · rw [weightAt, dif_neg hlo, dif_pos hd]
    refine (concatenate_apply_piece (t := S1x32) 1 [⟨⟨2, ![1, a]⟩, _⟩, ⟨S1x1, z⟩, ⟨⟨2, ![1, b]⟩, _⟩] h (ix2 0 j) 1 (by simp) S1x1 z rfl rfl a (by simp) (ix2 0 0) ?_ (by show a + 0 = j.val; omega)).trans (hz _)
    · intro c hc; fin_cases c
      · rfl
      · exact absurd rfl hc
  · rw [weightAt, dif_neg hlo, dif_neg hd]
    refine (concatenate_apply_piece (t := S1x32) 1 [⟨⟨2, ![1, a]⟩, _⟩, ⟨S1x1, z⟩, ⟨⟨2, ![1, b]⟩, _⟩] h (ix2 0 j) 2 (by simp) ⟨2, ![1, b]⟩ _ rfl rfl (a + 1) (by simp) (ix2 0 ⟨j.val - (a + 1), by omega⟩) ?_ (by show a + 1 + (j.val - (a + 1)) = j.val; omega)).trans ?_
    · intro c hc; fin_cases c
      · rfl
      · exact absurd rfl hc
    · refine (extractStridedSlice_apply _ _ h2 _ (ix2 0 ⟨j.val - 1, by omega⟩) fun c => ?_).trans ((extractStridedSlice_apply _ _ hs _ (ix2 0 ⟨31 * i.val + (j.val - 1), by omega⟩) fun c => ?_))
      · fin_cases c
        · rfl
        · show j.val - 1 = a + (j.val - (a + 1)); omega
      · fin_cases c
        · rfl
        · show 31 * i.val + (j.val - 1) = 31 * a + (j.val - 1); omega

/-- The first row: the zero, then the weights. -/
theorem row_first (hz : ∀ j, z j = 0) (hs : S1x992.Slices ![0, 0] S1x31)
    (h : Shape.Concatenates [S1x1, S1x31] S1x32 1) (j : Fin 32) :
    concatenate S1x32 1 [⟨S1x1, z⟩, ⟨S1x31, extractStridedSlice S1x31 ![0, 0] v hs⟩] h (ix2 0 j) = weightAt (fun q => v (ix2 0 q)) 0 j := by
  by_cases hd : j.val = (0 : Fin 32).val
  · rw [weightAt, dif_neg (by simp), dif_pos hd]
    refine (concatenate_apply_piece (t := S1x32) 1 [⟨S1x1, z⟩, ⟨S1x31, _⟩] h (ix2 0 j) 0 (by simp) S1x1 z rfl rfl 0 (by simp) (ix2 0 0) ?_ (by show 0 + 0 = j.val; rw [hd]; rfl)).trans (hz _)
    · intro c hc; fin_cases c
      · rfl
      · exact absurd rfl hc
  · rw [weightAt, dif_neg (by simp), dif_neg hd]
    refine (concatenate_apply_piece (t := S1x32) 1 [⟨S1x1, z⟩, ⟨S1x31, _⟩] h (ix2 0 j) 1 (by simp) S1x31 _ rfl rfl 1 (by simp) (ix2 0 ⟨j.val - 1, by omega⟩) ?_ (by have : ¬ j.val = 0 := hd; show 1 + (j.val - 1) = j.val; omega)).trans ?_
    · intro c hc; fin_cases c
      · rfl
      · exact absurd rfl hc
    · refine (extractStridedSlice_apply _ _ hs _ (ix2 0 ⟨31 * (0 : Fin 32).val + (j.val - 1), by simp; omega⟩) fun c => ?_)
      fin_cases c
      · rfl
      · show 31 * 0 + (j.val - 1) = 0 + (j.val - 1); omega

/-- The last row: the weights, then the zero. -/
theorem row_last (hz : ∀ j, z j = 0) (hs : S1x992.Slices ![0, 961] S1x31)
    (h : Shape.Concatenates [S1x31, S1x1] S1x32 1) (j : Fin 32) :
    concatenate S1x32 1 [⟨S1x31, extractStridedSlice S1x31 ![0, 961] v hs⟩, ⟨S1x1, z⟩] h (ix2 0 j) = weightAt (fun q => v (ix2 0 q)) 31 j := by
  by_cases hlo : j.val < (31 : Fin 32).val
  · rw [weightAt, dif_pos hlo]
    refine (concatenate_apply_piece (t := S1x32) 1 [⟨S1x31, _⟩, ⟨S1x1, z⟩] h (ix2 0 j) 0 (by simp) S1x31 _ rfl rfl 0 (by simp) (ix2 0 ⟨j.val, hlo⟩) ?_ (by show 0 + j.val = j.val; omega)).trans ?_
    · intro c hc; fin_cases c
      · rfl
      · exact absurd rfl hc
    · refine (extractStridedSlice_apply _ _ hs _ (ix2 0 ⟨31 * (31 : Fin 32).val + j.val, by have : j.val < 31 := hlo; show 31 * 31 + j.val < 992; omega⟩) fun c => ?_)
      fin_cases c <;> rfl
  · rw [weightAt, dif_neg hlo, dif_pos (by have : ¬ j.val < 31 := hlo; show j.val = 31; omega)]
    refine (concatenate_apply_piece (t := S1x32) 1 [⟨S1x31, _⟩, ⟨S1x1, z⟩] h (ix2 0 j) 1 (by simp) S1x1 z rfl rfl 31 (by simp) (ix2 0 0) ?_ (by have : ¬ j.val < 31 := hlo; show 31 + 0 = j.val; omega)).trans (hz _)
    · intro c hc; fin_cases c
      · rfl
      · exact absurd rfl hc

/-! ## The matrix -/

variable (w : Vec Ideal S992x1 .f32) (x : Vec Ideal S992x248 .f32) (y : Vec Ideal S248x992 .f32)

/-- The edges' weights. -/
abbrev wts (q : Fin 992) : EReal := k0_pay2 w x y (ix2 0 q)

theorem pay3_zero (j : S1x1.Idx) : k0_pay3 (F := Ideal) j = 0 := Ideal.ofBits_zero_f32

/-- Rows one under the other: row `i` is the list's entry `i`. -/
theorem stack_row (xs : List ((s : Shape) × (s.Idx → EReal))) (h : Shape.Concatenates (xs.map (·.1)) S32x32 0) (i j : Fin 32)
    (hs : xs.map (·.1) = List.replicate 32 S1x32) (r : S1x32.Idx → EReal) (hr : xs[i.val]? = some ⟨S1x32, r⟩) :
    concatenate S32x32 0 xs h (ix2 i j) = r (ix2 0 j) := by
  obtain ⟨hlt, hr⟩ := List.getElem?_eq_some_iff.1 hr
  refine concatenate_apply_piece (t := S32x32) 0 xs h (ix2 i j) i.val hlt S1x32 r hr rfl i.val ?_ (ix2 0 j) ?_ rfl
  · rw [List.map_take, hs, List.take_replicate, List.map_replicate, List.sum_replicate, Nat.min_eq_left (Nat.le_of_lt i.isLt)]
    show i.val * 1 = i.val; omega
  · intro b hb; fin_cases b
    · exact absurd rfl hb
    · rfl

theorem adjOf_apply (i j : Fin 32) : adjOf w x y (ix2 i j) = weightAt (wts w x y) i j := by
  unfold adjOf k0_pay30 k0_pay12 k0_pay10 k0_pay11 k0_pay9 k0_pay28 k0_pay29 k0_pay27
  fin_cases i
  · refine (stack_row _ _ _ j rfl _ rfl).trans ?_
    refine row_first _ _ pay3_zero ?_ ?_ j <;> decide
  on_goal -1 =>
    refine (stack_row _ _ _ j rfl _ rfl).trans ?_
    refine row_last _ _ pay3_zero ?_ ?_ j <;> decide
  all_goals
    refine (stack_row _ _ _ j rfl _ rfl).trans ?_
    refine row_mid _ _ _ ?_ ?_ pay3_zero ?_ ?_ ?_ ?_ j <;> first | rfl | decide

end Cert.LastIdeal.Value

end
-- ==== Proof.LastDegrees.lean ====
/- The slice's kernel: the edges' weights as real numbers, and the degrees' inverse square roots. -/
module

public import proofs.«01_k».proof.Proof.LastAdjacency

@[expose] public section

set_option maxRecDepth 16384

noncomputable section

namespace Cert.LastIdeal.Value

open Idealize.ShloMosaic Cert.LastIdeal Cert.LastIdeal.Gen Cert.LastIdeal.Launch Cert.Cheb

variable (w : Vec Ideal S992x1 .f32) (x : Vec Ideal S992x248 .f32) (y : Vec Ideal S248x992 .f32)

/-- The exponential linear unit. -/
def elu (z : EReal) : EReal := if 0 < z then z else Ideal.exp z - 1

/-- The edges' weights in closed form. -/
def wtsOf (q : Fin 992) : EReal :=
  max (Ideal.tanh (∑ c : Fin 248, elu (∑ a : Fin 992, w (ix2 a 0) * x (ix2 a c)) * y (ix2 c q))) 0

theorem wts_eq (q : Fin 992) : wts w x y q = wtsOf w x y q := by
  unfold wts k0_pay2
  pointwise
  unfold wtsOf
  refine congrArg (fun z => max (Ideal.tanh z) 0) (Finset.sum_congr rfl fun c _ => congrArg (· * y (ix2 c q)) ?_)
  unfold elu
  split_ifs with h
  · rfl
  · rw [min_eq_left (not_lt.1 h)]

/-- The weights are real: a hyperbolic tangent lies between -1 and 1. -/
theorem max_tanh_real (z : EReal) : max (Ideal.tanh z) 0 = (((max (Ideal.tanh z) 0).toReal : ℝ) : EReal) := by
  have h : ∃ r : ℝ, Ideal.tanh z = (r : EReal) := by
    induction z with
    | bot => exact ⟨-1, by simp⟩
    | top => exact ⟨1, by simp⟩
    | coe r => exact ⟨Real.tanh r, rfl⟩
  obtain ⟨r, hr⟩ := h
  rw [hr]
  rcases le_total ((r : ℝ) : EReal) 0 with h | h
  · rw [max_eq_right h]; rfl
  · rw [max_eq_left h]; rfl

/-- The weights as real numbers. -/
def wR (q : Fin 992) : ℝ := (wtsOf w x y q).toReal

theorem wtsOf_real (q : Fin 992) : wtsOf w x y q = ((wR w x y q : ℝ) : EReal) := max_tanh_real _

theorem adjOf_real (i j : Fin 32) : adjOf w x y (ix2 i j) = ((weightAt (wR w x y) i j : ℝ) : EReal) := by
  rw [adjOf_apply, ← weightAt_coe]
  exact congrArg (fun f => weightAt f i j) (funext fun q => (wts_eq w x y q).trans (wtsOf_real w x y q))

/-- The inverse square root of a real degree, guarded. -/
theorem rsqrt_guard (D : ℝ) : (if (0 : EReal) < (D : EReal) then Ideal.rsqrt (if (0 : EReal) < (D : EReal) then (D : EReal) else 1) else 0)
    = (((if 0 < D then (Real.sqrt D)⁻¹ else 0 : ℝ)) : EReal) := by
  have e : ((0 : EReal) < (D : EReal)) ↔ 0 < D := EReal.coe_pos
  by_cases h : 0 < D
  · rw [if_pos (e.2 h), if_pos (e.2 h), if_pos h, Ideal.rsqrt_coe, if_neg (not_lt.2 h.le), if_neg h.ne']
  · rw [if_neg (fun h' => h (e.1 h')), if_neg h, EReal.coe_zero]

theorem dinvOf_real (i : Fin 32) : dinvOf w x y (ix2 i 0) = ((dinv (wR w x y) i : ℝ) : EReal) := by
  unfold dinvOf k0_pay31
  pointwise
  have h : ∑ j : Fin 32, adjOf w x y (ix2 i j) = ((deg (wR w x y) i : ℝ) : EReal) := by
    simp only [adjOf_real]; exact sum_coe _
  unfold adjOf at h
  rw [h]
  exact rsqrt_guard _

end Cert.LastIdeal.Value

end
-- ==== Proof.LastRows.lean ====
/- The slice's kernel: the propagated rows and the output blocks, read at an index. -/
module

public import proofs.«01_k».proof.Proof.LastIdealBody
public import proofs.«01_k».proof.Proof.Chebyshev
public import Idealize.ShloMosaic.Lib.Pipeline.ValueKit
public import Idealize.ShloMosaic.Lib.Pipeline.Value
public import Idealize.ShloMosaic.Lib.MatmulPlain
public import Idealize.ShloMosaic.Lib.StackMember
public import Idealize.ShloMosaic.Lib.Pointwise

@[expose] public section

set_option maxRecDepth 16384

noncomputable section

namespace Cert.LastIdeal.Value

open Matrix Idealize.ShloMosaic Cert.LastIdeal Cert.LastIdeal.Gen Cert.LastIdeal.Launch Cert.Cheb

variable (v0 : Vec Ideal S1024x256 .f32) (v143 : FVec Ideal S32x32 .f32) (v154 : FVec Ideal S32x1 .f32)

theorem node_mod (g d : Fin 32) : (node g d).val % 32 = d.val := by simp only [node]; omega
theorem node_div (g d : Fin 32) : (node g d).val / 32 = g.val := by simp only [node]; omega
theorem col_div (g : Fin 32) (c : Fin 256) : (g.val * 256 + c.val) / 256 = g.val := by omega

theorem two_f32 : Ideal.ofBits .f32 0x40000000#32 = ((2 : ℝ) : EReal) := by
  simp [Ideal.ofBits, Ideal.ieee]
  rw [← EReal.coe_mul]
  norm_num

/-- The identity matrix, written as a comparison of row and column numbers. -/
theorem identity_entry (i j : Fin 32) : Scalar.select (IntOp.cmpi CmpIPredicate.eq (BitVec.ofNat 32 i.val) (BitVec.ofNat 32 j.val)) (1 : EReal) 0
    = (((1 : Matrix (Fin 32) (Fin 32) ℝ) i j : ℝ) : EReal) := by
  have hi := i.isLt
  have hj := j.isLt
  by_cases h : i = j
  · subst h; simp [Scalar.select, IntOp.cmpi]
  · have hne : ¬ BitVec.ofNat 32 i.val = BitVec.ofNat 32 j.val := fun e => h (Fin.ext (by
      have := congrArg BitVec.toNat e
      simp only [BitVec.toNat_ofNat] at this; omega))
    simp [Scalar.select, IntOp.cmpi, beq_eq_false_iff_ne.mpr hne, Matrix.one_apply_ne h]

theorem cheb_one (A : Matrix (Fin 32) (Fin 32) ℝ) : cheb A 1 = A := rfl
theorem cheb_two (A : Matrix (Fin 32) (Fin 32) ℝ) : cheb A 2 = 2 • (A * A) - 1 := rfl
theorem cheb_three (A : Matrix (Fin 32) (Fin 32) ℝ) : cheb A 3 = 2 • (A * cheb A 2) - A := rfl
theorem cheb_four (A : Matrix (Fin 32) (Fin 32) ℝ) : cheb A 4 = 2 • (A * cheb A 3) - cheb A 2 := rfl

/-- The scaled adjacency over real entries. -/
def adjR (dv : Fin 32 → ℝ) (wm : Fin 32 → Fin 32 → ℝ) : Matrix (Fin 32) (Fin 32) ℝ := fun d s => -(dv d * wm s d * dv s)

variable (x : Fin 1024 → Fin 256 → ℝ) (dv : Fin 32 → ℝ) (wm : Fin 32 → Fin 32 → ℝ)
  (hx : ∀ n c, v0 (ix2 n c) = ((x n c : ℝ) : EReal)) (hD : ∀ i, v154 (ix2 i 0) = ((dv i : ℝ) : EReal))
  (hW : ∀ i j, v143 (ix2 i j) = ((wm i j : ℝ) : EReal)) (g d : Fin 32) (c : Fin 256)

include hD hW in
theorem neg_entry (d s : Fin 32) : 0 - v154 (ix2 d 0) * v143 (ix2 s d) * v154 (ix2 s 0) = ((adjR dv wm d s : ℝ) : EReal) := by
  rw [hD, hD, hW, ← EReal.coe_mul, ← EReal.coe_mul, zero_sub, ← EReal.coe_neg]; rfl

include hx in
theorem entry (s g : Fin 32) (h : s.val * 32 + g.val < 1024) : v0 (ix2 ⟨s.val * 32 + g.val, h⟩ c) = ((x (node s g) c : ℝ) : EReal) := by
  rw [← hx]; exact congrArg (fun n => v0 (ix2 n c)) (Fin.ext (by simp only [node]; omega))

/-! ## The propagated rows -/

theorem pay33_apply : k0_pay33 v0 (ix2 (node g d) c) = v0 (ix2 (node d g) c) := by
  unfold k0_pay33
  pointwise
  exact congrArg (fun n => v0 (ix2 n c)) (Fin.ext (by simp only [node]; omega))

include hx hD hW

theorem pay34_apply : k0_pay34 v0 v143 v154 (ix2 (node g d) c) = (((cheb (adjR dv wm) 1 *ᵥ fun s => x (node s g) c) d : ℝ) : EReal) := by
  unfold k0_pay34 k0_pay32
  pointwise
  simp only [node_mod, node_div, Fin.isLt, dif_pos, Fin.eta, col_div, neg_entry v143 v154 dv wm hD hW, identity_entry, two_f32, entry v0 x hx,
    sum_coe_mul, ← EReal.coe_mul, ← EReal.coe_sub, sum_coe]
  exact congrArg Real.toEReal (by simp only [cheb_one, cheb_two, cheb_three, cheb_four, mulVec, dotProduct, mul_apply, Matrix.sub_apply, Matrix.smul_apply]
    <;> simp only [nsmul_eq_mul, Nat.cast_ofNat])

theorem pay35_apply : k0_pay35 v0 v143 v154 (ix2 (node g d) c) = (((cheb (adjR dv wm) 2 *ᵥ fun s => x (node s g) c) d : ℝ) : EReal) := by
  unfold k0_pay35 k0_pay32
  pointwise
  simp only [node_mod, node_div, Fin.isLt, dif_pos, Fin.eta, col_div, neg_entry v143 v154 dv wm hD hW, identity_entry, two_f32, entry v0 x hx,
    sum_coe_mul, ← EReal.coe_mul, ← EReal.coe_sub, sum_coe]
  exact congrArg Real.toEReal (by simp only [cheb_one, cheb_two, cheb_three, cheb_four, mulVec, dotProduct, mul_apply, Matrix.sub_apply, Matrix.smul_apply]
    <;> simp only [nsmul_eq_mul, Nat.cast_ofNat])

theorem pay36_apply : k0_pay36 v0 v143 v154 (ix2 (node g d) c) = (((cheb (adjR dv wm) 3 *ᵥ fun s => x (node s g) c) d : ℝ) : EReal) := by
  unfold k0_pay36 k0_pay32
  pointwise
  have h0 : 64 + d.val - 32 - 32 = d.val := by omega
  have h1 : ¬ 64 + d.val < 32 := by omega
  have h2 : ¬ 64 + d.val - 32 < 32 := by omega
  simp only [node_mod, node_div, h0, h1, h2, reduceDIte, Fin.isLt, dif_pos, Fin.eta, col_div, neg_entry v143 v154 dv wm hD hW, identity_entry, two_f32, entry v0 x hx,
    sum_coe_mul, ← EReal.coe_mul, ← EReal.coe_sub, sum_coe]
  exact congrArg Real.toEReal (by simp only [cheb_one, cheb_two, cheb_three, cheb_four, mulVec, dotProduct, mul_apply, Matrix.sub_apply, Matrix.smul_apply]
    <;> simp only [nsmul_eq_mul, Nat.cast_ofNat])

theorem pay37_apply : k0_pay37 v0 v143 v154 (ix2 (node g d) c) = (((cheb (adjR dv wm) 4 *ᵥ fun s => x (node s g) c) d : ℝ) : EReal) := by
  unfold k0_pay37 k0_pay32
  pointwise
  have h0 : 96 + d.val - 32 - 32 - 32 = d.val := by omega
  have h1 : ¬ 96 + d.val < 32 := by omega
  have h2 : ¬ 96 + d.val - 32 < 32 := by omega
  have h3 : ¬ 96 + d.val - 32 - 32 < 32 := by omega
  simp only [node_mod, node_div, h0, h1, h2, h3, reduceDIte, Fin.isLt, dif_pos, Fin.eta, col_div, neg_entry v143 v154 dv wm hD hW, identity_entry, two_f32, entry v0 x hx,
    sum_coe_mul, ← EReal.coe_mul, ← EReal.coe_sub, sum_coe]
  exact congrArg Real.toEReal (by simp only [cheb_one, cheb_two, cheb_three, cheb_four, mulVec, dotProduct, mul_apply, Matrix.sub_apply, Matrix.smul_apply]
    <;> simp only [nsmul_eq_mul, Nat.cast_ofNat])

/-! ## The output blocks -/

omit hx hD hW in
/-- Block `b` at row `r`: the bias and the five products' row. -/
theorem outBlock_apply (b4 : Vec Ideal S1x2496 .f32) (w4 : Vec Ideal S5x256x2496 .f32) (b : Fin 4) (r : Fin 256) (f : Fin 2496) (n : Fin 1024)
    (hn : n.val = 256 * b.val + r.val) :
    outBlock v0 v143 v154 b4 w4 b (ix2 r f) = b4 (ix2 0 f) + ∑ c, k0_pay33 v0 (ix2 n c) * w4 (ix3 0 c f)
      + ∑ c, k0_pay34 v0 v143 v154 (ix2 n c) * w4 (ix3 1 c f) + ∑ c, k0_pay35 v0 v143 v154 (ix2 n c) * w4 (ix3 2 c f)
      + ∑ c, k0_pay36 v0 v143 v154 (ix2 n c) * w4 (ix3 3 c f) + ∑ c, k0_pay37 v0 v143 v154 (ix2 n c) * w4 (ix3 4 c f) := by
  unfold outBlock
  generalize k0_pay33 v0 = p0
  generalize k0_pay34 v0 v143 v154 = p1
  generalize k0_pay35 v0 v143 v154 = p2
  generalize k0_pay36 v0 v143 v154 = p3
  generalize k0_pay37 v0 v143 v154 = p4
  rw [show n = ⟨256 * b.val + r.val, hn ▸ n.isLt⟩ from Fin.ext hn]
  fin_cases b
  · show k0_pay38 _ _ _ _ _ _ _ _ _ _ _ (ix2 r f) = _
    unfold k0_pay38
    pointwise
  · show k0_pay39 _ _ _ _ _ _ _ _ _ _ _ (ix2 r f) = _
    unfold k0_pay39
    pointwise
  · show k0_pay40 _ _ _ _ _ _ _ _ _ _ _ (ix2 r f) = _
    unfold k0_pay40
    pointwise
  · show k0_pay1 (k0_pay41 _ _ _ _ _ _ _ _ _ _ _) (ix2 r f) = _
    unfold k0_pay1 k0_pay41
    pointwise

end Cert.LastIdeal.Value

end
-- ==== Proof.LastResult.lean ====
/- The slice's kernel: its result at a node, from its arguments. -/
module

public import proofs.«01_k».proof.Proof.LastIdealFrame
public import proofs.«01_k».proof.Proof.LastDegrees
public import proofs.«01_k».proof.Proof.LastRows
public import Idealize.ShloMosaic.Lib.WritesUnit

@[expose] public section

set_option maxRecDepth 16384

noncomputable section

namespace Cert.LastIdeal.Value

open Matrix Idealize.ShloMosaic Idealize.ShloMosaic.TcCoe Cert.LastIdeal Cert.LastIdeal.Gen Cert.LastIdeal.Launch Cert.Cheb

variable (v0 : Vec Ideal S1024x256 .f32) (v143 : FVec Ideal S32x32 .f32) (v154 : FVec Ideal S32x1 .f32)
  (b4 : Vec Ideal S1x2496 .f32) (w4 : Vec Ideal S5x256x2496 .f32)

/-- Four blocks of 256 rows written over a buffer: row `256 b + r` reads block `b` at row `r`. -/
theorem blocks_read {κ : Kind} {sp : Space} (v : View sig κ sp S1024x2496 .f32) (A : v.ty.Contents (Elt Ideal))
    (w : Fin 4 → FVec Ideal S256x2496 .f32) (b : Fin 4) (r : Fin 256) (f : Fin 2496) (n : Fin 1024) (hn : n.val = 256 * b.val + r.val) :
    v.read (Elt Ideal) (v.writes (Elt Ideal) A
      [⟨Rect.unit (s := S1024x2496) ![768, 0] S256x2496.size inb_S1024x2496_S256x2496_768_0, w 3⟩,
       ⟨Rect.unit (s := S1024x2496) ![512, 0] S256x2496.size inb_S1024x2496_S256x2496_512_0, w 2⟩,
       ⟨Rect.unit (s := S1024x2496) ![256, 0] S256x2496.size inb_S1024x2496_S256x2496_256_0, w 1⟩,
       ⟨Rect.unit (s := S1024x2496) ![0, 0] S256x2496.size inb_S1024x2496_S256x2496_0_0, w 0⟩]) (ix2 n f) = w b (ix2 r f) := by
  have hr := r.isLt
  have skip (o : ℕ) (h : n.val < o) (inb) (u) (L : List (View.Piece (Elt Ideal) S1024x2496 .f32)) :=
    View.read_writes_cons_rows_of_not_mem (d := S1024x2496.size) (o := o) (W := 256) (off := ![o, 0]) (size := S256x2496.size)
      v A inb u L (ix2 n f) rfl rfl (Or.inl h)
  have take (o : ℕ) (h : n.val = o + r.val) (inb) (u) (L : List (View.Piece (Elt Ideal) S1024x2496 .f32)) :=
    View.read_writes_cons_rows_of_mem (d := S1024x2496.size) (o := o) (off := ![o, 0]) (size := S256x2496.size)
      v A inb u L (ix2 n f) (ix2 r f) rfl h rfl
  match b, hn with
  | 3, hn => exact take 768 hn _ _ _
  | 2, hn =>
    have hn : n.val = 512 + r.val := hn
    exact (skip 768 (by omega) _ _ _).trans (take 512 hn _ _ _)
  | 1, hn =>
    have hn : n.val = 256 + r.val := hn
    exact (skip 768 (by omega) _ _ _).trans ((skip 512 (by omega) _ _ _).trans (take 256 hn _ _ _))
  | 0, hn =>
    have hn : n.val = 0 + r.val := hn
    exact (skip 768 (by omega) _ _ _).trans ((skip 512 (by omega) _ _ _).trans ((skip 256 (by omega) _ _ _).trans (take 0 hn _ _ _)))

/-- A row of the result lies in the block that holds it. -/
theorem out_read (A : Vec Ideal S1024x2496 .f32) (b : Fin 4) (r : Fin 256) (f : Fin 2496) (n : Fin 1024) (hn : n.val = 256 * b.val + r.val) :
    (Memref.whole main_v1).view.writes (Elt Ideal) A (outPieces v0 v143 v154 b4 w4) (ix2 n f)
      = outBlock v0 v143 v154 b4 w4 b (ix2 r f) := by
  have hread : ∀ B : (Memref.whole main_v1).view.ty.Contents (Elt Ideal), (Memref.whole main_v1).view.read (Elt Ideal) B = B := fun _ => rfl
  unfold outPieces
  generalize outBlock v0 v143 v154 b4 w4 = w
  have key := blocks_read (Memref.whole main_v1).view A w b r f n hn
  rw [hread] at key
  exact key

variable (m : (ℓ : Loc nD τ sig) → Buf (Elt Ideal) ℓ) (c : Dev nD)

theorem block0 : iblk m c 0 pt0 = m ((c : Thread nD τ).loc main_arg0) := by
  blk_ext! [iblk, V]
  · exact (congrArg (· + _) (Nat.zero_mul _)).trans (Nat.zero_add _)
  · exact (congrArg (· + _) (Nat.zero_mul _)).trans (Nat.zero_add _)

theorem block1 : iblk m c 1 pt0 = m ((c : Thread nD τ).loc main_arg2) := by
  blk_ext! [iblk, V]
  · exact (congrArg (· + _) (Nat.zero_mul _)).trans (Nat.zero_add _)
  · rfl

theorem block2 (f : Fin 2496) : (iblk m c 2 pt0 (ix2 0 f) : EReal) = m ((c : Thread nD τ).loc main_arg6) (ix1 f) := by
  blk_ext! [iblk, V]
  exact (congrArg (· + _) (Nat.zero_mul _)).trans (Nat.zero_add _)

/-- What the slice returns at slot `d` of graph `g`: the bias and, order by order, the propagated rows' sums against the weights. -/
theorem resultOf_apply (xs : Fin 1024 → Fin 256 → ℝ)
    (hx : ∀ n k, (m ((c : Thread nD τ).loc main_arg0) (ix2 n k) : EReal) = (xs n k : EReal)) (X : Fin 1024 → Fin 256 → EReal) (hX : ∀ n k, m ((c : Thread nD τ).loc main_arg0) (ix2 n k) = X n k)
    (wt : Fin 5 → Fin 256 → Fin 2496 → EReal) (hw : ∀ k a f, m ((c : Thread nD τ).loc main_arg5) (ix3 k a f) = wt k a f)
    (bias : Fin 2496 → EReal) (hb : ∀ f, m ((c : Thread nD τ).loc main_arg6) (ix1 f) = bias f)
    (W : Fin 992 → ℝ) (hW : wR (m ((c : Thread nD τ).loc main_arg2)) (m ((c : Thread nD τ).loc main_arg3)) (m ((c : Thread nD τ).loc main_arg4)) = W)
    (g d : Fin 32) (f : Fin 2496) :
    (resultOf m c pt0 (ix2 (node g d) f) : EReal) = bias f + ∑ a, X (node d g) a * wt 0 a f
      + ∑ a, (((cheb (adj W) 1 *ᵥ fun s => xs (node s g) a) d : ℝ) : EReal) * wt 1 a f
      + ∑ a, (((cheb (adj W) 2 *ᵥ fun s => xs (node s g) a) d : ℝ) : EReal) * wt 2 a f
      + ∑ a, (((cheb (adj W) 3 *ᵥ fun s => xs (node s g) a) d : ℝ) : EReal) * wt 3 a f
      + ∑ a, (((cheb (adj W) 4 *ᵥ fun s => xs (node s g) a) d : ℝ) : EReal) * wt 4 a f := by
  have h1 : adjR (dinv W) (weightAt W) = adj W := rfl
  have hD : ∀ i, (dinvOf (m ((c : Thread nD τ).loc main_arg2)) (m ((c : Thread nD τ).loc main_arg3)) (m ((c : Thread nD τ).loc main_arg4)) (ix2 i 0) : EReal) = ((dinv W i : ℝ) : EReal) := by
    subst hW; exact fun i => dinvOf_real _ _ _ i
  have hA : ∀ i j, (adjOf (m ((c : Thread nD τ).loc main_arg2)) (m ((c : Thread nD τ).loc main_arg3)) (m ((c : Thread nD τ).loc main_arg4)) (ix2 i j) : EReal) = ((weightAt W i j : ℝ) : EReal) := by
    subst hW; exact fun i j => adjOf_real _ _ _ i j
  have hn := (node g d).isLt
  have hs : (node g d).val = 256 * ((node g d).val / 256) + (node g d).val % 256 := (Nat.div_add_mod _ _).symm
  unfold resultOf bodyPieces
  rw [block0, block1, V_main_arg3, V_main_arg4, V_main_arg5]
  refine (out_read _ _ _ _ _ _ ⟨(node g d).val / 256, by omega⟩ ⟨(node g d).val % 256, by omega⟩ f (node g d) hs).trans ?_
  refine (outBlock_apply _ _ _ _ _ _ _ _ _ hs).trans ?_
  simp only [pay33_apply, pay34_apply _ _ _ xs (dinv W) (weightAt W) hx hD hA, pay35_apply _ _ _ xs (dinv W) (weightAt W) hx hD hA,
    pay36_apply _ _ _ xs (dinv W) (weightAt W) hx hD hA, pay37_apply _ _ _ xs (dinv W) (weightAt W) hx hD hA, h1, block2, hX, hw, hb]

end Cert.LastIdeal.Value

end
-- ==== Proof.LastReferenceValue.lean ====
/- The slice's reference, read node by node. -/
module

public import proofs.«01_k».proof.Proof.Gen.LastReferenceIdeal.Run
public import proofs.«01_k».proof.Proof.LastDegrees
public import proofs.«01_k».proof.Proof.LastRows
public import Idealize.ShloMosaic.Lib.Pointwise

@[expose] public section

set_option maxRecDepth 16384

noncomputable section

namespace Cert.LastReferenceIdeal.Value

open Matrix Idealize.ShloMosaic Idealize.ShloMosaic.TcCoe Cert.LastReferenceIdeal Cert.LastReferenceIdeal.Gen Cert.Cheb
open Cert.LastIdeal.Value (elu wtsOf wR wtsOf_real two_f32)

variable (V0 : Valuation τ sig (Elt Ideal))

/-- The weights the reference reads, as real numbers. -/
abbrev W : Fin 992 → ℝ := wR (V0 (Proc.devRef .tc main_arg2)) (V0 (Proc.devRef .tc main_arg3)) (V0 (Proc.devRef .tc main_arg4))

theorem v9_apply (e : Fin 31744) : (res_main_v9 V0 (ix1 e) : EReal) = ((wE (W V0) e : ℝ) : EReal) := by
  refine Eq.trans ?_ (wtsOf_real _ _ _ _)
  unfold res_main_v9 res_main_v1
  pointwise
  unfold wtsOf
  refine congrArg (fun z => max (Ideal.tanh z) 0) (Finset.sum_congr rfl fun c _ => congrArg (· * _) ?_)
  unfold elu
  split_ifs with h
  · rfl
  · rfl

/-- The indicator of a node number held as a word. -/
theorem indicator (a b : ℕ) (ha : a < 1024) (hb : b < 1024) (v : BitVec 32) (hv : v = BitVec.ofNat 32 a) :
    Scalar.select (IntOp.cmpi CmpIPredicate.eq v (BitVec.ofNat 32 b)) (1 : EReal) 0 = (((if b = a then 1 else 0 : ℝ)) : EReal) := by
  subst hv
  by_cases h : b = a
  · subst h; simp [Scalar.select, IntOp.cmpi]
  · have hne : ¬ BitVec.ofNat 32 a = BitVec.ofNat 32 b := fun e => h (by
      have := congrArg BitVec.toNat e
      simp only [BitVec.toNat_ofNat] at this; omega)
    simp [Scalar.select, IntOp.cmpi, beq_eq_false_iff_ne.mpr hne, h]

theorem src_lt (e : Fin 31744) : src e < 1024 := by unfold src; omega
theorem dst_lt (e : Fin 31744) : dst e < 1024 := by unfold dst; split_ifs <;> omega

variable (hfrom : ∀ e : Fin 31744, (V0 (Proc.devRef .tc main_arg1) (ix2 0 e) : BitVec 32) = BitVec.ofNat 32 (src e))
  (hto : ∀ e : Fin 31744, (V0 (Proc.devRef .tc main_arg1) (ix2 1 e) : BitVec 32) = BitVec.ofNat 32 (dst e))

include hfrom in
theorem v16_apply (e : Fin 31744) (n : Fin 1024) : (res_main_v16 V0 (ix2 e n) : EReal) = ((fromN e n : ℝ) : EReal) := by
  unfold res_main_v16 res_main_v10
  pointwise
  exact indicator _ _ (src_lt e) n.isLt _ (hfrom e)

include hto in
theorem v22_apply (e : Fin 31744) (n : Fin 1024) : (res_main_v22 V0 (ix2 e n) : EReal) = ((toN e n : ℝ) : EReal) := by
  unfold res_main_v22 res_main_v10
  pointwise
  exact indicator _ _ (dst_lt e) n.isLt _ (hto e)

include hfrom in
theorem v23_apply (n : Fin 1024) : (res_main_v23 V0 (ix1 n) : EReal) = ((degN (W V0) n : ℝ) : EReal) := by
  unfold res_main_v23
  pointwise
  simp only [v9_apply, v16_apply V0 hfrom]
  exact sum_coe_mul _ _

/-- One over the square root of a real degree, guarded. -/
theorem sqrt_guard (D : ℝ) : (if (0 : EReal) < (D : EReal) then Ideal.div 1 (Ideal.sqrt (if (0 : EReal) < (D : EReal) then (D : EReal) else 1)) else 0)
    = (((if 0 < D then (Real.sqrt D)⁻¹ else 0 : ℝ)) : EReal) := by
  have e : ((0 : EReal) < (D : EReal)) ↔ 0 < D := EReal.coe_pos
  by_cases h : 0 < D
  · rw [if_pos (e.2 h), if_pos (e.2 h), if_pos h, Ideal.sqrt_coe, if_neg (not_lt.2 h.le)]
    have : Real.sqrt D ≠ 0 := (Real.sqrt_pos.2 h).ne'
    rw [Ideal.div, if_neg (by simpa using this), one_mul, EReal.coe_inv]
  · rw [if_neg (fun h' => h (e.1 h')), if_neg h, EReal.coe_zero]

include hfrom in
theorem v32_apply (n : Fin 1024) : (res_main_v32 V0 (ix1 n) : EReal) = ((dinvN (W V0) n : ℝ) : EReal) := by
  unfold res_main_v32
  simp only [id]
  pointwise
  rw [v23_apply V0 hfrom]
  exact sqrt_guard _

include hfrom hto in
theorem v43_apply (n n' : Fin 1024) : (res_main_v43 V0 (ix2 n n') : EReal) = ((lap (W V0) n n' : ℝ) : EReal) := by
  unfold res_main_v43
  simp only [id]
  pointwise
  simp only [v9_apply, v16_apply V0 hfrom, v22_apply V0 hto, v32_apply V0 hfrom, sum_coe_mul, sum_coe, ← EReal.coe_mul, ← EReal.coe_neg, lap, normE]

/-! ## The propagated rows -/

variable (xs : Fin 1024 → Fin 256 → ℝ) (hx : ∀ n c, (V0 (Proc.devRef .tc main_arg0) (ix2 n c) : EReal) = ((xs n c : ℝ) : EReal))

/-- The row node `n` stands at in the argument: there the nodes come first, the components second. -/
def swap (n : Fin 1024) : Fin 1024 := ⟨n.val % 32 * 32 + n.val / 32, by omega⟩

theorem swap_node (g s : Fin 32) : swap (node g s) = node s g := Fin.ext (by simp only [swap, node]; omega)

/-- Column `c` of the reordered rows. -/
abbrev col (c : Fin 256) : Fin 1024 → ℝ := fun n => xs (swap n) c

include hx in
theorem v46_apply (n : Fin 1024) (c : Fin 256) : (res_main_v46 V0 (ix2 n c) : EReal) = ((col xs c n : ℝ) : EReal) := by
  unfold res_main_v46
  pointwise
  exact hx _ c

include hfrom hto hx

theorem v50_apply (n : Fin 1024) (c : Fin 256) : (res_main_v50 V0 (ix2 n c) : EReal) = ((prop1 (W V0) (col xs c) n : ℝ) : EReal) := by
  unfold res_main_v50
  pointwise
  simp only [v43_apply V0 hfrom hto, v46_apply V0 xs hx]
  exact sum_coe_mul _ _

theorem v58_apply (n : Fin 1024) (c : Fin 256) : (res_main_v58 V0 (ix2 n c) : EReal) = ((prop2 (W V0) (col xs c) n : ℝ) : EReal) := by
  unfold res_main_v58
  pointwise
  simp only [v43_apply V0 hfrom hto, v46_apply V0 xs hx, v50_apply V0 hfrom hto xs hx, two_f32, sum_coe_mul, sum_coe, ← EReal.coe_mul, ← EReal.coe_sub, prop2]

theorem v66_apply (n : Fin 1024) (c : Fin 256) : (res_main_v66 V0 (ix2 n c) : EReal) = ((prop3 (W V0) (col xs c) n : ℝ) : EReal) := by
  unfold res_main_v66
  pointwise
  simp only [v43_apply V0 hfrom hto, v50_apply V0 hfrom hto xs hx, v58_apply V0 hfrom hto xs hx, two_f32, sum_coe_mul, sum_coe, ← EReal.coe_mul, ← EReal.coe_sub, prop3]

/-- What the reference's result is, as its run states it. -/
def result {F : FTy → Type} [FloatOps F] (V0 : Valuation τ sig (Elt F)) : (Proc.devRef .tc main_v81 : DevRef τ sig).ty.Contents (Elt F) :=
  addf (addf (addf (addf (addf (Host.dotGeneral dot_S1024x256_S256x2496_S1024x2496_1_0_0_1_n_n none (res_main_v46 V0) (shapeCast _ (extractStridedSlice S1x256x2496 ![0, 0, 0] (V0 (Proc.devRef .tc main_arg5)) slices_S5x256x2496_S1x256x2496_0_0_0) shapeCasts_S1x256x2496_S256x2496)) (Host.dotGeneral dot_S1024x256_S256x2496_S1024x2496_1_0_0_1_n_n none (res_main_v50 V0) (shapeCast _ (extractStridedSlice S1x256x2496 ![1, 0, 0] (V0 (Proc.devRef .tc main_arg5)) slices_S5x256x2496_S1x256x2496_1_0_0) shapeCasts_S1x256x2496_S256x2496))) (Host.dotGeneral dot_S1024x256_S256x2496_S1024x2496_1_0_0_1_n_n none (res_main_v58 V0) (shapeCast _ (extractStridedSlice S1x256x2496 ![2, 0, 0] (V0 (Proc.devRef .tc main_arg5)) slices_S5x256x2496_S1x256x2496_2_0_0) shapeCasts_S1x256x2496_S256x2496))) (Host.dotGeneral dot_S1024x256_S256x2496_S1024x2496_1_0_0_1_n_n none (res_main_v66 V0) (shapeCast _ (extractStridedSlice S1x256x2496 ![3, 0, 0] (V0 (Proc.devRef .tc main_arg5)) slices_S5x256x2496_S1x256x2496_3_0_0) shapeCasts_S1x256x2496_S256x2496))) (Host.dotGeneral dot_S1024x256_S256x2496_S1024x2496_1_0_0_1_n_n none (subf (mulf (broadcastInDim S1024x256 ![] bcast_S_S1024x256 (constant S_ .f32 0x40000000#32)) (Host.dotGeneral dot_S1024x1024_S1024x256_S1024x256_1_0_0_1_n_n none (res_main_v43 V0) (res_main_v66 V0))) (res_main_v58 V0)) (shapeCast _ (extractStridedSlice S1x256x2496 ![4, 0, 0] (V0 (Proc.devRef .tc main_arg5)) slices_S5x256x2496_S1x256x2496_4_0_0) shapeCasts_S1x256x2496_S256x2496))) (broadcastInDim S1024x2496 ![0, 1] bcast_S1x2496_S1024x2496_0_1 (broadcastInDim S1x2496 ![1] bcast_S2496_S1x2496_1 (V0 (Proc.devRef .tc main_arg6))))

/-- The arguments' entries. -/
abbrev xAt (n : Fin 1024) (c : Fin 256) : EReal := V0 (Proc.devRef .tc main_arg0) (ix2 n c)
abbrev wAt (k : Fin 5) (c : Fin 256) (f : Fin 2496) : EReal := V0 (Proc.devRef .tc main_arg5) (ix3 k c f)
abbrev bAt (f : Fin 2496) : EReal := V0 (Proc.devRef .tc main_arg6) (ix1 f)

theorem result_apply (g d : Fin 32) (f : Fin 2496) : (result V0 (ix2 (node g d) f) : EReal) =
    ∑ c : Fin 256, xAt V0 (node d g) c * wAt V0 0 c f
    + ∑ c, (((cheb (adj (W V0)) 1 *ᵥ fun s => xs (node s g) c) d : ℝ) : EReal) * wAt V0 1 c f
    + ∑ c, (((cheb (adj (W V0)) 2 *ᵥ fun s => xs (node s g) c) d : ℝ) : EReal) * wAt V0 2 c f
    + ∑ c, (((cheb (adj (W V0)) 3 *ᵥ fun s => xs (node s g) c) d : ℝ) : EReal) * wAt V0 3 c f
    + ∑ c, (((cheb (adj (W V0)) 4 *ᵥ fun s => xs (node s g) c) d : ℝ) : EReal) * wAt V0 4 c f
    + bAt V0 f := by
  have h4 : ∀ n c, 2 * ∑ n', lap (W V0) n n' * prop3 (W V0) (col xs c) n' - prop2 (W V0) (col xs c) n = prop4 (W V0) (col xs c) n := fun n c => rfl
  unfold result
  pointwise
  simp only [xAt, hx]
  simp only [v43_apply V0 hfrom hto, v46_apply V0 xs hx, v50_apply V0 hfrom hto xs hx, v58_apply V0 hfrom hto xs hx, v66_apply V0 hfrom hto xs hx,
    two_f32, sum_coe_mul, sum_coe, ← EReal.coe_mul, ← EReal.coe_sub, h4]
  simp only [prop1_node, prop2_node, prop3_node, prop4_node, col, swap_node]

end Cert.LastReferenceIdeal.Value

end
-- ==== Proof.LastInputs.lean ====
/- What the slice's precondition says of its arguments. -/
module

public import proofs.«01_k».proof.Pre_connected_and_finite
public import proofs.«01_k».proof.Proof.Chebyshev
public import Idealize.ShloMosaic.Lib.Pointwise
public import Idealize.ShloMosaic.Lib.ReduceAll
public import Idealize.ShloMosaic.Lib.Routing.BitFacts

@[expose] public section

set_option maxRecDepth 16384

noncomputable section

namespace Cert.Pre_connected_and_finite

open Idealize.ShloMosaic Idealize.ShloMosaic.Routing Cert.Cheb

theorem facts : Facts where
  slices_S2x31744_S1x31744_0_0 := by decide
  shapeCasts_S1x31744_S31744 := by decide
  bcast_S_S31744 := by decide
  reducesTo_S31744_S_d0 := by decide
  h_S_ := by decide
  slices_S2x31744_S1x31744_1_0 := by decide
  bcast_S_S1024x256 := by decide
  reducesTo_S1024x256_S_d0_1 := by decide

/-! ## Small words -/

theorem not_corner (a b : ℕ) (hb : b < 2 ^ 31) (h0 : 0 < b) : ¬ IntOp.SDivCorner (BitVec.ofNat 32 a) (BitVec.ofNat 32 b) := by
  rintro (h | ⟨-, h⟩)
  · have := congrArg BitVec.toNat h
    simp only [BitVec.toNat_ofNat, BitVec.toNat_zero, BitVec.ofNat_eq_ofNat] at this; omega
  · exact ofNat32_ne_neg_one hb h

theorem quot (a b : ℕ) (ha : a < 2 ^ 31) (hb : b < 2 ^ 31) (h0 : 0 < b) :
    IntOp.divsi ArithUnit.host (BitVec.ofNat 32 a) (BitVec.ofNat 32 b) = BitVec.ofNat 32 (a / b) := by
  rw [IntOp.divsi, if_neg (not_corner a b hb h0), sdiv_ofNat32 ha hb]

theorem rem (a b : ℕ) (ha : a < 2 ^ 31) (hb : b < 2 ^ 31) (h0 : 0 < b) :
    IntOp.remsi ArithUnit.host (BitVec.ofNat 32 a) (BitVec.ofNat 32 b) = BitVec.ofNat 32 (a % b) := by
  rw [IntOp.remsi, if_neg (not_corner a b hb h0), srem_ofNat32 ha hb]

theorem eq_of_cmpi {a b : BitVec 32} (h : IntOp.cmpi CmpIPredicate.eq a b = 1#1) : a = b := by
  by_contra hne
  simp [IntOp.cmpi, beq_eq_false_iff_ne.mpr hne] at h

/-- A value below infinity in magnitude is real. -/
theorem real_of_lt (x : EReal) (h : BitVec.ofBool (decide (FloatOps.absf (F := Ideal) (φ := .f32) x < Ideal.ofBits FTy.f32 0x7F800000#32)) = 1#1) :
    x = ((x.toReal : ℝ) : EReal) := by
  have h' : FloatOps.absf (F := Ideal) (φ := .f32) x < Ideal.ofBits FTy.f32 0x7F800000#32 := by
    by_contra hn
    simp [hn] at h
  have ht : Ideal.ofBits FTy.f32 0x7F800000#32 = ⊤ := by simp [Ideal.ofBits, Ideal.ieee]
  rw [ht] at h'
  induction x with
  | bot => exact absurd h' (by show ¬ max (⊥ : EReal) (-⊥) < ⊤; simp)
  | top => exact absurd h' (by show ¬ max (⊤ : EReal) (-⊤) < ⊤; simp)
  | coe r => rfl

/-- The words that name where edge `e` starts and ends. -/
theorem source_word (e : Fin 31744) :
    IntOp.addi (IntOp.muli 32#32 (IntOp.divsi ArithUnit.host (BitVec.ofNat 32 e.val) 992#32))
      (IntOp.divsi ArithUnit.host (IntOp.remsi ArithUnit.host (BitVec.ofNat 32 e.val) 992#32) 31#32) = BitVec.ofNat 32 (src e) := by
  have he := e.isLt
  rw [quot e 992 (by omega) (by decide) (by decide), rem e 992 (by omega) (by decide) (by decide), quot _ 31 (by omega) (by decide) (by decide)]
  simp only [IntOp.addi, IntOp.muli, BitVec.ofNat_mul_ofNat, BitVec.ofNat_add_ofNat]
  rfl

theorem target_word (e : Fin 31744) :
    IntOp.addi (IntOp.addi (IntOp.muli 32#32 (IntOp.divsi ArithUnit.host (BitVec.ofNat 32 e.val) 992#32)) (IntOp.remsi ArithUnit.host (BitVec.ofNat 32 e.val) 31#32))
      (Scalar.select (IntOp.cmpi CmpIPredicate.sge (IntOp.remsi ArithUnit.host (BitVec.ofNat 32 e.val) 31#32)
        (IntOp.divsi ArithUnit.host (IntOp.remsi ArithUnit.host (BitVec.ofNat 32 e.val) 992#32) 31#32)) 1#32 0#32) = BitVec.ofNat 32 (dst e) := by
  have he := e.isLt
  rw [quot e 992 (by omega) (by decide) (by decide), rem e 31 (by omega) (by decide) (by decide), rem e 992 (by omega) (by decide) (by decide), quot _ 31 (by omega) (by decide) (by decide)]
  have hs : Scalar.select (IntOp.cmpi CmpIPredicate.sge (BitVec.ofNat 32 (e.val % 31)) (BitVec.ofNat 32 (e.val % 992 / 31))) 1#32 0#32
      = BitVec.ofNat 32 (if e.val % 992 / 31 ≤ e.val % 31 then 1 else 0) := by
    have h := sle_ofNat32 (a := e.val % 992 / 31) (b := e.val % 31) (by omega) (by omega)
    simp only [Scalar.select, IntOp.cmpi, h]
    by_cases hc : e.val % 992 / 31 ≤ e.val % 31 <;> simp [hc]
  rw [hs]
  simp only [IntOp.addi, IntOp.muli, BitVec.ofNat_mul_ofNat, BitVec.ofNat_add_ofNat]
  rfl

/-! ## The precondition -/

variable [Facts] (x0 : FVec Ideal S1024x256 .f32) (x1 : IVec S2x31744 32) (x2 : FVec Ideal S992x1 .f32) (x3 : FVec Ideal S992x248 .f32)
  (x4 : FVec Ideal S248x992 .f32) (x5 : FVec Ideal S5x256x2496 .f32) (x6 : FVec Ideal S2496 .f32)
  (h : fn (F := Ideal) x0 x1 x2 x3 x4 x5 x6 = fun _ => 1#1)

instance : Subsingleton S_.Idx := ⟨fun a b => funext fun i => i.elim0⟩

include h in
theorem edges_and_finite : (∀ e : Fin 31744, x1 (ix2 0 e) = BitVec.ofNat 32 (src e)) ∧ (∀ e : Fin 31744, x1 (ix2 1 e) = BitVec.ofNat 32 (dst e))
    ∧ ∀ (n : Fin 1024) (c : Fin 256), x0 (ix2 n c) = (((x0 (ix2 n c)).toReal : ℝ) : EReal) := by
  have h' := congrFun h ix0
  unfold fn fn_part1 fn_part2 fn_where at h'
  obtain ⟨h12, h3⟩ := IntOp.andi_eq_one.1 h'
  obtain ⟨h1, h2⟩ := IntOp.andi_eq_one.1 h12
  have e1 := fun e => Host.reduce_andi_all _ _ _ _ _ h1 e
  have e2 := fun e => Host.reduce_andi_all _ _ _ _ _ h2 e
  have e3 := fun e => Host.reduce_andi_all _ _ _ _ _ h3 e
  clear h h' h12 h1 h2 h3
  refine ⟨fun e => ?_, fun e => ?_, fun n c => ?_⟩
  · have := e1 (ix1 e)
    pointwise at this
    exact (eq_of_cmpi this).trans (source_word e)
  · have := e2 (ix1 e)
    simp only [id] at this
    pointwise at this
    exact (eq_of_cmpi this).trans (target_word e)
  · have := e3 (ix2 n c)
    pointwise at this
    exact real_of_lt _ this

end Cert.Pre_connected_and_finite

end
-- ==== Proof.LastEqual.lean ====
/- The slice's two programs return equal arrays. -/
module

public import proofs.«01_k».proof.Defs
public import proofs.«01_k».proof.Proof.LastResult
public import proofs.«01_k».proof.Proof.LastReferenceValue
public import proofs.«01_k».proof.Proof.LastInputs

@[expose] public section

set_option maxRecDepth 16384

noncomputable section

namespace Cert.LastEqual

open Matrix Idealize.ShloMosaic Idealize.ShloMosaic.TcCoe Idealize.SL.Sem Cert.Cheb

variable [Cert.Pre_connected_and_finite.Facts]
variable (m : (ℓ : Loc LastIdeal.nD LastIdeal.τ LastIdeal.sig) → Buf (Elt Ideal) ℓ)
  (V0 : Valuation LastReferenceIdeal.τ LastReferenceIdeal.sig (Elt Ideal)) (c : Dev LastIdeal.nD)

/-- From equal arguments, the edges those of 32 complete graphs and the rows finite, the kernel's result is the reference's. -/
theorem results_eq
    (hp : Cert.Pre_connected_and_finite.fn (F := Ideal) (m (c.tc.loc LastIdeal.main_arg0)) (m (c.tc.loc LastIdeal.main_arg1)) (m (c.tc.loc LastIdeal.main_arg2)) (m (c.tc.loc LastIdeal.main_arg3)) (m (c.tc.loc LastIdeal.main_arg4)) (m (c.tc.loc LastIdeal.main_arg5)) (m (c.tc.loc LastIdeal.main_arg6)) = fun _ => 1#1)
    (h0 : V0 (Proc.devRef .tc LastReferenceIdeal.main_arg0) = m (c.tc.loc LastIdeal.main_arg0))
    (h1 : V0 (Proc.devRef .tc LastReferenceIdeal.main_arg1) = m (c.tc.loc LastIdeal.main_arg1))
    (h2 : V0 (Proc.devRef .tc LastReferenceIdeal.main_arg2) = m (c.tc.loc LastIdeal.main_arg2))
    (h3 : V0 (Proc.devRef .tc LastReferenceIdeal.main_arg3) = m (c.tc.loc LastIdeal.main_arg3))
    (h4 : V0 (Proc.devRef .tc LastReferenceIdeal.main_arg4) = m (c.tc.loc LastIdeal.main_arg4))
    (h5 : V0 (Proc.devRef .tc LastReferenceIdeal.main_arg5) = m (c.tc.loc LastIdeal.main_arg5))
    (h6 : V0 (Proc.devRef .tc LastReferenceIdeal.main_arg6) = m (c.tc.loc LastIdeal.main_arg6)) :
    LastReferenceIdeal.Value.result V0 = LastIdeal.Launch.resultOf m c LastIdeal.Launch.pt0 := by
  obtain ⟨hf, ht, hx⟩ := Cert.Pre_connected_and_finite.edges_and_finite _ _ _ _ _ _ _ hp
  funext i
  obtain ⟨n, f, rfl⟩ : ∃ (n : Fin 1024) (f : Fin 2496), ix2 n f = i := ⟨i 0, i 1, by funext a; fin_cases a <;> rfl⟩
  obtain ⟨g, d, rfl⟩ := exists_node n
  refine (LastReferenceIdeal.Value.result_apply V0 (fun e => (congrFun h1 _).trans (hf e)) (fun e => (congrFun h1 _).trans (ht e))
    _ (fun n k => (congrFun h0 _).trans (hx n k)) g d f).trans ?_
  refine Eq.trans ?_ (LastIdeal.Value.resultOf_apply m c _ hx (LastReferenceIdeal.Value.xAt V0) (fun n k => (congrFun h0 _).symm)
    (LastReferenceIdeal.Value.wAt V0) (fun k a f => (congrFun h5 _).symm) (LastReferenceIdeal.Value.bAt V0) (fun f => (congrFun h6 _).symm)
    (LastReferenceIdeal.Value.W V0) (by unfold LastReferenceIdeal.Value.W; rw [h2, h3, h4]) g d f).symm
  generalize LastReferenceIdeal.Value.bAt V0 f = b
  rw [add_comm, ← add_assoc, ← add_assoc, ← add_assoc, ← add_assoc]

end Cert.LastEqual

end
-- ==== Proof.FirstReferenceFrame.lean ====
module

public import proofs.«01_k».proof.Proof.Gen.FirstReferenceIdeal.Run
public import Idealize.ShloMosaic.Lib.Claim

@[expose] public section

set_option maxRecDepth 16384

noncomputable section

namespace Cert.FirstReferenceIdeal.Launch

open Idealize.ShloMosaic Idealize.ShloMosaic.TcCoe Idealize.SL.Sem

variable {F : FTy → Type} [FloatOps F]
variable (m : (ℓ : Loc nD τ sig) → Buf (Elt F) ℓ) (ρ : Dev nD → PrngReg)

/-- Every run of the reference leaves its arguments unchanged, and every semaphore counter (it has none) at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, sem_eq_zero_of_no_sems (by decide) r.2⟩) (Value.run m ρ)

end Cert.FirstReferenceIdeal.Launch

end
-- ==== Proof.FirstIdealTerm.lean ====
/- The first layer's kernel: its body's output as one term of the operands. -/
module

public import proofs.«01_k».proof.Proof.Gen.FirstIdeal.Value
public import proofs.«01_k».proof.Proof.LastIdealBody

@[expose] public section

set_option maxRecDepth 16384

noncomputable section

namespace Cert.FirstIdeal.Value

open Idealize.ShloMosaic Idealize.ShloMosaic.TcCoe Cert.FirstIdeal Cert.FirstIdeal.Gen
open Cert.LastIdeal.Launch (adjOf dinvOf)

variable {F : FTy → Type} [FloatOps F]

/-- The body's output: the five products with the weights, mixed by the stacked Chebyshev matrices. -/
def firstTerm (x0 : Vec F S776x2496 .f32) (v143 : FVec F S32x32 .f32) (v154 : FVec F S32x1 .f32) (x2 : Vec F S1x256 .f32) (w : Vec F S5x2496x256 .f32) : FVec F S1024x256 .f32 :=
  k0_pay36 x0 (k0_pay31 v143 v154) (k0_pay32 x2)
    (k0_pay33 x0 (View.ld w (Rect.unit (s := S5x2496x256) ![0, 0, 0] S1x2496x256.size inb_S5x2496x256_S1x2496x256_0_0_0)))
    (k0_pay34 x0 (View.ld w (Rect.unit (s := S5x2496x256) ![1, 0, 0] S1x2496x256.size inb_S5x2496x256_S1x2496x256_1_0_0)))
    (k0_pay35 (View.ld w (Rect.unit (s := S5x2496x256) ![2, 0, 0] S1x2496x256.size inb_S5x2496x256_S1x2496x256_2_0_0)))
    (View.ld w (Rect.unit (s := S5x2496x256) ![3, 0, 0] S1x2496x256.size inb_S5x2496x256_S1x2496x256_3_0_0))
    (View.ld w (Rect.unit (s := S5x2496x256) ![4, 0, 0] S1x2496x256.size inb_S5x2496x256_S1x2496x256_4_0_0))

theorem out_eq (c : Dev nD) (arg0 : Memref sig .tc .vmem S776x2496 .f32) (harg0 : arg0.IsWhole) (arg1 : Memref sig .tc .vmem S992x1 .f32) (harg1 : arg1.IsWhole) (arg5 : Memref sig .tc .vmem S1x256 .f32) (harg5 : arg5.IsWhole) (arg6 : Memref sig .tc .vmem S1024x256 .f32) (harg6 : arg6.IsWhole) (arg7 : Memref sig .tc .vmem S5x2496x256 .f32) (harg7 : arg7.IsWhole) (arg9 : Memref sig .tc .vmem S992x248 .f32) (harg9 : arg9.IsWhole) (arg10 : Memref sig .tc .vmem S248x992 .f32) (harg10 : arg10.IsWhole)
    (x0 : Vec F S776x2496 .f32) (x1 : Vec F S992x1 .f32) (x2 : Vec F S1x256 .f32) (fh0 : HbBuf0 (F := F) c hbM0_0) (fh1 : HbBuf0 (F := F) c hbM0_1) (fh2 : HbBuf0 (F := F) c hbM0_2) :
    out0_A_3 c arg0 harg0 arg1 harg1 arg5 harg5 arg6 harg6 arg7 harg7 arg9 harg9 arg10 harg10 x0 x1 x2 fh0 fh1 fh2
      = firstTerm x0 (adjOf x1 fh0 fh1) (dinvOf x1 fh0 fh1) x2 fh2 := by
  unfold out0_A_3
  delta kernelRun0_A
  refine (View.read_writes_full VO0_3 _ inb_S1024x256_S1024x256_0_0 _ _).trans ?_
  have hx0 : kernelRun0_A.sl.r c arg0 harg0 x0 = x0 := by
    delta kernelRun0_A.sl.r
    rw [View.readAt_eq_ld, harg0.read_unread]
    exact View.ld_unit_zero (by decide) _ x0
  have hx1 : View.readAt (Elt F) arg1.view (Rect.unit (s := S992x1) ![0, 0] S992x1.size inb_S992x1_S992x1_0_0).toLoadRect (harg1.unread x1) = x1 := by
    rw [View.readAt_eq_ld, harg1.read_unread]
    exact View.ld_unit_zero (by decide) _ x1
  have hx5 : View.readAt (Elt F) arg5.view (Rect.unit (s := S1x256) ![0, 0] S1x256.size inb_S1x256_S1x256_0_0).toLoadRect (harg5.unread x2) = x2 := by
    rw [View.readAt_eq_ld, harg5.read_unread]
    exact View.ld_unit_zero (by decide) _ x2
  have h3 : kernelRun0_A.sl.v3 c arg9 fh0 = fh0 := by
    delta kernelRun0_A.sl.v3
    refine (congrArg (fun q => View.ld q _) (View.read_writes_whole _ _ _)).trans ?_
    exact View.ld_unit_zero (by decide) _ _
  have h13 : kernelRun0_A.sl.v13 c arg10 fh1 = fh1 := by
    delta kernelRun0_A.sl.v13
    refine (congrArg (fun q => View.ld q _) (View.read_writes_whole _ _ _)).trans ?_
    exact View.ld_unit_zero (by decide) _ _
  have hw0 : kernelRun0_A.sl.v184 c arg7 fh2 = View.ld fh2 (Rect.unit (s := S5x2496x256) ![0, 0, 0] S1x2496x256.size inb_S5x2496x256_S1x2496x256_0_0_0) := by
    delta kernelRun0_A.sl.v184
    exact congrArg (fun q => View.ld q _) (View.read_writes_whole _ _ _)
  have hw1 : kernelRun0_A.sl.v187 c arg7 fh2 = View.ld fh2 (Rect.unit (s := S5x2496x256) ![1, 0, 0] S1x2496x256.size inb_S5x2496x256_S1x2496x256_1_0_0) := by
    delta kernelRun0_A.sl.v187
    exact congrArg (fun q => View.ld q _) (View.read_writes_whole _ _ _)
  have hw2 : kernelRun0_A.sl.v190 c arg7 fh2 = View.ld fh2 (Rect.unit (s := S5x2496x256) ![2, 0, 0] S1x2496x256.size inb_S5x2496x256_S1x2496x256_2_0_0) := by
    delta kernelRun0_A.sl.v190
    exact congrArg (fun q => View.ld q _) (View.read_writes_whole _ _ _)
  have hw3 : kernelRun0_A.sl.v193 c arg7 fh2 = View.ld fh2 (Rect.unit (s := S5x2496x256) ![3, 0, 0] S1x2496x256.size inb_S5x2496x256_S1x2496x256_3_0_0) := by
    delta kernelRun0_A.sl.v193
    exact congrArg (fun q => View.ld q _) (View.read_writes_whole _ _ _)
  have hw4 : kernelRun0_A.sl.v196 c arg7 fh2 = View.ld fh2 (Rect.unit (s := S5x2496x256) ![4, 0, 0] S1x2496x256.size inb_S5x2496x256_S1x2496x256_4_0_0) := by
    delta kernelRun0_A.sl.v196
    exact congrArg (fun q => View.ld q _) (View.read_writes_whole _ _ _)
  delta kernelRun0_A.sl.r_11 kernelRun0_A.sl.r_12 kernelRun0_A.sl.r_13 kernelRun0_A.sl.r_14 kernelRun0_A.sl.r_15
  simp only [hx0, hx5, hw0, hw1, hw2, hw3, hw4]
  unfold firstTerm
  have h9 : kernelRun0_A.sl.r_9 c arg1 harg1 arg9 arg10 x1 fh0 fh1 = adjOf x1 fh0 fh1 := by
    delta kernelRun0_A.sl.r_9
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v40, kernelRun0_A.sl.v41, kernelRun0_A.sl.v42, kernelRun0_A.sl.v43, kernelRun0_A.sl.v44, kernelRun0_A.sl.v45, kernelRun0_A.sl.v46, kernelRun0_A.sl.v47, kernelRun0_A.sl.v48, kernelRun0_A.sl.v49, kernelRun0_A.sl.v50, kernelRun0_A.sl.v51, kernelRun0_A.sl.v52, kernelRun0_A.sl.v53, kernelRun0_A.sl.v54, kernelRun0_A.sl.v55, kernelRun0_A.sl.v56, kernelRun0_A.sl.v57, kernelRun0_A.sl.v58, kernelRun0_A.sl.v59, kernelRun0_A.sl.v60, kernelRun0_A.sl.v61, kernelRun0_A.sl.v62, kernelRun0_A.sl.v63, kernelRun0_A.sl.v64, kernelRun0_A.sl.v65, kernelRun0_A.sl.v66, kernelRun0_A.sl.v67, kernelRun0_A.sl.v68, kernelRun0_A.sl.v69, kernelRun0_A.sl.v70, kernelRun0_A.sl.v71, kernelRun0_A.sl.v72, kernelRun0_A.sl.v73, kernelRun0_A.sl.v74, kernelRun0_A.sl.v75, kernelRun0_A.sl.v76, kernelRun0_A.sl.v77, kernelRun0_A.sl.v78, kernelRun0_A.sl.v79, kernelRun0_A.sl.v80, kernelRun0_A.sl.v81, kernelRun0_A.sl.v82, kernelRun0_A.sl.v83, kernelRun0_A.sl.v84, kernelRun0_A.sl.v85, kernelRun0_A.sl.v86, kernelRun0_A.sl.v87, kernelRun0_A.sl.v88, kernelRun0_A.sl.v89, kernelRun0_A.sl.v90, kernelRun0_A.sl.v91, kernelRun0_A.sl.v92, kernelRun0_A.sl.v93, kernelRun0_A.sl.v94, kernelRun0_A.sl.v95, kernelRun0_A.sl.v96, kernelRun0_A.sl.v97, kernelRun0_A.sl.v98, kernelRun0_A.sl.v99,]
    rw [hx1, h3, h13]
    rfl
  have h10 : kernelRun0_A.sl.r_10 c arg1 harg1 arg9 arg10 x1 fh0 fh1 = dinvOf x1 fh0 fh1 := by
    delta kernelRun0_A.sl.r_10
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v40, kernelRun0_A.sl.v41, kernelRun0_A.sl.v42, kernelRun0_A.sl.v43, kernelRun0_A.sl.v44, kernelRun0_A.sl.v45, kernelRun0_A.sl.v46, kernelRun0_A.sl.v47, kernelRun0_A.sl.v48, kernelRun0_A.sl.v49, kernelRun0_A.sl.v50, kernelRun0_A.sl.v51, kernelRun0_A.sl.v52, kernelRun0_A.sl.v53, kernelRun0_A.sl.v54, kernelRun0_A.sl.v55, kernelRun0_A.sl.v56, kernelRun0_A.sl.v57, kernelRun0_A.sl.v58, kernelRun0_A.sl.v59, kernelRun0_A.sl.v60, kernelRun0_A.sl.v61, kernelRun0_A.sl.v62, kernelRun0_A.sl.v63, kernelRun0_A.sl.v64, kernelRun0_A.sl.v65, kernelRun0_A.sl.v66, kernelRun0_A.sl.v67, kernelRun0_A.sl.v68, kernelRun0_A.sl.v69, kernelRun0_A.sl.v70, kernelRun0_A.sl.v71, kernelRun0_A.sl.v72, kernelRun0_A.sl.v73, kernelRun0_A.sl.v74, kernelRun0_A.sl.v75, kernelRun0_A.sl.v76, kernelRun0_A.sl.v77, kernelRun0_A.sl.v78, kernelRun0_A.sl.v79, kernelRun0_A.sl.v80, kernelRun0_A.sl.v81, kernelRun0_A.sl.v82, kernelRun0_A.sl.v83, kernelRun0_A.sl.v84, kernelRun0_A.sl.v85, kernelRun0_A.sl.v86, kernelRun0_A.sl.v87, kernelRun0_A.sl.v88, kernelRun0_A.sl.v89, kernelRun0_A.sl.v90, kernelRun0_A.sl.v91, kernelRun0_A.sl.v92, kernelRun0_A.sl.v93, kernelRun0_A.sl.v94, kernelRun0_A.sl.v95, kernelRun0_A.sl.v96, kernelRun0_A.sl.v97, kernelRun0_A.sl.v98, kernelRun0_A.sl.v99,]
    rw [hx1, h3, h13]
    rfl
  rw [h9, h10]
  rfl

end Cert.FirstIdeal.Value

end
-- ==== Proof.FirstLayout.lean ====
/- Where a node's row stands in the first convolution's argument. -/
module

public import proofs.«01_k».proof.Proof.Chebyshev

@[expose] public section

noncomputable section

namespace Cert.First

open Cert.Cheb

/-- The row of the argument that stands for node row `n`: the first 256 share row 0. -/
def rowOf (n : Fin 1024) : Fin 776 := if h : n.val < 256 then ⟨0, by omega⟩ else ⟨n.val - 256 + 8, by omega⟩

/-- The repeated row and the rest, read at row `q`. -/
theorem block_entry (G : Fin 776 → EReal) (q : ℕ) (hq : q < 1024) (h : ¬ q < 256 → 8 + (q - 256) < 776) :
    (if h' : q < 256 then G 0 else G ⟨8 + (q - 256), h h'⟩) = G (rowOf ⟨q, hq⟩) := by
  unfold rowOf
  split_ifs
  · rfl
  · exact congrArg G (Fin.ext (Nat.add_comm _ _))

/-- Four blocks of 1024 rows, read at row `q = 32 (32 k + s) + g`. -/
theorem blocks_entry (G0 G1 G2 G3 : Fin 1024 → EReal) (k : Fin 4) (s g : Fin 32) (q : ℕ) (hq : q = (32 * k.val + s.val) * 32 + g.val)
    (h3 : ¬ q < 1024 → ¬ q - 1024 < 1024 → ¬ q - 1024 - 1024 < 1024 → q - 1024 - 1024 - 1024 < 1024) :
    (if h : q < 1024 then G0 ⟨q, h⟩ else if h' : q - 1024 < 1024 then G1 ⟨q - 1024, h'⟩
      else if h'' : q - 1024 - 1024 < 1024 then G2 ⟨q - 1024 - 1024, h''⟩ else G3 ⟨q - 1024 - 1024 - 1024, h3 h h' h''⟩)
      = (![G0, G1, G2, G3] : Fin 4 → Fin 1024 → EReal) k (node s g) := by
  have hs := s.isLt
  have hg := g.isLt
  have row (G : Fin 1024 → EReal) (q : ℕ) (hq : q < 1024) (e : q = 32 * s.val + g.val) : G ⟨q, hq⟩ = G (node s g) :=
    congrArg G (Fin.ext e)
  match k, hq with
  | 0, hq =>
    have hq : q = (0 + s.val) * 32 + g.val := hq
    rw [dif_pos (by omega)]
    exact row G0 _ _ (by omega)
  | 1, hq =>
    have hq : q = (32 + s.val) * 32 + g.val := hq
    rw [dif_neg (by omega), dif_pos (by omega)]
    exact row G1 _ _ (by omega)
  | 2, hq =>
    have hq : q = (64 + s.val) * 32 + g.val := hq
    rw [dif_neg (by omega), dif_neg (by omega), dif_pos (by omega)]
    exact row G2 _ _ (by omega)
  | 3, hq =>
    have hq : q = (96 + s.val) * 32 + g.val := hq
    rw [dif_neg (by omega), dif_neg (by omega), dif_neg (by omega)]
    exact row G3 _ _ (by omega)

end Cert.First

end
-- ==== Proof.FirstIdealRows.lean ====
/- The first convolution's kernel: its rows read at an index. -/
module

public import proofs.«01_k».proof.Proof.FirstIdealTerm
public import proofs.«01_k».proof.Proof.FirstLayout
public import proofs.«01_k».proof.Proof.LastRows
public import proofs.«01_k».proof.Proof.LastDegrees

@[expose] public section

set_option maxRecDepth 16384

noncomputable section

namespace Cert.FirstIdeal.Value

open Matrix Idealize.ShloMosaic Cert.FirstIdeal Cert.FirstIdeal.Gen Cert.Cheb
open Cert.First (rowOf block_entry blocks_entry)
open Cert.LastIdeal.Launch (adjOf dinvOf)
open Cert.LastIdeal.Value (adjR neg_entry identity_entry two_f32 cheb_one cheb_two cheb_three cheb_four)

variable (v0 : Vec Ideal S776x2496 .f32) (v143 : FVec Ideal S32x32 .f32) (v154 : FVec Ideal S32x1 .f32)

variable (dv : Fin 32 → ℝ) (wm : Fin 32 → Fin 32 → ℝ)
  (hD : ∀ i, v154 (ix2 i 0) = ((dv i : ℝ) : EReal)) (hW : ∀ i j, v143 (ix2 i j) = ((wm i j : ℝ) : EReal))

include hD hW in
/-- The four polynomials side by side. -/
theorem polys_apply (k : Fin 4) (d s : Fin 32) (h : 32 * k.val + s.val < 128) :
    k0_pay31 v143 v154 (ix2 d ⟨32 * k.val + s.val, h⟩) = ((cheb (adjR dv wm) k.succ d s : ℝ) : EReal) := by
  have hs := s.isLt
  have e1 : 32 + s.val - 32 = s.val := by omega
  have e2 : 64 + s.val - 32 - 32 = s.val := by omega
  have e3 : 96 + s.val - 32 - 32 - 32 = s.val := by omega
  have n1 : ¬ 32 + s.val < 32 := by omega
  have n2 : ¬ 64 + s.val < 32 := by omega
  have n2' : ¬ 64 + s.val - 32 < 32 := by omega
  have n3 : ¬ 96 + s.val < 32 := by omega
  have n3' : ¬ 96 + s.val - 32 < 32 := by omega
  have n3'' : ¬ 96 + s.val - 32 - 32 < 32 := by omega
  fin_cases k
  on_goal 1 => change _ = ((cheb (adjR dv wm) 1 d s : ℝ) : EReal)
  on_goal 2 => change _ = ((cheb (adjR dv wm) 2 d s : ℝ) : EReal)
  on_goal 3 => change _ = ((cheb (adjR dv wm) 3 d s : ℝ) : EReal)
  on_goal 4 => change _ = ((cheb (adjR dv wm) 4 d s : ℝ) : EReal)
  all_goals
    unfold k0_pay31
    pointwise
    simp only [e1, e2, e3, n1, n2, n2', n3, n3', n3'', zero_add, reduceDIte, Fin.isLt, dif_pos, Fin.eta, neg_entry v143 v154 dv wm hD hW, identity_entry, two_f32,
      sum_coe_mul, ← EReal.coe_mul, ← EReal.coe_sub, sum_coe]
    exact congrArg Real.toEReal (by
      simp only [cheb_one, cheb_two, cheb_three, cheb_four, mul_apply, Matrix.sub_apply, Matrix.smul_apply]
        <;> simp only [nsmul_eq_mul, Nat.cast_ofNat])

/-! ## The mixed rows -/

/-- All the nodes' rows, from the shared row and the rest. -/
def full (v : FVec Ideal S776x256 .f32) : FVec Ideal S1024x256 .f32 :=
  concatenate S1024x256 0 [⟨S256x256, broadcastTo S256x256 (shapeCast S1x256 (extractStridedSlice S1x256 ![0, 0] v slices_S776x256_o0_0_S1x256) shapeCasts_S1x256_S1x256) broadcasts_S1x256_S256x256⟩,
    ⟨S768x256, extractStridedSlice S768x256 ![8, 0] v slices_S776x256_o8_0_S768x256⟩] concatenates_S256x256_S768x256_S1024x256_d0

/-- Four rows' blocks, mixed by the polynomials. -/
def mix (p : FVec Ideal S32x128 .f32) (y1 y2 y3 y4 : FVec Ideal S1024x256 .f32) : FVec Ideal S1024x256 .f32 :=
  shapeCast S1024x256 (matmul dot_S32x128_S128x8192_S32x8192_1_0_0_1_n_n none p
    (shapeCast S128x8192 (concatenate S4096x256 0 [⟨S1024x256, y1⟩, ⟨S1024x256, y2⟩, ⟨S1024x256, y3⟩, ⟨S1024x256, y4⟩] concatenates_S1024x256_S1024x256_S1024x256_S1024x256_S4096x256_d0) shapeCasts_S4096x256_S128x8192)
    (constant S32x8192 .f32 0x00000000#32)) shapeCasts_S32x8192_S1024x256

theorem full_apply (v : FVec Ideal S776x256 .f32) (n : Fin 1024) (f : Fin 256) : full v (ix2 n f) = v (ix2 (rowOf n) f) := by
  unfold full
  pointwise
  exact block_entry (fun r => v (ix2 r f)) n.val n.isLt _

theorem mix_apply (p : FVec Ideal S32x128 .f32) (y1 y2 y3 y4 : FVec Ideal S1024x256 .f32) (g d : Fin 32) (f : Fin 256) :
    mix p y1 y2 y3 y4 (ix2 (node d g) f) = ∑ k : Fin 4, ∑ s : Fin 32, p (ix2 d ⟨32 * k.val + s.val, by omega⟩)
      * (![fun n => y1 (ix2 n f), fun n => y2 (ix2 n f), fun n => y3 (ix2 n f), fun n => y4 (ix2 n f)] : Fin 4 → Fin 1024 → EReal) k (node s g) := by
  unfold mix
  pointwise
  rw [sum_split 4 32 rfl]
  simp only [Cert.LastIdeal.Value.node_mod, Cert.LastIdeal.Value.node_div, Cert.LastIdeal.Value.col_div, Fin.eta]
  exact Finset.sum_congr rfl fun k _ => Finset.sum_congr rfl fun s _ => congrArg (_ * ·)
    (blocks_entry (fun n => y1 (ix2 n f)) (fun n => y2 (ix2 n f)) (fun n => y3 (ix2 n f)) (fun n => y4 (ix2 n f)) k s g _ rfl _)

theorem product_apply (w : Vec Ideal S1x2496x256 .f32) (r : Fin 776) (f : Fin 256) : k0_pay33 v0 w (ix2 r f) = ∑ c, v0 (ix2 r c) * w (ix3 0 c f) := by
  unfold k0_pay33
  pointwise

/-- What the body stores: the first order's rows, the four mixed ones and the bias, relu of it all. -/
theorem firstTerm_eq (x2 : Vec Ideal S1x256 .f32) (w0 w1 w2 w3 w4 : Vec Ideal S1x2496x256 .f32) (p : FVec Ideal S32x128 .f32) :
    k0_pay36 v0 p (k0_pay32 x2) (k0_pay33 v0 w0) (k0_pay34 v0 w1) (k0_pay35 w2) w3 w4
      = maximumf (addf (addf (full (k0_pay33 v0 w0)) (mix p (full (k0_pay33 v0 w1)) (full (k0_pay33 v0 w2)) (full (k0_pay33 v0 w3)) (full (k0_pay33 v0 w4))))
          (broadcastTo S1024x256 (k0_pay32 x2) broadcasts_S1x256_S1024x256)) (broadcast S1024x256 (Scalar.ofBits .f32 0x00000000#32)) := rfl

end Cert.FirstIdeal.Value

end
-- ==== Proof.FirstIdealValue.lean ====
/- The first convolution's kernel: its result at a node, from its arguments. -/
module

public import proofs.«01_k».proof.Proof.Gen.FirstIdeal.Value
public import proofs.«01_k».proof.Proof.FirstIdealRows

@[expose] public section

set_option maxRecDepth 16384

noncomputable section

namespace Cert.FirstIdeal.Value

open Matrix Idealize.ShloMosaic Idealize.ShloMosaic.TcCoe Cert.FirstIdeal Cert.FirstIdeal.Gen Cert.Cheb
open Cert.First (rowOf)
open Cert.LastIdeal.Launch (adjOf dinvOf)
open Cert.LastIdeal.Value (adjR wR adjOf_real dinvOf_real)

/-- A product's row over real rows and weights, at the row a node reads. -/
theorem full_real (x0 : Vec Ideal S776x2496 .f32) (w : Vec Ideal S1x2496x256 .f32) (xs : Fin 776 → Fin 2496 → ℝ)
    (hx : ∀ n c, x0 (ix2 n c) = ((xs n c : ℝ) : EReal)) (ws : Fin 2496 → Fin 256 → ℝ) (hw : ∀ c f, w (ix3 0 c f) = ((ws c f : ℝ) : EReal))
    (n : Fin 1024) (f : Fin 256) : full (k0_pay33 x0 w) (ix2 n f) = ((∑ c, xs (rowOf n) c * ws c f : ℝ) : EReal) := by
  rw [full_apply, product_apply, coe_sum]
  refine Finset.sum_congr rfl fun c _ => ?_
  rw [EReal.coe_mul, ← hx, ← hw]

/-- The two sums, the bias added, negatives set to zero. -/
theorem relu_apply (y z : FVec Ideal S1024x256 .f32) (x2 : Vec Ideal S1x256 .f32) (n : Fin 1024) (f : Fin 256) :
    maximumf (addf (addf y z) (broadcastTo S1024x256 (k0_pay32 x2) broadcasts_S1x256_S1024x256)) (broadcast S1024x256 (Scalar.ofBits .f32 0x00000000#32)) (ix2 n f)
      = max (y (ix2 n f) + z (ix2 n f) + x2 (ix2 0 f)) 0 := by
  have hb : k0_pay32 x2 = x2 := by
    unfold k0_pay32
    exact shapeCast_self _ _
  rw [hb]
  pointwise

/-- The body's term over real rows and weights, the weights given order by order. -/
theorem orders_apply (x0 : Vec Ideal S776x2496 .f32) (v143 : FVec Ideal S32x32 .f32) (v154 : FVec Ideal S32x1 .f32) (x2 : Vec Ideal S1x256 .f32)
    (w0 w1 w2 w3 w4 : Vec Ideal S1x2496x256 .f32) (dv : Fin 32 → ℝ) (wm : Fin 32 → Fin 32 → ℝ)
    (hD : ∀ i, v154 (ix2 i 0) = ((dv i : ℝ) : EReal)) (hW : ∀ i j, v143 (ix2 i j) = ((wm i j : ℝ) : EReal))
    (xs : Fin 776 → Fin 2496 → ℝ) (hx : ∀ n c, x0 (ix2 n c) = ((xs n c : ℝ) : EReal)) (ws : Fin 5 → Fin 2496 → Fin 256 → ℝ)
    (h0 : ∀ c f, w0 (ix3 0 c f) = ((ws 0 c f : ℝ) : EReal)) (h1 : ∀ c f, w1 (ix3 0 c f) = ((ws 1 c f : ℝ) : EReal))
    (h2 : ∀ c f, w2 (ix3 0 c f) = ((ws 2 c f : ℝ) : EReal)) (h3 : ∀ c f, w3 (ix3 0 c f) = ((ws 3 c f : ℝ) : EReal))
    (h4 : ∀ c f, w4 (ix3 0 c f) = ((ws 4 c f : ℝ) : EReal)) (g d : Fin 32) (f : Fin 256) :
    k0_pay36 x0 (k0_pay31 v143 v154) (k0_pay32 x2) (k0_pay33 x0 w0) (k0_pay34 x0 w1) (k0_pay35 w2) w3 w4 (ix2 (node d g) f)
      = max (((∑ c, xs (rowOf (node d g)) c * ws 0 c f
          + ∑ k : Fin 4, ∑ s, cheb (adjR dv wm) k.succ d s * ∑ c, xs (rowOf (node s g)) c * ws k.succ c f : ℝ) : EReal) + x2 (ix2 0 f)) 0 := by
  rw [firstTerm_eq, relu_apply, mix_apply, full_real x0 w0 xs hx (ws 0) h0, EReal.coe_add, coe_sum Finset.univ fun k : Fin 4 => ∑ s, cheb (adjR dv wm) k.succ d s * ∑ c, xs (rowOf (node s g)) c * ws k.succ c f]
  refine congrArg (fun a : EReal => max (a + x2 (ix2 0 f)) 0) ?_
  refine congrArg (fun a : EReal => ((∑ c, xs (rowOf (node d g)) c * ws 0 c f : ℝ) : EReal) + a) ?_
  refine Finset.sum_congr rfl fun k _ => ?_
  rw [← sum_coe_mul]
  refine Finset.sum_congr rfl fun s _ => ?_
  rw [polys_apply v143 v154 dv wm hD hW]
  refine congrArg (fun a : EReal => ((cheb (adjR dv wm) k.succ d s : ℝ) : EReal) * a) ?_
  fin_cases k
  · exact full_real x0 w1 xs hx (ws 1) h1 _ _
  · exact full_real x0 w2 xs hx (ws 2) h2 _ _
  · exact full_real x0 w3 xs hx (ws 3) h3 _ _
  · exact full_real x0 w4 xs hx (ws 4) h4 _ _

/-- The body's term over real rows and weights. -/
theorem firstTerm_apply (x0 : Vec Ideal S776x2496 .f32) (v143 : FVec Ideal S32x32 .f32) (v154 : FVec Ideal S32x1 .f32) (x2 : Vec Ideal S1x256 .f32)
    (w : Vec Ideal S5x2496x256 .f32) (dv : Fin 32 → ℝ) (wm : Fin 32 → Fin 32 → ℝ)
    (hD : ∀ i, v154 (ix2 i 0) = ((dv i : ℝ) : EReal)) (hW : ∀ i j, v143 (ix2 i j) = ((wm i j : ℝ) : EReal))
    (xs : Fin 776 → Fin 2496 → ℝ) (hx : ∀ n c, x0 (ix2 n c) = ((xs n c : ℝ) : EReal))
    (ws : Fin 5 → Fin 2496 → Fin 256 → ℝ) (hw : ∀ k c f, w (ix3 k c f) = ((ws k c f : ℝ) : EReal)) (g d : Fin 32) (f : Fin 256) :
    firstTerm x0 v143 v154 x2 w (ix2 (node d g) f)
      = max (((∑ c, xs (rowOf (node d g)) c * ws 0 c f
          + ∑ k : Fin 4, ∑ s, cheb (adjR dv wm) k.succ d s * ∑ c, xs (rowOf (node s g)) c * ws k.succ c f : ℝ) : EReal) + x2 (ix2 0 f)) 0 := by
  unfold firstTerm
  refine orders_apply x0 v143 v154 x2 _ _ _ _ _ dv wm hD hW xs hx ws ?_ ?_ ?_ ?_ ?_ g d f <;> intro c f <;> rw [← hw] <;> pointwise

variable (m : (ℓ : Loc nD τ sig) → Buf (Elt Ideal) ℓ) (c : Dev nD)

/-- The grid's one point. -/
abbrev pt0 : Fin cfg0.N := ⟨0, by decide⟩

theorem block0 : iblk m c 0 pt0 = m ((c : Thread nD τ).loc main_arg0) := by
  blk_ext! [iblk, V]
  · exact (congrArg (· + _) (Nat.zero_mul _)).trans (Nat.zero_add _)
  · exact (congrArg (· + _) (Nat.zero_mul _)).trans (Nat.zero_add _)

theorem block1 : iblk m c 1 pt0 = m ((c : Thread nD τ).loc main_arg2) := by
  blk_ext! [iblk, V]
  · exact (congrArg (· + _) (Nat.zero_mul _)).trans (Nat.zero_add _)
  · rfl

theorem block2 (f : Fin 256) : (iblk m c 2 pt0 (ix2 0 f) : EReal) = m ((c : Thread nD τ).loc main_arg6) (ix1 f) := by
  blk_ext! [iblk, V]
  exact (congrArg (· + _) (Nat.zero_mul _)).trans (Nat.zero_add _)

/-- What the kernel returns, from its arguments. -/
def resultOf : Vec Ideal S1024x256 .f32 :=
  firstTerm (m ((c : Thread nD τ).loc main_arg0))
    (adjOf (m ((c : Thread nD τ).loc main_arg2)) (m ((c : Thread nD τ).loc main_arg3)) (m ((c : Thread nD τ).loc main_arg4)))
    (dinvOf (m ((c : Thread nD τ).loc main_arg2)) (m ((c : Thread nD τ).loc main_arg3)) (m ((c : Thread nD τ).loc main_arg4)))
    (iblk m c 2 pt0) (m ((c : Thread nD τ).loc main_arg5))

theorem array_eq : (dats m 0 c).arrAt 3 cfg0.N = resultOf m c := by
  refine (dats m 0 c).arrAt_eq_of_after_last 3 pt0 (by decide +kernel) _ fun j => ?_
  rw [after0_3]
  simp only [outsAt0]
  rw [out_eq, block0, block1, V_main_arg3, V_main_arg4, V_main_arg5]
  rfl

/-- The run's result is the body's term of the arguments. -/
theorem value_run (ρ : Dev nD → PrngReg) :
    θ_run (defs (F := Ideal)) (onTc (τ := τ) (main (F := Ideal))) ⟨m, fun _ => 0, ρ⟩
      (fun r => ∀ c : Dev nD, r.2.mem ((c : Thread nD τ).loc main_v1) = resultOf m c) :=
  θ_run_mono (run_blocks m ρ) fun _ h c => (h c).1.trans (array_eq m c)

end Cert.FirstIdeal.Value

end
-- ==== Proof.FirstReferenceValue.lean ====
/- The first convolution's reference, read node by node. -/
module

public import proofs.«01_k».proof.Proof.Gen.FirstReferenceIdeal.Run
public import proofs.«01_k».proof.Proof.LastReferenceValue
public import proofs.«01_k».proof.Proof.FirstLayout
public import Idealize.ShloMosaic.Lib.Pointwise

@[expose] public section

set_option maxRecDepth 16384

noncomputable section

namespace Cert.LastReferenceIdeal.Value

open Idealize.ShloMosaic Idealize.ShloMosaic.TcCoe

/-- Buffer contents with the edges and the edge weights' three operands given. -/
theorem exists_contents (a1 : (Proc.devRef .tc main_arg1 : DevRef τ sig).ty.Contents (Elt Ideal)) (a2 : (Proc.devRef .tc main_arg2 : DevRef τ sig).ty.Contents (Elt Ideal))
    (a3 : (Proc.devRef .tc main_arg3 : DevRef τ sig).ty.Contents (Elt Ideal)) (a4 : (Proc.devRef .tc main_arg4 : DevRef τ sig).ty.Contents (Elt Ideal)) :
    ∃ V0 : Valuation τ sig (Elt Ideal), V0 (Proc.devRef .tc main_arg1) = a1 ∧ V0 (Proc.devRef .tc main_arg2) = a2
      ∧ V0 (Proc.devRef .tc main_arg3) = a3 ∧ V0 (Proc.devRef .tc main_arg4) = a4 := by
  classical
  have base : Nonempty (Valuation τ sig (Elt Ideal)) := ⟨fun r => default⟩
  obtain ⟨V⟩ := base
  refine ⟨Function.update (Function.update (Function.update (Function.update V _ a1) _ a2) _ a3) _ a4, ?_, ?_, ?_, ?_⟩
  · rw [Function.update_of_ne (by decide), Function.update_of_ne (by decide), Function.update_of_ne (by decide), Function.update_self]
  · rw [Function.update_of_ne (by decide), Function.update_of_ne (by decide), Function.update_self]
  · rw [Function.update_of_ne (by decide), Function.update_self]
  · rw [Function.update_self]

end Cert.LastReferenceIdeal.Value

namespace Cert.FirstReferenceIdeal.Value

open Matrix Idealize.ShloMosaic Idealize.ShloMosaic.TcCoe Cert.FirstReferenceIdeal Cert.FirstReferenceIdeal.Gen Cert.Cheb
open Cert.First (rowOf block_entry)
open Cert.LastIdeal.Value (wR two_f32)
open Cert.LastReferenceIdeal.Value (swap swap_node exists_contents)

variable (V0 : Valuation τ sig (Elt Ideal))

/-- The weights the reference reads, as real numbers. -/
abbrev W : Fin 992 → ℝ := wR (V0 (Proc.devRef .tc main_arg2)) (V0 (Proc.devRef .tc main_arg3)) (V0 (Proc.devRef .tc main_arg4))

variable (hfrom : ∀ e : Fin 31744, (V0 (Proc.devRef .tc main_arg1) (ix2 0 e) : BitVec 32) = BitVec.ofNat 32 (src e))
  (hto : ∀ e : Fin 31744, (V0 (Proc.devRef .tc main_arg1) (ix2 1 e) : BitVec 32) = BitVec.ofNat 32 (dst e))

include hfrom hto in
theorem v43_apply (n n' : Fin 1024) : (res_main_v43 V0 (ix2 n n') : EReal) = ((lap (W V0) n n' : ℝ) : EReal) := by
  obtain ⟨V, h1, h2, h3, h4⟩ := exists_contents (V0 (Proc.devRef .tc main_arg1)) (V0 (Proc.devRef .tc main_arg2)) (V0 (Proc.devRef .tc main_arg3)) (V0 (Proc.devRef .tc main_arg4))
  have key := LastReferenceIdeal.Value.v43_apply V (fun e => (congrFun h1 _).trans (hfrom e)) (fun e => (congrFun h1 _).trans (hto e)) n n'
  have hW : LastReferenceIdeal.Value.W V = W V0 := by
    unfold LastReferenceIdeal.Value.W W
    rw [h2, h3, h4]
  rw [hW] at key
  refine Eq.trans ?_ key
  unfold res_main_v43 res_main_v32 res_main_v23 res_main_v22 res_main_v16 res_main_v10 res_main_v9 res_main_v1
    LastReferenceIdeal.Value.res_main_v43 LastReferenceIdeal.Value.res_main_v32 LastReferenceIdeal.Value.res_main_v23 LastReferenceIdeal.Value.res_main_v22
    LastReferenceIdeal.Value.res_main_v16 LastReferenceIdeal.Value.res_main_v10 LastReferenceIdeal.Value.res_main_v9 LastReferenceIdeal.Value.res_main_v1
  rw [h1, h2, h3, h4]
  rfl

/-! ## The propagated rows -/

variable (xs : Fin 776 → Fin 2496 → ℝ) (hx : ∀ n c, (V0 (Proc.devRef .tc main_arg0) (ix2 n c) : EReal) = ((xs n c : ℝ) : EReal))

/-- Column `c` of the rows by graph, then by node. -/
abbrev col (c : Fin 2496) : Fin 1024 → ℝ := fun n => xs (rowOf (swap n)) c

include hx in
theorem v50_apply (n : Fin 1024) (c : Fin 2496) : (res_main_v50 V0 (ix2 n c) : EReal) = ((col xs c n : ℝ) : EReal) := by
  refine Eq.trans ?_ (hx _ c)
  unfold res_main_v50
  pointwise
  exact block_entry (fun r => V0 (Proc.devRef .tc main_arg0) (ix2 r c)) _ (swap n).isLt _

include hfrom hto hx

theorem v54_apply (n : Fin 1024) (c : Fin 2496) : (res_main_v54 V0 (ix2 n c) : EReal) = ((prop1 (W V0) (col xs c) n : ℝ) : EReal) := by
  unfold res_main_v54
  pointwise
  simp only [v43_apply V0 hfrom hto, v50_apply V0 xs hx]
  exact sum_coe_mul _ _

theorem v62_apply (n : Fin 1024) (c : Fin 2496) : (res_main_v62 V0 (ix2 n c) : EReal) = ((prop2 (W V0) (col xs c) n : ℝ) : EReal) := by
  unfold res_main_v62
  pointwise
  simp only [v43_apply V0 hfrom hto, v50_apply V0 xs hx, v54_apply V0 hfrom hto xs hx, two_f32, sum_coe_mul, sum_coe, ← EReal.coe_mul, ← EReal.coe_sub, prop2]

theorem v70_apply (n : Fin 1024) (c : Fin 2496) : (res_main_v70 V0 (ix2 n c) : EReal) = ((prop3 (W V0) (col xs c) n : ℝ) : EReal) := by
  unfold res_main_v70
  pointwise
  simp only [v43_apply V0 hfrom hto, v54_apply V0 hfrom hto xs hx, v62_apply V0 hfrom hto xs hx, two_f32, sum_coe_mul, sum_coe, ← EReal.coe_mul, ← EReal.coe_sub, prop3]

/-- What the reference's result is, as its run states it. -/
def result {F : FTy → Type} [FloatOps F] (V0 : Valuation τ sig (Elt F)) : (Proc.devRef .tc main_v89 : DevRef τ sig).ty.Contents (Elt F) :=
  shapeCast _ (transpose S32x32x256 [1, 0, 2] (shapeCast _ (maximumf (addf (addf (addf (addf (addf (Host.dotGeneral dot_S1024x2496_S2496x256_S1024x256_1_0_0_1_n_n none (res_main_v50 V0) (shapeCast _ (extractStridedSlice S1x2496x256 ![0, 0, 0] (V0 (Proc.devRef .tc main_arg5)) slices_S5x2496x256_S1x2496x256_0_0_0) shapeCasts_S1x2496x256_S2496x256)) (Host.dotGeneral dot_S1024x2496_S2496x256_S1024x256_1_0_0_1_n_n none (res_main_v54 V0) (shapeCast _ (extractStridedSlice S1x2496x256 ![1, 0, 0] (V0 (Proc.devRef .tc main_arg5)) slices_S5x2496x256_S1x2496x256_1_0_0) shapeCasts_S1x2496x256_S2496x256))) (Host.dotGeneral dot_S1024x2496_S2496x256_S1024x256_1_0_0_1_n_n none (res_main_v62 V0) (shapeCast _ (extractStridedSlice S1x2496x256 ![2, 0, 0] (V0 (Proc.devRef .tc main_arg5)) slices_S5x2496x256_S1x2496x256_2_0_0) shapeCasts_S1x2496x256_S2496x256))) (Host.dotGeneral dot_S1024x2496_S2496x256_S1024x256_1_0_0_1_n_n none (res_main_v70 V0) (shapeCast _ (extractStridedSlice S1x2496x256 ![3, 0, 0] (V0 (Proc.devRef .tc main_arg5)) slices_S5x2496x256_S1x2496x256_3_0_0) shapeCasts_S1x2496x256_S2496x256))) (Host.dotGeneral dot_S1024x2496_S2496x256_S1024x256_1_0_0_1_n_n none (subf (mulf (broadcastInDim S1024x2496 ![] bcast_S_S1024x2496 (constant S_ .f32 0x40000000#32)) (Host.dotGeneral dot_S1024x1024_S1024x2496_S1024x2496_1_0_0_1_n_n none (res_main_v43 V0) (res_main_v70 V0))) (res_main_v62 V0)) (shapeCast _ (extractStridedSlice S1x2496x256 ![4, 0, 0] (V0 (Proc.devRef .tc main_arg5)) slices_S5x2496x256_S1x2496x256_4_0_0) shapeCasts_S1x2496x256_S2496x256))) (broadcastInDim S1024x256 ![0, 1] bcast_S1x256_S1024x256_0_1 (broadcastInDim S1x256 ![1] bcast_S256_S1x256_1 (V0 (Proc.devRef .tc main_arg6))))) (broadcastInDim S1024x256 ![] bcast_S_S1024x256 (constant S_ .f32 0x00000000#32))) shapeCasts_S1024x256_S32x32x256) transposes_S32x32x256_S32x32x256_1_0_2) shapeCasts_S32x32x256_S1024x256

variable (ws : Fin 5 → Fin 2496 → Fin 256 → ℝ) (hw : ∀ k c f, (V0 (Proc.devRef .tc main_arg5) (ix3 k c f) : EReal) = ((ws k c f : ℝ) : EReal))

/-- The bias' entries. -/
abbrev bAt (f : Fin 256) : EReal := V0 (Proc.devRef .tc main_arg6) (ix1 f)

include hw in
theorem result_apply (g d : Fin 32) (f : Fin 256) : (result V0 (ix2 (node d g) f) : EReal) =
    max (((∑ c, xs (rowOf (node d g)) c * ws 0 c f
      + ∑ c, (cheb (adj (W V0)) 1 *ᵥ fun s => xs (rowOf (node s g)) c) d * ws 1 c f
      + ∑ c, (cheb (adj (W V0)) 2 *ᵥ fun s => xs (rowOf (node s g)) c) d * ws 2 c f
      + ∑ c, (cheb (adj (W V0)) 3 *ᵥ fun s => xs (rowOf (node s g)) c) d * ws 3 c f
      + ∑ c, (cheb (adj (W V0)) 4 *ᵥ fun s => xs (rowOf (node s g)) c) d * ws 4 c f : ℝ) : EReal) + bAt V0 f) 0 := by
  have h4 : ∀ n c, 2 * ∑ n', lap (W V0) n n' * prop3 (W V0) (col xs c) n' - prop2 (W V0) (col xs c) n = prop4 (W V0) (col xs c) n := fun n c => rfl
  have hn : ∀ h, (⟨(node d g).val % 32 * 32 + (node d g).val / 32, h⟩ : Fin 1024) = node g d := fun h => swap_node d g
  unfold result
  pointwise
  simp only [v43_apply V0 hfrom hto, v50_apply V0 xs hx, v54_apply V0 hfrom hto xs hx, v62_apply V0 hfrom hto xs hx, v70_apply V0 hfrom hto xs hx, hw,
    two_f32, sum_coe_mul, sum_coe, ← EReal.coe_mul, ← EReal.coe_sub, ← EReal.coe_add, h4, hn]
  simp only [prop1_node, prop2_node, prop3_node, prop4_node, col, swap_node]

end Cert.FirstReferenceIdeal.Value

end
-- ==== Proof.FirstInputs.lean ====
/- What the first convolution's precondition says of its arguments. -/
module

public import proofs.«01_k».proof.Pre_connected_and_finite_weights
public import proofs.«01_k».proof.Proof.LastInputs

@[expose] public section

set_option maxRecDepth 16384

noncomputable section

namespace Cert.Pre_connected_and_finite_weights

open Idealize.ShloMosaic Cert.Cheb
open Cert.Pre_connected_and_finite (eq_of_cmpi real_of_lt source_word target_word)

theorem facts : Facts where
  slices_S2x31744_S1x31744_0_0 := by decide
  shapeCasts_S1x31744_S31744 := by decide
  bcast_S_S31744 := by decide
  reducesTo_S31744_S_d0 := by decide
  h_S_ := by decide
  slices_S2x31744_S1x31744_1_0 := by decide
  bcast_S_S776x2496 := by decide
  reducesTo_S776x2496_S_d0_1 := by decide
  bcast_S_S5x2496x256 := by decide
  reducesTo_S5x2496x256_S_d0_1_2 := by decide

variable [Facts] (x0 : FVec Ideal S776x2496 .f32) (x1 : IVec S2x31744 32) (x2 : FVec Ideal S992x1 .f32) (x3 : FVec Ideal S992x248 .f32)
  (x4 : FVec Ideal S248x992 .f32) (x5 : FVec Ideal S5x2496x256 .f32) (x6 : FVec Ideal S256 .f32)
  (h : fn (F := Ideal) x0 x1 x2 x3 x4 x5 x6 = fun _ => 1#1)

include h in
theorem edges_and_finite : (∀ e : Fin 31744, x1 (ix2 0 e) = BitVec.ofNat 32 (src e)) ∧ (∀ e : Fin 31744, x1 (ix2 1 e) = BitVec.ofNat 32 (dst e))
    ∧ (∀ (n : Fin 776) (c : Fin 2496), x0 (ix2 n c) = (((x0 (ix2 n c)).toReal : ℝ) : EReal))
    ∧ ∀ (k : Fin 5) (c : Fin 2496) (f : Fin 256), x5 (ix3 k c f) = (((x5 (ix3 k c f)).toReal : ℝ) : EReal) := by
  have h' := congrFun h ix0
  unfold fn fn_part1 fn_part2 fn_where at h'
  obtain ⟨h123, h4⟩ := IntOp.andi_eq_one.1 h'
  obtain ⟨h12, h3⟩ := IntOp.andi_eq_one.1 h123
  obtain ⟨h1, h2⟩ := IntOp.andi_eq_one.1 h12
  have e1 := fun e => Host.reduce_andi_all _ _ _ _ _ h1 e
  have e2 := fun e => Host.reduce_andi_all _ _ _ _ _ h2 e
  have e3 := fun e => Host.reduce_andi_all _ _ _ _ _ h3 e
  have e4 := fun e => Host.reduce_andi_all _ _ _ _ _ h4 e
  clear h h' h123 h12 h1 h2 h3 h4
  refine ⟨fun e => ?_, fun e => ?_, fun n c => ?_, fun k c f => ?_⟩
  · have := e1 (ix1 e)
    pointwise at this
    exact (eq_of_cmpi this).trans (source_word e)
  · have := e2 (ix1 e)
    simp only [id] at this
    pointwise at this
    exact (eq_of_cmpi this).trans (target_word e)
  · have := e3 (ix2 n c)
    pointwise at this
    exact real_of_lt _ this
  · have := e4 (ix3 k c f)
    pointwise at this
    exact real_of_lt _ this

end Cert.Pre_connected_and_finite_weights

end
-- ==== Proof.FirstEqual.lean ====
/- The first convolution's two programs return equal arrays. -/
module

public import proofs.«01_k».proof.Defs
public import proofs.«01_k».proof.Proof.FirstIdealValue
public import proofs.«01_k».proof.Proof.FirstReferenceValue
public import proofs.«01_k».proof.Proof.FirstInputs

@[expose] public section

set_option maxRecDepth 16384

noncomputable section

namespace Cert.FirstEqual

open Matrix Idealize.ShloMosaic Idealize.ShloMosaic.TcCoe Idealize.SL.Sem Cert.Cheb
open Cert.First (rowOf)
open Cert.LastIdeal.Value (wR adjR adjOf_real dinvOf_real)

/-- Mixing the rows and then multiplying by the weights is multiplying first and mixing the products. -/
theorem mix_product {p : ℕ} (T : Matrix (Fin 32) (Fin 32) ℝ) (X : Fin 32 → Fin p → ℝ) (w : Fin p → ℝ) (d : Fin 32) :
    ∑ c, (T *ᵥ fun s => X s c) d * w c = ∑ s, T d s * ∑ c, X s c * w c := by
  simp only [mulVec, dotProduct, Finset.sum_mul, Finset.mul_sum, mul_assoc]
  exact Finset.sum_comm

variable [Cert.Pre_connected_and_finite_weights.Facts]
variable (m : (ℓ : Loc FirstIdeal.nD FirstIdeal.τ FirstIdeal.sig) → Buf (Elt Ideal) ℓ)
  (V0 : Valuation FirstReferenceIdeal.τ FirstReferenceIdeal.sig (Elt Ideal)) (c : Dev FirstIdeal.nD)

/-- From equal arguments, the edges those of 32 complete graphs, the rows and the weights finite, the kernel's result is the reference's. -/
theorem results_eq
    (hp : Cert.Pre_connected_and_finite_weights.fn (F := Ideal) (m (c.tc.loc FirstIdeal.main_arg0)) (m (c.tc.loc FirstIdeal.main_arg1)) (m (c.tc.loc FirstIdeal.main_arg2)) (m (c.tc.loc FirstIdeal.main_arg3)) (m (c.tc.loc FirstIdeal.main_arg4)) (m (c.tc.loc FirstIdeal.main_arg5)) (m (c.tc.loc FirstIdeal.main_arg6)) = fun _ => 1#1)
    (h0 : V0 (Proc.devRef .tc FirstReferenceIdeal.main_arg0) = m (c.tc.loc FirstIdeal.main_arg0))
    (h1 : V0 (Proc.devRef .tc FirstReferenceIdeal.main_arg1) = m (c.tc.loc FirstIdeal.main_arg1))
    (h2 : V0 (Proc.devRef .tc FirstReferenceIdeal.main_arg2) = m (c.tc.loc FirstIdeal.main_arg2))
    (h3 : V0 (Proc.devRef .tc FirstReferenceIdeal.main_arg3) = m (c.tc.loc FirstIdeal.main_arg3))
    (h4 : V0 (Proc.devRef .tc FirstReferenceIdeal.main_arg4) = m (c.tc.loc FirstIdeal.main_arg4))
    (h5 : V0 (Proc.devRef .tc FirstReferenceIdeal.main_arg5) = m (c.tc.loc FirstIdeal.main_arg5))
    (h6 : V0 (Proc.devRef .tc FirstReferenceIdeal.main_arg6) = m (c.tc.loc FirstIdeal.main_arg6)) :
    FirstReferenceIdeal.Value.result V0 = FirstIdeal.Value.resultOf m c := by
  obtain ⟨hf, ht, hx, hw⟩ := Cert.Pre_connected_and_finite_weights.edges_and_finite _ _ _ _ _ _ _ hp
  have hW : wR (m (c.tc.loc FirstIdeal.main_arg2)) (m (c.tc.loc FirstIdeal.main_arg3)) (m (c.tc.loc FirstIdeal.main_arg4)) = FirstReferenceIdeal.Value.W V0 := by
    unfold FirstReferenceIdeal.Value.W; rw [h2, h3, h4]
  funext i
  obtain ⟨n, f, rfl⟩ : ∃ (n : Fin 1024) (f : Fin 256), ix2 n f = i := ⟨i 0, i 1, by funext a; fin_cases a <;> rfl⟩
  obtain ⟨d, g, rfl⟩ := exists_node n
  refine (FirstReferenceIdeal.Value.result_apply V0 (fun e => (congrFun h1 _).trans (hf e)) (fun e => (congrFun h1 _).trans (ht e))
    _ (fun n k => (congrFun h0 _).trans (hx n k)) _ (fun k c f => (congrFun h5 _).trans (hw k c f)) g d f).trans ?_
  unfold FirstIdeal.Value.resultOf
  refine Eq.trans ?_ (FirstIdeal.Value.firstTerm_apply _ _ _ _ _ (dinv (FirstReferenceIdeal.Value.W V0)) (weightAt (FirstReferenceIdeal.Value.W V0))
    (by rw [← hW]; exact fun i => dinvOf_real _ _ _ i) (by rw [← hW]; exact fun i j => adjOf_real _ _ _ i j)
    _ hx _ hw g d f).symm
  have hb : FirstReferenceIdeal.Value.bAt V0 f = FirstIdeal.Gen.iblk m c 2 FirstIdeal.Value.pt0 (ix2 0 f) :=
    (congrFun h6 (ix1 f)).trans (FirstIdeal.Value.block2 m c f).symm
  refine congrArg₂ (fun (a : ℝ) (b : EReal) => max ((a : EReal) + b) 0) ?_ hb
  rw [Fin.sum_univ_four]
  simp only [mix_product _ (fun s k => _) (fun k => _)]
  rw [← add_assoc, ← add_assoc, ← add_assoc]
  rfl

end Cert.FirstEqual

end
-- ==== Proof.lean ====
module

public import proofs.«01_k».proof.Defs
public import proofs.«01_k».proof.Proof.KernelFrame
public import proofs.«01_k».proof.Proof.KernelIdealFrame
public import proofs.«01_k».proof.Proof.ReferenceFrame
public import proofs.«01_k».proof.Proof.LastFrame
public import proofs.«01_k».proof.Proof.LastIdealFrame
public import proofs.«01_k».proof.Proof.LastReferenceFrame
public import proofs.«01_k».proof.Proof.LastEqual
public import proofs.«01_k».proof.Proof.Gen.First.Frame
public import proofs.«01_k».proof.Proof.Gen.FirstIdeal.Value
public import proofs.«01_k».proof.Proof.FirstReferenceFrame
public import proofs.«01_k».proof.Proof.FirstEqual

@[expose] public section

noncomputable section

namespace Cert.Proof

open Idealize.ShloMosaic Idealize.SL.Sem

theorem frame_kernel : Cert.quiescent_Kernel := fun m ρ _ => Cert.Kernel.Launch.frame_quiescent m ρ
theorem frame_kernelIdeal : Cert.quiescent_KernelIdeal := fun m ρ _ => Cert.KernelIdeal.Launch.frame_quiescent m ρ
theorem frame_referenceIdeal : Cert.quiescent_ReferenceIdeal := fun m ρ _ => Cert.ReferenceIdeal.Launch.frame_quiescent m ρ

theorem frame_last : Cert.quiescent_Last := fun m ρ _ => Cert.Last.Launch.frame_quiescent m ρ
theorem frame_lastIdeal : Cert.quiescent_LastIdeal := fun m ρ _ => Cert.LastIdeal.Launch.frame_quiescent m ρ
theorem frame_lastIdeal_pre [hp : Cert.Pre_connected_and_finite.Facts] : Cert.quiescent_LastIdeal_pre_connected_and_finite := fun m ρ _ => Cert.LastIdeal.Launch.frame_quiescent m ρ
theorem frame_lastReference : Cert.quiescent_LastReferenceIdeal := fun m ρ _ => Cert.LastReferenceIdeal.Launch.frame_quiescent m ρ
theorem frame_lastReference_pre [hp : Cert.Pre_connected_and_finite.Facts] : Cert.quiescent_LastReferenceIdeal_pre_connected_and_finite := fun m ρ _ => Cert.LastReferenceIdeal.Launch.frame_quiescent m ρ

/-- Both programs of the slice return the array the kernel's four blocks make. -/
theorem last_equal [hp : Cert.Pre_connected_and_finite.Facts] : Cert.algebraic_LastIdeal_LastReferenceIdeal_pre_connected_and_finite := fun m ρ m' ρ' hpre hargs =>
  ⟨fun c => Cert.LastIdeal.Launch.resultOf m c Cert.LastIdeal.Launch.pt0,
    θ_run_mono (θ_run_and (Cert.LastIdeal.Launch.value_run m ρ) (Cert.LastIdeal.Launch.frame_quiescent m ρ)) fun _ h c => ⟨h.1 c, h.2.1 c⟩,
    θ_run_mono (Cert.LastReferenceIdeal.Value.run m' ρ') fun _ h c => ⟨(h c).1.trans
      (Cert.LastEqual.results_eq m (Idealize.ShloMosaic.StableHlo.launchContents m' c) c (hpre c) (hargs c).1 (hargs c).2.1 (hargs c).2.2.1 (hargs c).2.2.2.1
        (hargs c).2.2.2.2.1 (hargs c).2.2.2.2.2.1 (hargs c).2.2.2.2.2.2), (h c).2⟩⟩

theorem frame_first : Cert.quiescent_First := fun m ρ _ => Cert.First.Gen.frame m ρ
theorem frame_firstIdeal : Cert.quiescent_FirstIdeal := fun m ρ _ => Cert.FirstIdeal.Gen.frame m ρ
theorem frame_firstIdeal_pre [hp : Cert.Pre_connected_and_finite_weights.Facts] : Cert.quiescent_FirstIdeal_pre_connected_and_finite_weights := fun m ρ _ => Cert.FirstIdeal.Gen.frame m ρ
theorem frame_firstReference : Cert.quiescent_FirstReferenceIdeal := fun m ρ _ => Cert.FirstReferenceIdeal.Launch.frame_quiescent m ρ
theorem frame_firstReference_pre [hp : Cert.Pre_connected_and_finite_weights.Facts] : Cert.quiescent_FirstReferenceIdeal_pre_connected_and_finite_weights := fun m ρ _ => Cert.FirstReferenceIdeal.Launch.frame_quiescent m ρ

/-- Both programs of the first convolution return the array the kernel's body makes. -/
theorem first_equal [hp : Cert.Pre_connected_and_finite_weights.Facts] : Cert.algebraic_FirstIdeal_FirstReferenceIdeal_pre_connected_and_finite_weights := fun m ρ m' ρ' hpre hargs =>
  ⟨fun c => Cert.FirstIdeal.Value.resultOf m c,
    θ_run_mono (θ_run_and (Cert.FirstIdeal.Value.value_run m ρ) (Cert.FirstIdeal.Gen.frame m ρ)) fun _ h c => ⟨h.1 c, h.2.1 c⟩,
    θ_run_mono (Cert.FirstReferenceIdeal.Value.run m' ρ') fun _ h c => ⟨(h c).1.trans
      (Cert.FirstEqual.results_eq m (Idealize.ShloMosaic.StableHlo.launchContents m' c) c (hpre c) (hargs c).1 (hargs c).2.1 (hargs c).2.2.1 (hargs c).2.2.2.1
        (hargs c).2.2.2.2.1 (hargs c).2.2.2.2.2.1 (hargs c).2.2.2.2.2.2), (h c).2⟩⟩

theorem claim : Cert.Claim := ⟨Cert.Kernel.Gen.facts, Cert.KernelIdeal.Gen.facts, Cert.ReferenceIdeal.Gen.facts,
  Cert.Last.Gen.facts, Cert.LastIdeal.Gen.facts, Cert.LastReferenceIdeal.Gen.facts,
  Cert.First.Gen.facts, Cert.FirstIdeal.Gen.facts, Cert.FirstReferenceIdeal.Gen.facts,
  Cert.Pre_connected_and_finite.facts, Cert.Pre_connected_and_finite_weights.facts,
  frame_kernel, frame_kernelIdeal, frame_referenceIdeal, frame_last, frame_lastIdeal,
  frame_lastIdeal_pre (hp := Cert.Pre_connected_and_finite.facts), frame_lastReference,
  frame_lastReference_pre (hp := Cert.Pre_connected_and_finite.facts), frame_first, frame_firstIdeal,
  frame_firstIdeal_pre (hp := Cert.Pre_connected_and_finite_weights.facts), frame_firstReference,
  frame_firstReference_pre (hp := Cert.Pre_connected_and_finite_weights.facts), trivial, trivial,
  last_equal (hp := Cert.Pre_connected_and_finite.facts), trivial,
  first_equal (hp := Cert.Pre_connected_and_finite_weights.facts)⟩

end Cert.Proof

end
